-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "s2" .f32 0x3E0293EE#32 (((11863283 / 134217728) * (Real.log 2)⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_

variable [Facts]

def fn {F : FTy → Type} [FloatOps F] (main_arg0 : FVec F S4x32x8x128 .f32) (main_arg1 : FVec F S4x4096x8x128 .f32) (main_arg2 : FVec F S4x4096x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  main_v8
-- ==== Pre_finite_qk_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_

variable [Facts]

def fn {F : FTy → Type} [FloatOps F] (main_arg0 : FVec F S4x32x8x128 .f32) (main_arg1 : FVec F S4x8192x8x128 .f32) (main_arg2 : FVec F S4x8192x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x8192x8x128 .f32 := Host.absf main_arg1
  let main_cst_0 : FVec F S_ .f32 := constant S_ .f32 0x7F800000#32
  let main_v5 : FVec F S4x8192x8x128 .f32 := broadcastInDim S4x8192x8x128 ![] bcast_S_S4x8192x8x128 main_cst_0
  let main_v6 : IVec S4x8192x8x128 1 := cmpf .olt main_v4 main_v5
  let main_c_1 : IVec S_ 1 := constantI S_ 1 1#1
  let main_v7 : IVec S_ 1 := (fun x v => Host.reduce IntOp.andi x v reducesTo_S4x8192x8x128_S_d0_1_2_3 h_S_) main_v6 main_c_1
  let main_v8 : IVec S_ 1 := andi main_v3 main_v7
  main_v8
-- ==== Kernel.lean ====
abbrev S4x32x8x128 : Shape := ⟨4, ![4, 32, 8, 128]⟩
abbrev S4x4096x8x128 : Shape := ⟨4, ![4, 4096, 8, 128]⟩
abbrev S_ : Shape := ⟨0, ![]⟩
abbrev S1 : Shape := ⟨1, ![1]⟩
abbrev S1x32x8x128 : Shape := ⟨4, ![1, 32, 8, 128]⟩
abbrev S2x8x2048x128 : Shape := ⟨4, ![2, 8, 2048, 128]⟩
abbrev S4x8x32x128 : Shape := ⟨4, ![4, 8, 32, 128]⟩
abbrev S4x2x8x32x1 : Shape := ⟨5, ![4, 2, 8, 32, 1]⟩
abbrev S2x2x8 : Shape := ⟨3, ![2, 2, 8]⟩
abbrev S4x4 : Shape := ⟨2, ![4, 4]⟩
abbrev S8x32x1 : Shape := ⟨3, ![8, 32, 1]⟩
abbrev S1x1x8x32x1 : Shape := ⟨5, ![1, 1, 8, 32, 1]⟩
abbrev S1x1x1 : Shape := ⟨3, ![1, 1, 1]⟩
abbrev S1x1x2048x128 : Shape := ⟨4, ![1, 1, 2048, 128]⟩
abbrev S2048x128 : Shape := ⟨2, ![2048, 128]⟩
abbrev S1x2048x1x128 : Shape := ⟨4, ![1, 2048, 1, 128]⟩
abbrev S32x8x128 : Shape := ⟨3, ![32, 8, 128]⟩
abbrev S32x1x128 : Shape := ⟨3, ![32, 1, 128]⟩
abbrev S32x128 : Shape := ⟨2, ![32, 128]⟩
abbrev S32x2048 : Shape := ⟨2, ![32, 2048]⟩
abbrev S1x1x1x32x1 : Shape := ⟨5, ![1, 1, 1, 32, 1]⟩
abbrev S32x1 : Shape := ⟨2, ![32, 1]⟩
abbrev S32 : Shape := ⟨1, ![32]⟩
abbrev S1x1x32x128 : Shape := ⟨4, ![1, 1, 32, 128]⟩
abbrev S1x8x32x128 : Shape := ⟨4, ![1, 8, 32, 128]⟩
abbrev S8x32x128 : Shape := ⟨3, ![8, 32, 128]⟩
abbrev S1x1 : Shape := ⟨2, ![1, 1]⟩
abbrev S1x2x8x32x1 : Shape := ⟨5, ![1, 2, 8, 32, 1]⟩
abbrev S2x8x32x1 : Shape := ⟨4, ![2, 8, 32, 1]⟩
abbrev S1x32x128 : Shape := ⟨3, ![1, 32, 128]⟩
abbrev S1x32x1x128 : Shape := ⟨4, ![1, 32, 1, 128]⟩

abbrev nBuf : Space → Nat
  | .hbm => 10
  | .vmem => 13
  | .smem => 1
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4x32x8x128, .f32⟩
  | .local _ .vmem, ⟨0, _⟩ => ⟨S1x32x8x128, .f32⟩
  | .local _ .vmem, ⟨1, _⟩ => ⟨S1x32x8x128, .f32⟩
  | .local _ .vmem, ⟨2, _⟩ => ⟨S4x32x8x128, .f32⟩
  | .local _ .vmem, ⟨3, _⟩ => ⟨S2x8x2048x128, .f32⟩
  | .local _ .vmem, ⟨4, _⟩ => ⟨S2x8x2048x128, .f32⟩
  | .local _ .vmem, ⟨5, _⟩ => ⟨S4x8x32x128, .f32⟩
  | .local _ .vmem, ⟨6, _⟩ => ⟨S4x8x32x128, .bf16⟩
  | .local _ .vmem, ⟨7, _⟩ => ⟨S4x8x32x128, .bf16⟩
  | .local _ .vmem, ⟨8, _⟩ => ⟨S4x8x32x128, .bf16⟩
  | .local _ .vmem, ⟨9, _⟩ => ⟨S4x8x32x128, .bf16⟩
  | .local _ .vmem, ⟨10, _⟩ => ⟨S4x2x8x32x1, .f32⟩
  | .local _ .vmem, ⟨11, _⟩ => ⟨S4x2x8x32x1, .f32⟩
  | .local _ .vmem, ⟨12, _⟩ => ⟨S4x2x8x32x1, .f32⟩
  | .local _ .smem, ⟨0, _⟩ => ⟨S1, .i32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨2, ![4, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_5 : BitVec 32 := 0#32
  let v11 : BitVec 1 := Scalar.cmpi .eq arg1 c0_i32_5
  let v12 : BitVec 1 := Scalar.andi v10 v11
  let v13 : BitVec 32 := Scalar.extui v12
  let c0_i32_6 : BitVec 32 := 0#32
  let v14 : BitVec 1 := Scalar.cmpi .ne v13 c0_i32_6
  v14

def k0_dev1 (d2 : Dev nD) : Nat :=
  let c0_i32_415 : BitVec 32 := 0#32
  let c1_i32_3 : BitVec 32 := 1#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let v8 : BitVec 32 := Scalar.subi c1_i32_3 v4
  let c2_i32_414 : BitVec 32 := 2#32
  let v597 : BitVec 32 := Scalar.muli v8 c2_i32_414
  let v598 : BitVec 32 := Scalar.addi c0_i32_415 v597
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let c1_i32_416 : BitVec 32 := 1#32
  let v599 : BitVec 32 := Scalar.muli v7 c1_i32_416
  let v600 : BitVec 32 := Scalar.addi v598 v599
  v600.toNat
def k0_dev2 (d2 : Dev nD) : Nat :=
  let c0_i32_419 : BitVec 32 := 0#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let c2_i32_418 : BitVec 32 := 2#32
  let v601 : BitVec 32 := Scalar.muli v4 c2_i32_418
  let v602 : BitVec 32 := Scalar.addi c0_i32_419 v601
  let c1_i32_4 : BitVec 32 := 1#32
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let v9 : BitVec 32 := Scalar.subi c1_i32_4 v7
  let c1_i32_420 : BitVec 32 := 1#32
  let v603 : BitVec 32 := Scalar.muli v9 c1_i32_420
  let v604 : BitVec 32 := Scalar.addi v602 v603
  v604.toNat
def k0_off1 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_494 : BitVec 32 := 0#32
  let c0_i32_495 : BitVec 32 := 0#32
  ![v646.toNat, 0, 0]
def k0_off2 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_493 : BitVec 32 := 0#32
  let c0_i32_496 : BitVec 32 := 0#32
  let c0_i32_497 : BitVec 32 := 0#32
  ![v646.toNat, 0, 0, 0]
def k0_off3 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c0_i32_492 : BitVec 32 := 0#32
  let c0_i32_498 : BitVec 32 := 0#32
  ![v663.toNat, v677.toNat, 0, 0]

def k0_off4 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_501 : BitVec 32 := 1#32
  let c0_i32_502 : BitVec 32 := 0#32
  ![v646.toNat, 1, 0]
def k0_off5 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_500 : BitVec 32 := 0#32
  let c0_i32_503 : BitVec 32 := 0#32
  let c0_i32_504 : BitVec 32 := 0#32
  ![v646.toNat, 0, 0, 0]
def k0_off6 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_508 : BitVec 32 := 0#32
  let c1_i32_509 : BitVec 32 := 1#32
  ![v646.toNat, 0, 1]
def k0_off7 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_507 : BitVec 32 := 1#32
  let c0_i32_510 : BitVec 32 := 0#32
  let c0_i32_511 : BitVec 32 := 0#32
  ![v646.toNat, 1, 0, 0]
def k0_off8 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c1_i32_506 : BitVec 32 := 1#32
  let c0_i32_512 : BitVec 32 := 0#32
  ![v663.toNat, v677.toNat, 1, 0]
def k0_off9 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_515 : BitVec 32 := 1#32
  let c1_i32_516 : BitVec 32 := 1#32
  ![v646.toNat, 1, 1]
def k0_off10 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_522 : BitVec 32 := 0#32
  let c2_i32_523 : BitVec 32 := 2#32
  ![v646.toNat, 0, 2]
def k0_off11 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c2_i32_521 : BitVec 32 := 2#32
  let c0_i32_524 : BitVec 32 := 0#32
  let c0_i32_525 : BitVec 32 := 0#32
  ![v646.toNat, 2, 0, 0]
def k0_off12 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c2_i32_520 : BitVec 32 := 2#32
  let c0_i32_526 : BitVec 32 := 0#32
  ![v663.toNat, v677.toNat, 2, 0]
def k0_off13 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_529 : BitVec 32 := 1#32
  let c2_i32_530 : BitVec 32 := 2#32
  ![v646.toNat, 1, 2]
def k0_off14 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_536 : BitVec 32 := 0#32
  let c3_i32_537 : BitVec 32 := 3#32
  ![v646.toNat, 0, 3]
def k0_off15 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c3_i32_535 : BitVec 32 := 3#32
  let c0_i32_538 : BitVec 32 := 0#32
  let c0_i32_539 : BitVec 32 := 0#32
  ![v646.toNat, 3, 0, 0]
def k0_off16 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c3_i32_534 : BitVec 32 := 3#32
  let c0_i32_540 : BitVec 32 := 0#32
  ![v663.toNat, v677.toNat, 3, 0]
def k0_off17 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_543 : BitVec 32 := 1#32
  let c3_i32_544 : BitVec 32 := 3#32
  ![v646.toNat, 1, 3]
def k0_off18 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_550 : BitVec 32 := 0#32
  let c4_i32_551 : BitVec 32 := 4#32
  ![v646.toNat, 0, 4]
def k0_off19 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c4_i32_549 : BitVec 32 := 4#32
  let c0_i32_552 : BitVec 32 := 0#32
  let c0_i32_553 : BitVec 32 := 0#32
  ![v646.toNat, 4, 0, 0]
def k0_off20 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c4_i32_548 : BitVec 32 := 4#32
  let c0_i32_554 : BitVec 32 := 0#32
  ![v663.toNat, v677.toNat, 4, 0]
def k0_off21 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_557 : BitVec 32 := 1#32
  let c4_i32_558 : BitVec 32 := 4#32
  ![v646.toNat, 1, 4]
def k0_off22 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_564 : BitVec 32 := 0#32
  let c5_i32_565 : BitVec 32 := 5#32
  ![v646.toNat, 0, 5]
def k0_off23 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c5_i32_563 : BitVec 32 := 5#32
  let c0_i32_566 : BitVec 32 := 0#32
  let c0_i32_567 : BitVec 32 := 0#32
  ![v646.toNat, 5, 0, 0]
def k0_off24 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c5_i32_562 : BitVec 32 := 5#32
  let c0_i32_568 : BitVec 32 := 0#32
  ![v663.toNat, v677.toNat, 5, 0]
def k0_off25 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_571 : BitVec 32 := 1#32
  let c5_i32_572 : BitVec 32 := 5#32
  ![v646.toNat, 1, 5]
def k0_off26 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_578 : BitVec 32 := 0#32
  let c6_i32_579 : BitVec 32 := 6#32
  ![v646.toNat, 0, 6]
def k0_off27 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c6_i32_577 : BitVec 32 := 6#32
  let c0_i32_580 : BitVec 32 := 0#32
  let c0_i32_581 : BitVec 32 := 0#32
  ![v646.toNat, 6, 0, 0]
def k0_off28 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c6_i32_576 : BitVec 32 := 6#32
  let c0_i32_582 : BitVec 32 := 0#32
  ![v663.toNat, v677.toNat, 6, 0]
def k0_off29 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_585 : BitVec 32 := 1#32
  let c6_i32_586 : BitVec 32 := 6#32
  ![v646.toNat, 1, 6]
def k0_off30 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c0_i32_592 : BitVec 32 := 0#32
  let c7_i32_593 : BitVec 32 := 7#32
  ![v646.toNat, 0, 7]
def k0_off31 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c7_i32_591 : BitVec 32 := 7#32
  let c0_i32_594 : BitVec 32 := 0#32
  let c0_i32_595 : BitVec 32 := 0#32
  ![v646.toNat, 7, 0, 0]
def k0_off32 (i : grid0.Coords) (v664 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_477 : BitVec 32 := 0#32
  let v648 : BitVec 1 := Scalar.cmpi .sgt v1 c0_i32_477
  let v649 : BitVec 32 := Scalar.extui v648
  let c0_i32_478 : BitVec 32 := 0#32
  let v650 : BitVec 1 := Scalar.cmpi .slt v1 c0_i32_478
  let v651 : BitVec 32 := Scalar.extui v650
  let v652 : BitVec 32 := Scalar.subi v649 v651
  let c1_i32_476 : BitVec 32 := 1#32
  let c0_i32_479 : BitVec 32 := 0#32
  let v653 : BitVec 1 := Scalar.cmpi .sgt c1_i32_476 c0_i32_479
  let v654 : BitVec 32 := Scalar.extui v653
  let c0_i32_480 : BitVec 32 := 0#32
  let v655 : BitVec 1 := Scalar.cmpi .slt c1_i32_476 c0_i32_480
  let v656 : BitVec 32 := Scalar.extui v655
  let v657 : BitVec 32 := Scalar.subi v654 v656
  let v658 : BitVec 1 := Scalar.cmpi .ne v652 v657
  let v659 : BitVec 32 := Scalar.remsi v1 c1_i32_476
  let c0_i32_481 : BitVec 32 := 0#32
  let v660 : BitVec 1 := Scalar.cmpi .ne v659 c0_i32_481
  let v661 : BitVec 1 := Scalar.andi v658 v660
  let v647 : BitVec 32 := Scalar.divsi v1 c1_i32_476
  let c1_i32_482 : BitVec 32 := 1#32
  let v662 : BitVec 32 := Scalar.subi v647 c1_i32_482
  let v663 : BitVec 32 := Scalar.select v661 v662 v647
  let c2048_i32_484 : BitVec 32 := 2048#32
  let v665 : BitVec 32 := Scalar.muli v664 c2048_i32_484
  let c1_i32_485 : BitVec 32 := 1#32
  let c0_i32_486 : BitVec 32 := 0#32
  let v666 : BitVec 1 := Scalar.cmpi .eq c1_i32_485 c0_i32_486
  let c1_i32_487 : BitVec 32 := 1#32
  let v667 : BitVec 32 := Scalar.select v666 c1_i32_487 c1_i32_485
  let v668 : BitVec 32 := Scalar.remsi v1 v667
  let c0_i32_489 : BitVec 32 := 0#32
  let v670 : BitVec 1 := Scalar.cmpi .slt v668 c0_i32_489
  let c0_i32_490 : BitVec 32 := 0#32
  let v671 : BitVec 1 := Scalar.cmpi .slt v667 c0_i32_490
  let v672 : BitVec 1 := Scalar.xori v670 v671
  let c0_i32_488 : BitVec 32 := 0#32
  let v669 : BitVec 1 := Scalar.cmpi .ne v668 c0_i32_488
  let v673 : BitVec 1 := Scalar.andi v672 v669
  let v674 : BitVec 32 := Scalar.addi v668 v667
  let v675 : BitVec 32 := Scalar.select v673 v674 v668
  let c2048_i32_491 : BitVec 32 := 2048#32
  let v676 : BitVec 32 := Scalar.muli v675 c2048_i32_491
  let v677 : BitVec 32 := Scalar.addi v665 v676
  let c7_i32_590 : BitVec 32 := 7#32
  let c0_i32_596 : BitVec 32 := 0#32
  ![v663.toNat, v677.toNat, 7, 0]

def k0_chk1 (i : grid0.Coords) (v664 : BitVec 32) : Prop :=
  (∀ (k0_h1 : k0_cond1 i = 1#1), ∀ a, (k0_off3 i v664) a + S1x2048x1x128.size a ≤ S4x4096x8x128.size a) ∧
  (∀ (k0_h1 : k0_cond1 i = 1#1), ∀ a, (k0_off8 i v664) a + S1x2048x1x128.size a ≤ S4x4096x8x128.size a) ∧
  (∀ (k0_h1 : k0_cond1 i = 1#1), ∀ a, (k0_off12 i v664) a + S1x2048x1x128.size a ≤ S4x4096x8x128.size a) ∧
  (∀ (k0_h1 : k0_cond1 i = 1#1), ∀ a, (k0_off16 i v664) a + S1x2048x1x128.size a ≤ S4x4096x8x128.size a) ∧
  (∀ (k0_h1 : k0_cond1 i = 1#1), ∀ a, (k0_off20 i v664) a + S1x2048x1x128.size a ≤ S4x4096x8x128.size a) ∧
  (∀ (k0_h1 : k0_cond1 i = 1#1), ∀ a, (k0_off24 i v664) a + S1x2048x1x128.size a ≤ S4x4096x8x128.size a) ∧
  (∀ (k0_h1 : k0_cond1 i = 1#1), ∀ a, (k0_off28 i v664) a + S1x2048x1x128.size a ≤ S4x4096x8x128.size a) ∧
  (∀ (k0_h1 : k0_cond1 i = 1#1), ∀ a, (k0_off32 i v664) a + S1x2048x1x128.size a ≤ S4x4096x8x128.size a)
theorem k0_off3_inb : ∀ (i : grid0.Coords) (v664 : BitVec 32) (k0_hw1 : k0_chk1 i v664), ∀ (k0_h1 : k0_cond1 i = 1#1), ∀ a, (k0_off3 i v664) a + S1x2048x1x128.size a ≤ S4x4096x8x128.size a := fun i v664 k0_hw1 k0_h1 => k0_hw1.1 k0_h1
theorem k0_off8_inb : ∀ (i : grid0.Coords) (v664 : BitVec 32) (k0_hw1 : k0_chk1 i v664), ∀ (k0_h1 : k0_cond1 i = 1#1), ∀ a, (k0_off8 i v664) a + S1x2048x1x128.size a ≤ S4x4096x8x128.size a := fun i v664 k0_hw1 k0_h1 => k0_hw1.2.1 k0_h1
theorem k0_off12_inb : ∀ (i : grid0.Coords) (v664 : BitVec 32) (k0_hw1 : k0_chk1 i v664), ∀ (k0_h1 : k0_cond1 i = 1#1), ∀ a, (k0_off12 i v664) a + S1x2048x1x128.size a ≤ S4x4096x8x128.size a := fun i v664 k0_hw1 k0_h1 => k0_hw1.2.2.1 k0_h1
theorem k0_off16_inb : ∀ (i : grid0.Coords) (v664 : BitVec 32) (k0_hw1 : k0_chk1 i v664), ∀ (k0_h1 : k0_cond1 i = 1#1), ∀ a, (k0_off16 i v664) a + S1x2048x1x128.size a ≤ S4x4096x8x128.size a := fun i v664 k0_hw1 k0_h1 => k0_hw1.2.2.2.1 k0_h1
theorem k0_off20_inb : ∀ (i : grid0.Coords) (v664 : BitVec 32) (k0_hw1 : k0_chk1 i v664), ∀ (k0_h1 : k0_cond1 i = 1#1), ∀ a, (k0_off20 i v664) a + S1x2048x1x128.size a ≤ S4x4096x8x128.size a := fun i v664 k0_hw1 k0_h1 => k0_hw1.2.2.2.2.1 k0_h1
theorem k0_off24_inb : ∀ (i : grid0.Coords) (v664 : BitVec 32) (k0_hw1 : k0_chk1 i v664), ∀ (k0_h1 : k0_cond1 i = 1#1), ∀ a, (k0_off24 i v664) a + S1x2048x1x128.size a ≤ S4x4096x8x128.size a := fun i v664 k0_hw1 k0_h1 => k0_hw1.2.2.2.2.2.1 k0_h1
theorem k0_off28_inb : ∀ (i : grid0.Coords) (v664 : BitVec 32) (k0_hw1 : k0_chk1 i v664), ∀ (k0_h1 : k0_cond1 i = 1#1), ∀ a, (k0_off28 i v664) a + S1x2048x1x128.size a ≤ S4x4096x8x128.size a := fun i v664 k0_hw1 k0_h1 => k0_hw1.2.2.2.2.2.2.1 k0_h1
theorem k0_off32_inb : ∀ (i : grid0.Coords) (v664 : BitVec 32) (k0_hw1 : k0_chk1 i v664), ∀ (k0_h1 : k0_cond1 i = 1#1), ∀ a, (k0_off32 i v664) a + S1x2048x1x128.size a ≤ S4x4096x8x128.size a := fun i v664 k0_hw1 k0_h1 => k0_hw1.2.2.2.2.2.2.2 k0_h1

def k0_off33 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_470 : BitVec 32 := 2#32
  let c0_i32_471 : BitVec 32 := 0#32
  let v637 : BitVec 1 := Scalar.cmpi .eq c2_i32_470 c0_i32_471
  let c1_i32_472 : BitVec 32 := 1#32
  let v638 : BitVec 32 := Scalar.select v637 c1_i32_472 c2_i32_470
  let v639 : BitVec 32 := Scalar.remsi v1 v638
  let c0_i32_474 : BitVec 32 := 0#32
  let v641 : BitVec 1 := Scalar.cmpi .slt v639 c0_i32_474
  let c0_i32_475 : BitVec 32 := 0#32
  let v642 : BitVec 1 := Scalar.cmpi .slt v638 c0_i32_475
  let v643 : BitVec 1 := Scalar.xori v641 v642
  let c0_i32_473 : BitVec 32 := 0#32
  let v640 : BitVec 1 := Scalar.cmpi .ne v639 c0_i32_473
  let v644 : BitVec 1 := Scalar.andi v643 v640
  let v645 : BitVec 32 := Scalar.addi v639 v638
  let v646 : BitVec 32 := Scalar.select v644 v645 v639
  let c1_i32_599 : BitVec 32 := 1#32
  let c7_i32_600 : BitVec 32 := 7#32
  ![v646.toNat, 1, 7]
def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_7 : BitVec 32 := 1#32
  let v15 : BitVec 32 := Scalar.addi v1 c1_i32_7
  let c4_i32 : BitVec 32 := 4#32
  let v16 : BitVec 1 := Scalar.cmpi .slt v15 c4_i32
  let v17 : BitVec 32 := Scalar.extui v16
  let c0_i32_8 : BitVec 32 := 0#32
  let v18 : BitVec 1 := Scalar.cmpi .ne v17 c0_i32_8
  v18

def k0_off34 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_439 : BitVec 32 := 0#32
  let c0_i32_440 : BitVec 32 := 0#32
  ![v607.toNat, 0, 0]
def k0_off35 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_438 : BitVec 32 := 0#32
  let c0_i32_441 : BitVec 32 := 0#32
  let c0_i32_442 : BitVec 32 := 0#32
  ![v607.toNat, 0, 0, 0]
def k0_off36 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c0_i32_437 : BitVec 32 := 0#32
  let c0_i32_443 : BitVec 32 := 0#32
  ![v624.toNat, v638.toNat, 0, 0]

def k0_off37 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_446 : BitVec 32 := 1#32
  let c0_i32_447 : BitVec 32 := 0#32
  ![v607.toNat, 1, 0]
def k0_off38 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_445 : BitVec 32 := 0#32
  let c0_i32_448 : BitVec 32 := 0#32
  let c0_i32_449 : BitVec 32 := 0#32
  ![v607.toNat, 0, 0, 0]
def k0_off39 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_453 : BitVec 32 := 0#32
  let c1_i32_454 : BitVec 32 := 1#32
  ![v607.toNat, 0, 1]
def k0_off40 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_452 : BitVec 32 := 1#32
  let c0_i32_455 : BitVec 32 := 0#32
  let c0_i32_456 : BitVec 32 := 0#32
  ![v607.toNat, 1, 0, 0]
def k0_off41 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c1_i32_451 : BitVec 32 := 1#32
  let c0_i32_457 : BitVec 32 := 0#32
  ![v624.toNat, v638.toNat, 1, 0]
def k0_off42 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_460 : BitVec 32 := 1#32
  let c1_i32_461 : BitVec 32 := 1#32
  ![v607.toNat, 1, 1]
def k0_off43 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_467 : BitVec 32 := 0#32
  let c2_i32_468 : BitVec 32 := 2#32
  ![v607.toNat, 0, 2]
def k0_off44 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c2_i32_466 : BitVec 32 := 2#32
  let c0_i32_469 : BitVec 32 := 0#32
  let c0_i32_470 : BitVec 32 := 0#32
  ![v607.toNat, 2, 0, 0]
def k0_off45 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c2_i32_465 : BitVec 32 := 2#32
  let c0_i32_471 : BitVec 32 := 0#32
  ![v624.toNat, v638.toNat, 2, 0]
def k0_off46 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_474 : BitVec 32 := 1#32
  let c2_i32_475 : BitVec 32 := 2#32
  ![v607.toNat, 1, 2]
def k0_off47 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_481 : BitVec 32 := 0#32
  let c3_i32_482 : BitVec 32 := 3#32
  ![v607.toNat, 0, 3]
def k0_off48 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c3_i32_480 : BitVec 32 := 3#32
  let c0_i32_483 : BitVec 32 := 0#32
  let c0_i32_484 : BitVec 32 := 0#32
  ![v607.toNat, 3, 0, 0]
def k0_off49 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c3_i32_479 : BitVec 32 := 3#32
  let c0_i32_485 : BitVec 32 := 0#32
  ![v624.toNat, v638.toNat, 3, 0]
def k0_off50 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_488 : BitVec 32 := 1#32
  let c3_i32_489 : BitVec 32 := 3#32
  ![v607.toNat, 1, 3]
def k0_off51 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_495 : BitVec 32 := 0#32
  let c4_i32_496 : BitVec 32 := 4#32
  ![v607.toNat, 0, 4]
def k0_off52 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c4_i32_494 : BitVec 32 := 4#32
  let c0_i32_497 : BitVec 32 := 0#32
  let c0_i32_498 : BitVec 32 := 0#32
  ![v607.toNat, 4, 0, 0]
def k0_off53 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c4_i32_493 : BitVec 32 := 4#32
  let c0_i32_499 : BitVec 32 := 0#32
  ![v624.toNat, v638.toNat, 4, 0]
def k0_off54 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_502 : BitVec 32 := 1#32
  let c4_i32_503 : BitVec 32 := 4#32
  ![v607.toNat, 1, 4]
def k0_off55 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_509 : BitVec 32 := 0#32
  let c5_i32_510 : BitVec 32 := 5#32
  ![v607.toNat, 0, 5]
def k0_off56 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c5_i32_508 : BitVec 32 := 5#32
  let c0_i32_511 : BitVec 32 := 0#32
  let c0_i32_512 : BitVec 32 := 0#32
  ![v607.toNat, 5, 0, 0]
def k0_off57 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c5_i32_507 : BitVec 32 := 5#32
  let c0_i32_513 : BitVec 32 := 0#32
  ![v624.toNat, v638.toNat, 5, 0]
def k0_off58 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_516 : BitVec 32 := 1#32
  let c5_i32_517 : BitVec 32 := 5#32
  ![v607.toNat, 1, 5]
def k0_off59 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_523 : BitVec 32 := 0#32
  let c6_i32_524 : BitVec 32 := 6#32
  ![v607.toNat, 0, 6]
def k0_off60 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c6_i32_522 : BitVec 32 := 6#32
  let c0_i32_525 : BitVec 32 := 0#32
  let c0_i32_526 : BitVec 32 := 0#32
  ![v607.toNat, 6, 0, 0]
def k0_off61 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c6_i32_521 : BitVec 32 := 6#32
  let c0_i32_527 : BitVec 32 := 0#32
  ![v624.toNat, v638.toNat, 6, 0]
def k0_off62 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_530 : BitVec 32 := 1#32
  let c6_i32_531 : BitVec 32 := 6#32
  ![v607.toNat, 1, 6]
def k0_off63 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c0_i32_537 : BitVec 32 := 0#32
  let c7_i32_538 : BitVec 32 := 7#32
  ![v607.toNat, 0, 7]
def k0_off64 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c7_i32_536 : BitVec 32 := 7#32
  let c0_i32_539 : BitVec 32 := 0#32
  let c0_i32_540 : BitVec 32 := 0#32
  ![v607.toNat, 7, 0, 0]
def k0_off65 (i : grid0.Coords) (v625 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_413 : BitVec 32 := 1#32
  let v596 : BitVec 32 := Scalar.addi v1 c1_i32_413
  let c0_i32_422 : BitVec 32 := 0#32
  let v609 : BitVec 1 := Scalar.cmpi .sgt v596 c0_i32_422
  let v610 : BitVec 32 := Scalar.extui v609
  let c0_i32_423 : BitVec 32 := 0#32
  let v611 : BitVec 1 := Scalar.cmpi .slt v596 c0_i32_423
  let v612 : BitVec 32 := Scalar.extui v611
  let v613 : BitVec 32 := Scalar.subi v610 v612
  let c1_i32_421 : BitVec 32 := 1#32
  let c0_i32_424 : BitVec 32 := 0#32
  let v614 : BitVec 1 := Scalar.cmpi .sgt c1_i32_421 c0_i32_424
  let v615 : BitVec 32 := Scalar.extui v614
  let c0_i32_425 : BitVec 32 := 0#32
  let v616 : BitVec 1 := Scalar.cmpi .slt c1_i32_421 c0_i32_425
  let v617 : BitVec 32 := Scalar.extui v616
  let v618 : BitVec 32 := Scalar.subi v615 v617
  let v619 : BitVec 1 := Scalar.cmpi .ne v613 v618
  let v620 : BitVec 32 := Scalar.remsi v596 c1_i32_421
  let c0_i32_426 : BitVec 32 := 0#32
  let v621 : BitVec 1 := Scalar.cmpi .ne v620 c0_i32_426
  let v622 : BitVec 1 := Scalar.andi v619 v621
  let v608 : BitVec 32 := Scalar.divsi v596 c1_i32_421
  let c1_i32_427 : BitVec 32 := 1#32
  let v623 : BitVec 32 := Scalar.subi v608 c1_i32_427
  let v624 : BitVec 32 := Scalar.select v622 v623 v608
  let c2048_i32_429 : BitVec 32 := 2048#32
  let v626 : BitVec 32 := Scalar.muli v625 c2048_i32_429
  let c1_i32_430 : BitVec 32 := 1#32
  let c0_i32_431 : BitVec 32 := 0#32
  let v627 : BitVec 1 := Scalar.cmpi .eq c1_i32_430 c0_i32_431
  let c1_i32_432 : BitVec 32 := 1#32
  let v628 : BitVec 32 := Scalar.select v627 c1_i32_432 c1_i32_430
  let v629 : BitVec 32 := Scalar.remsi v596 v628
  let c0_i32_434 : BitVec 32 := 0#32
  let v631 : BitVec 1 := Scalar.cmpi .slt v629 c0_i32_434
  let c0_i32_435 : BitVec 32 := 0#32
  let v632 : BitVec 1 := Scalar.cmpi .slt v628 c0_i32_435
  let v633 : BitVec 1 := Scalar.xori v631 v632
  let c0_i32_433 : BitVec 32 := 0#32
  let v630 : BitVec 1 := Scalar.cmpi .ne v629 c0_i32_433
  let v634 : BitVec 1 := Scalar.andi v633 v630
  let v635 : BitVec 32 := Scalar.addi v629 v628
  let v636 : BitVec 32 := Scalar.select v634 v635 v629
  let c2048_i32_436 : BitVec 32 := 2048#32
  let v637 : BitVec 32 := Scalar.muli v636 c2048_i32_436
  let v638 : BitVec 32 := Scalar.addi v626 v637
  let c7_i32_535 : BitVec 32 := 7#32
  let c0_i32_541 : BitVec 32 := 0#32
  ![v624.toNat, v638.toNat, 7, 0]

def k0_chk2 (i : grid0.Coords) (v625 : BitVec 32) : Prop :=
  (∀ (k0_h2 : k0_cond2 i = 1#1), ∀ a, (k0_off36 i v625) a + S1x2048x1x128.size a ≤ S4x4096x8x128.size a) ∧
  (∀ (k0_h2 : k0_cond2 i = 1#1), ∀ a, (k0_off41 i v625) a + S1x2048x1x128.size a ≤ S4x4096x8x128.size a) ∧
  (∀ (k0_h2 : k0_cond2 i = 1#1), ∀ a, (k0_off45 i v625) a + S1x2048x1x128.size a ≤ S4x4096x8x128.size a) ∧
  (∀ (k0_h2 : k0_cond2 i = 1#1), ∀ a, (k0_off49 i v625) a + S1x2048x1x128.size a ≤ S4x4096x8x128.size a) ∧
  (∀ (k0_h2 : k0_cond2 i = 1#1), ∀ a, (k0_off53 i v625) a + S1x2048x1x128.size a ≤ S4x4096x8x128.size a) ∧
  (∀ (k0_h2 : k0_cond2 i = 1#1), ∀ a, (k0_off57 i v625) a + S1x2048x1x128.size a ≤ S4x4096x8x128.size a) ∧
  (∀ (k0_h2 : k0_cond2 i = 1#1), ∀ a, (k0_off61 i v625) a + S1x2048x1x128.size a ≤ S4x4096x8x128.size a) ∧
  (∀ (k0_h2 : k0_cond2 i = 1#1), ∀ a, (k0_off65 i v625) a + S1x2048x1x128.size a ≤ S4x4096x8x128.size a)
theorem k0_off36_inb : ∀ (i : grid0.Coords) (v625 : BitVec 32) (k0_hw2 : k0_chk2 i v625), ∀ (k0_h2 : k0_cond2 i = 1#1), ∀ a, (k0_off36 i v625) a + S1x2048x1x128.size a ≤ S4x4096x8x128.size a := fun i v625 k0_hw2 k0_h2 => k0_hw2.1 k0_h2
theorem k0_off41_inb : ∀ (i : grid0.Coords) (v625 : BitVec 32) (k0_hw2 : k0_chk2 i v625), ∀ (k0_h2 : k0_cond2 i = 1#1), ∀ a, (k0_off41 i v625) a + S1x2048x1x128.size a ≤ S4x4096x8x128.size a := fun i v625 k0_hw2 k0_h2 => k0_hw2.2.1 k0_h2
theorem k0_off45_inb : ∀ (i : grid0.Coords) (v625 : BitVec 32) (k0_hw2 : k0_chk2 i v625), ∀ (k0_h2 : k0_cond2 i = 1#1), ∀ a, (k0_off45 i v625) a + S1x2048x1x128.size a ≤ S4x4096x8x128.size a := fun i v625 k0_hw2 k0_h2 => k0_hw2.2.2.1 k0_h2
theorem k0_off49_inb : ∀ (i : grid0.Coords) (v625 : BitVec 32) (k0_hw2 : k0_chk2 i v625), ∀ (k0_h2 : k0_cond2 i = 1#1), ∀ a, (k0_off49 i v625) a + S1x2048x1x128.size a ≤ S4x4096x8x128.size a := fun i v625 k0_hw2 k0_h2 => k0_hw2.2.2.2.1 k0_h2
theorem k0_off53_inb : ∀ (i : grid0.Coords) (v625 : BitVec 32) (k0_hw2 : k0_chk2 i v625), ∀ (k0_h2 : k0_cond2 i = 1#1), ∀ a, (k0_off53 i v625) a + S1x2048x1x128.size a ≤ S4x4096x8x128.size a := fun i v625 k0_hw2 k0_h2 => k0_hw2.2.2.2.2.1 k0_h2
theorem k0_off57_inb : ∀ (i : grid0.Coords) (v625 : BitVec 32) (k0_hw2 : k0_chk2 i v625), ∀ (k0_h2 : k0_cond2 i = 1#1), ∀ a, (k0_off57 i v625) a + S1x2048x1x128.size a ≤ S4x4096x8x128.size a := fun i v625 k0_hw2 k0_h2 => k0_hw2.2.2.2.2.2.1 k0_h2
theorem k0_off61_inb : ∀ (i : grid0.Coords) (v625 : BitVec 32) (k0_hw2 : k0_chk2 i v625), ∀ (k0_h2 : k0_cond2 i = 1#1), ∀ a, (k0_off61 i v625) a + S1x2048x1x128.size a ≤ S4x4096x8x128.size a := fun i v625 k0_hw2 k0_h2 => k0_hw2.2.2.2.2.2.2.1 k0_h2
theorem k0_off65_inb : ∀ (i : grid0.Coords) (v625 : BitVec 32) (k0_hw2 : k0_chk2 i v625), ∀ (k0_h2 : k0_cond2 i = 1#1), ∀ a, (k0_off65 i v625) a + S1x2048x1x128.size a ≤ S4x4096x8x128.size a := fun i v625 k0_hw2 k0_h2 => k0_hw2.2.2.2.2.2.2.2 k0_h2

def k0_off66 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_414 : BitVec 32 := 1#32
  let v597 : BitVec 32 := Scalar.addi v1 c1_i32_414
  let c2_i32_415 : BitVec 32 := 2#32
  let c0_i32_416 : BitVec 32 := 0#32
  let v598 : BitVec 1 := Scalar.cmpi .eq c2_i32_415 c0_i32_416
  let c1_i32_417 : BitVec 32 := 1#32
  let v599 : BitVec 32 := Scalar.select v598 c1_i32_417 c2_i32_415
  let v600 : BitVec 32 := Scalar.remsi v597 v599
  let c0_i32_419 : BitVec 32 := 0#32
  let v602 : BitVec 1 := Scalar.cmpi .slt v600 c0_i32_419
  let c0_i32_420 : BitVec 32 := 0#32
  let v603 : BitVec 1 := Scalar.cmpi .slt v599 c0_i32_420
  let v604 : BitVec 1 := Scalar.xori v602 v603
  let c0_i32_418 : BitVec 32 := 0#32
  let v601 : BitVec 1 := Scalar.cmpi .ne v600 c0_i32_418
  let v605 : BitVec 1 := Scalar.andi v604 v601
  let v606 : BitVec 32 := Scalar.addi v600 v599
  let v607 : BitVec 32 := Scalar.select v605 v606 v600
  let c1_i32_544 : BitVec 32 := 1#32
  let c7_i32_545 : BitVec 32 := 7#32
  ![v607.toNat, 1, 7]
def k0_off67 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_35 : BitVec 32 := 0#32
  let c0_i32_36 : BitVec 32 := 0#32
  ![v28.toNat, 0, 0]
def k0_off68 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_34 : BitVec 32 := 0#32
  let c0_i32_37 : BitVec 32 := 0#32
  let c0_i32_38 : BitVec 32 := 0#32
  ![v28.toNat, 0, 0, 0]
def k0_off69 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c0_i32_33 : BitVec 32 := 0#32
  let c0_i32_39 : BitVec 32 := 0#32
  ![v45.toNat, v59.toNat, 0, 0]

def k0_off70 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_42 : BitVec 32 := 1#32
  let c0_i32_43 : BitVec 32 := 0#32
  ![v28.toNat, 1, 0]
def k0_off71 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_41 : BitVec 32 := 0#32
  let c0_i32_44 : BitVec 32 := 0#32
  let c0_i32_45 : BitVec 32 := 0#32
  ![v28.toNat, 0, 0, 0]
def k0_off72 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v77 : Index := Scalar.indexCast v28
  let c0_47 : Index := 0#32
  let c0_48 : Index := 0#32
  let c0_49 : Index := 0#32
  ![v77.toNat, 0, 0, 0]
def k0_off73 (i : grid0.Coords) : Fin 5 → Nat :=
  let arg0 : BitVec 32 := BitVec.ofNat 32 (i 0).val
  let v88 : Index := Scalar.indexCast arg0
  let c0_54 : Index := 0#32
  let c0_55 : Index := 0#32
  let c0_56 : Index := 0#32
  let c0_57 : Index := 0#32
  ![v88.toNat, 0, 0, 0, 0]
def k0_off74 (i : grid0.Coords) : Fin 5 → Nat :=
  let arg0 : BitVec 32 := BitVec.ofNat 32 (i 0).val
  let v91 : Index := Scalar.indexCast arg0
  let c1 : Index := 1#32
  let c0_58 : Index := 0#32
  let c0_59 : Index := 0#32
  let c0_60 : Index := 0#32
  ![v91.toNat, 1, 0, 0, 0]
def k0_off75 (i : grid0.Coords) : Fin 4 → Nat :=
  let arg0 : BitVec 32 := BitVec.ofNat 32 (i 0).val
  let v109 : Index := Scalar.indexCast arg0
  let c0_65 : Index := 0#32
  let c0_66 : Index := 0#32
  let c0_67 : Index := 0#32
  ![v109.toNat, 0, 0, 0]
def k0_off76 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_81 : BitVec 32 := 0#32
  let c1_i32_82 : BitVec 32 := 1#32
  ![v28.toNat, 0, 1]
def k0_off77 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_80 : BitVec 32 := 1#32
  let c0_i32_83 : BitVec 32 := 0#32
  let c0_i32_84 : BitVec 32 := 0#32
  ![v28.toNat, 1, 0, 0]
def k0_off78 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c1_i32_79 : BitVec 32 := 1#32
  let c0_i32_85 : BitVec 32 := 0#32
  ![v45.toNat, v59.toNat, 1, 0]
def k0_off79 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_88 : BitVec 32 := 1#32
  let c1_i32_89 : BitVec 32 := 1#32
  ![v28.toNat, 1, 1]
def k0_off80 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v142 : Index := Scalar.indexCast v28
  let c1_93 : Index := 1#32
  let c0_94 : Index := 0#32
  let c0_95 : Index := 0#32
  ![v142.toNat, 1, 0, 0]
def k0_off81 (i : grid0.Coords) : Fin 5 → Nat :=
  let arg0 : BitVec 32 := BitVec.ofNat 32 (i 0).val
  let v153 : Index := Scalar.indexCast arg0
  let c0_101 : Index := 0#32
  let c1_102 : Index := 1#32
  let c0_103 : Index := 0#32
  let c0_104 : Index := 0#32
  ![v153.toNat, 0, 1, 0, 0]
def k0_off82 (i : grid0.Coords) : Fin 5 → Nat :=
  let arg0 : BitVec 32 := BitVec.ofNat 32 (i 0).val
  let v156 : Index := Scalar.indexCast arg0
  let c1_105 : Index := 1#32
  let c1_106 : Index := 1#32
  let c0_107 : Index := 0#32
  let c0_108 : Index := 0#32
  ![v156.toNat, 1, 1, 0, 0]
def k0_off83 (i : grid0.Coords) : Fin 4 → Nat :=
  let arg0 : BitVec 32 := BitVec.ofNat 32 (i 0).val
  let v174 : Index := Scalar.indexCast arg0
  let c1_113 : Index := 1#32
  let c0_114 : Index := 0#32
  let c0_115 : Index := 0#32
  ![v174.toNat, 1, 0, 0]
def k0_off84 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_129 : BitVec 32 := 0#32
  let c2_i32_130 : BitVec 32 := 2#32
  ![v28.toNat, 0, 2]
def k0_off85 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c2_i32_128 : BitVec 32 := 2#32
  let c0_i32_131 : BitVec 32 := 0#32
  let c0_i32_132 : BitVec 32 := 0#32
  ![v28.toNat, 2, 0, 0]
def k0_off86 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c2_i32_127 : BitVec 32 := 2#32
  let c0_i32_133 : BitVec 32 := 0#32
  ![v45.toNat, v59.toNat, 2, 0]
def k0_off87 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_136 : BitVec 32 := 1#32
  let c2_i32_137 : BitVec 32 := 2#32
  ![v28.toNat, 1, 2]
def k0_off88 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v207 : Index := Scalar.indexCast v28
  let c2 : Index := 2#32
  let c0_141 : Index := 0#32
  let c0_142 : Index := 0#32
  ![v207.toNat, 2, 0, 0]
def k0_off89 (i : grid0.Coords) : Fin 5 → Nat :=
  let arg0 : BitVec 32 := BitVec.ofNat 32 (i 0).val
  let v218 : Index := Scalar.indexCast arg0
  let c0_148 : Index := 0#32
  let c2_149 : Index := 2#32
  let c0_150 : Index := 0#32
  let c0_151 : Index := 0#32
  ![v218.toNat, 0, 2, 0, 0]
def k0_off90 (i : grid0.Coords) : Fin 5 → Nat :=
  let arg0 : BitVec 32 := BitVec.ofNat 32 (i 0).val
  let v221 : Index := Scalar.indexCast arg0
  let c1_152 : Index := 1#32
  let c2_153 : Index := 2#32
  let c0_154 : Index := 0#32
  let c0_155 : Index := 0#32
  ![v221.toNat, 1, 2, 0, 0]
def k0_off91 (i : grid0.Coords) : Fin 4 → Nat :=
  let arg0 : BitVec 32 := BitVec.ofNat 32 (i 0).val
  let v239 : Index := Scalar.indexCast arg0
  let c2_160 : Index := 2#32
  let c0_161 : Index := 0#32
  let c0_162 : Index := 0#32
  ![v239.toNat, 2, 0, 0]
def k0_off92 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_175 : BitVec 32 := 0#32
  let c3_i32_176 : BitVec 32 := 3#32
  ![v28.toNat, 0, 3]
def k0_off93 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c3_i32_174 : BitVec 32 := 3#32
  let c0_i32_177 : BitVec 32 := 0#32
  let c0_i32_178 : BitVec 32 := 0#32
  ![v28.toNat, 3, 0, 0]
def k0_off94 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c3_i32 : BitVec 32 := 3#32
  let c0_i32_179 : BitVec 32 := 0#32
  ![v45.toNat, v59.toNat, 3, 0]
def k0_off95 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_182 : BitVec 32 := 1#32
  let c3_i32_183 : BitVec 32 := 3#32
  ![v28.toNat, 1, 3]
def k0_off96 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v272 : Index := Scalar.indexCast v28
  let c3 : Index := 3#32
  let c0_187 : Index := 0#32
  let c0_188 : Index := 0#32
  ![v272.toNat, 3, 0, 0]
def k0_off97 (i : grid0.Coords) : Fin 5 → Nat :=
  let arg0 : BitVec 32 := BitVec.ofNat 32 (i 0).val
  let v283 : Index := Scalar.indexCast arg0
  let c0_194 : Index := 0#32
  let c3_195 : Index := 3#32
  let c0_196 : Index := 0#32
  let c0_197 : Index := 0#32
  ![v283.toNat, 0, 3, 0, 0]
def k0_off98 (i : grid0.Coords) : Fin 5 → Nat :=
  let arg0 : BitVec 32 := BitVec.ofNat 32 (i 0).val
  let v286 : Index := Scalar.indexCast arg0
  let c1_198 : Index := 1#32
  let c3_199 : Index := 3#32
  let c0_200 : Index := 0#32
  let c0_201 : Index := 0#32
  ![v286.toNat, 1, 3, 0, 0]
def k0_off99 (i : grid0.Coords) : Fin 4 → Nat :=
  let arg0 : BitVec 32 := BitVec.ofNat 32 (i 0).val
  let v304 : Index := Scalar.indexCast arg0
  let c3_206 : Index := 3#32
  let c0_207 : Index := 0#32
  let c0_208 : Index := 0#32
  ![v304.toNat, 3, 0, 0]
def k0_off100 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_222 : BitVec 32 := 0#32
  let c4_i32_223 : BitVec 32 := 4#32
  ![v28.toNat, 0, 4]
def k0_off101 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c4_i32_221 : BitVec 32 := 4#32
  let c0_i32_224 : BitVec 32 := 0#32
  let c0_i32_225 : BitVec 32 := 0#32
  ![v28.toNat, 4, 0, 0]
def k0_off102 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c4_i32_220 : BitVec 32 := 4#32
  let c0_i32_226 : BitVec 32 := 0#32
  ![v45.toNat, v59.toNat, 4, 0]
def k0_off103 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_229 : BitVec 32 := 1#32
  let c4_i32_230 : BitVec 32 := 4#32
  ![v28.toNat, 1, 4]
def k0_off104 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v337 : Index := Scalar.indexCast v28
  let c4 : Index := 4#32
  let c0_234 : Index := 0#32
  let c0_235 : Index := 0#32
  ![v337.toNat, 4, 0, 0]
def k0_off105 (i : grid0.Coords) : Fin 5 → Nat :=
  let arg0 : BitVec 32 := BitVec.ofNat 32 (i 0).val
  let v348 : Index := Scalar.indexCast arg0
  let c0_241 : Index := 0#32
  let c4_242 : Index := 4#32
  let c0_243 : Index := 0#32
  let c0_244 : Index := 0#32
  ![v348.toNat, 0, 4, 0, 0]
def k0_off106 (i : grid0.Coords) : Fin 5 → Nat :=
  let arg0 : BitVec 32 := BitVec.ofNat 32 (i 0).val
  let v351 : Index := Scalar.indexCast arg0
  let c1_245 : Index := 1#32
  let c4_246 : Index := 4#32
  let c0_247 : Index := 0#32
  let c0_248 : Index := 0#32
  ![v351.toNat, 1, 4, 0, 0]
def k0_off107 (i : grid0.Coords) : Fin 4 → Nat :=
  let arg0 : BitVec 32 := BitVec.ofNat 32 (i 0).val
  let v369 : Index := Scalar.indexCast arg0
  let c4_253 : Index := 4#32
  let c0_254 : Index := 0#32
  let c0_255 : Index := 0#32
  ![v369.toNat, 4, 0, 0]
def k0_off108 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_268 : BitVec 32 := 0#32
  let c5_i32_269 : BitVec 32 := 5#32
  ![v28.toNat, 0, 5]
def k0_off109 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c5_i32_267 : BitVec 32 := 5#32
  let c0_i32_270 : BitVec 32 := 0#32
  let c0_i32_271 : BitVec 32 := 0#32
  ![v28.toNat, 5, 0, 0]
def k0_off110 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c5_i32 : BitVec 32 := 5#32
  let c0_i32_272 : BitVec 32 := 0#32
  ![v45.toNat, v59.toNat, 5, 0]
def k0_off111 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_275 : BitVec 32 := 1#32
  let c5_i32_276 : BitVec 32 := 5#32
  ![v28.toNat, 1, 5]
def k0_off112 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v402 : Index := Scalar.indexCast v28
  let c5 : Index := 5#32
  let c0_280 : Index := 0#32
  let c0_281 : Index := 0#32
  ![v402.toNat, 5, 0, 0]
def k0_off113 (i : grid0.Coords) : Fin 5 → Nat :=
  let arg0 : BitVec 32 := BitVec.ofNat 32 (i 0).val
  let v413 : Index := Scalar.indexCast arg0
  let c0_287 : Index := 0#32
  let c5_288 : Index := 5#32
  let c0_289 : Index := 0#32
  let c0_290 : Index := 0#32
  ![v413.toNat, 0, 5, 0, 0]
def k0_off114 (i : grid0.Coords) : Fin 5 → Nat :=
  let arg0 : BitVec 32 := BitVec.ofNat 32 (i 0).val
  let v416 : Index := Scalar.indexCast arg0
  let c1_291 : Index := 1#32
  let c5_292 : Index := 5#32
  let c0_293 : Index := 0#32
  let c0_294 : Index := 0#32
  ![v416.toNat, 1, 5, 0, 0]
def k0_off115 (i : grid0.Coords) : Fin 4 → Nat :=
  let arg0 : BitVec 32 := BitVec.ofNat 32 (i 0).val
  let v434 : Index := Scalar.indexCast arg0
  let c5_299 : Index := 5#32
  let c0_300 : Index := 0#32
  let c0_301 : Index := 0#32
  ![v434.toNat, 5, 0, 0]
def k0_off116 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_314 : BitVec 32 := 0#32
  let c6_i32_315 : BitVec 32 := 6#32
  ![v28.toNat, 0, 6]
def k0_off117 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c6_i32_313 : BitVec 32 := 6#32
  let c0_i32_316 : BitVec 32 := 0#32
  let c0_i32_317 : BitVec 32 := 0#32
  ![v28.toNat, 6, 0, 0]
def k0_off118 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c6_i32 : BitVec 32 := 6#32
  let c0_i32_318 : BitVec 32 := 0#32
  ![v45.toNat, v59.toNat, 6, 0]
def k0_off119 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_321 : BitVec 32 := 1#32
  let c6_i32_322 : BitVec 32 := 6#32
  ![v28.toNat, 1, 6]
def k0_off120 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v467 : Index := Scalar.indexCast v28
  let c6 : Index := 6#32
  let c0_326 : Index := 0#32
  let c0_327 : Index := 0#32
  ![v467.toNat, 6, 0, 0]
def k0_off121 (i : grid0.Coords) : Fin 5 → Nat :=
  let arg0 : BitVec 32 := BitVec.ofNat 32 (i 0).val
  let v478 : Index := Scalar.indexCast arg0
  let c0_333 : Index := 0#32
  let c6_334 : Index := 6#32
  let c0_335 : Index := 0#32
  let c0_336 : Index := 0#32
  ![v478.toNat, 0, 6, 0, 0]
def k0_off122 (i : grid0.Coords) : Fin 5 → Nat :=
  let arg0 : BitVec 32 := BitVec.ofNat 32 (i 0).val
  let v481 : Index := Scalar.indexCast arg0
  let c1_337 : Index := 1#32
  let c6_338 : Index := 6#32
  let c0_339 : Index := 0#32
  let c0_340 : Index := 0#32
  ![v481.toNat, 1, 6, 0, 0]
def k0_off123 (i : grid0.Coords) : Fin 4 → Nat :=
  let arg0 : BitVec 32 := BitVec.ofNat 32 (i 0).val
  let v499 : Index := Scalar.indexCast arg0
  let c6_345 : Index := 6#32
  let c0_346 : Index := 0#32
  let c0_347 : Index := 0#32
  ![v499.toNat, 6, 0, 0]
def k0_off124 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_360 : BitVec 32 := 0#32
  let c7_i32_361 : BitVec 32 := 7#32
  ![v28.toNat, 0, 7]
def k0_off125 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c7_i32_359 : BitVec 32 := 7#32
  let c0_i32_362 : BitVec 32 := 0#32
  let c0_i32_363 : BitVec 32 := 0#32
  ![v28.toNat, 7, 0, 0]
def k0_off126 (i : grid0.Coords) (v46 : BitVec 32) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_16 : BitVec 32 := 0#32
  let v30 : BitVec 1 := Scalar.cmpi .sgt v1 c0_i32_16
  let v31 : BitVec 32 := Scalar.extui v30
  let c0_i32_17 : BitVec 32 := 0#32
  let v32 : BitVec 1 := Scalar.cmpi .slt v1 c0_i32_17
  let v33 : BitVec 32 := Scalar.extui v32
  let v34 : BitVec 32 := Scalar.subi v31 v33
  let c1_i32_15 : BitVec 32 := 1#32
  let c0_i32_18 : BitVec 32 := 0#32
  let v35 : BitVec 1 := Scalar.cmpi .sgt c1_i32_15 c0_i32_18
  let v36 : BitVec 32 := Scalar.extui v35
  let c0_i32_19 : BitVec 32 := 0#32
  let v37 : BitVec 1 := Scalar.cmpi .slt c1_i32_15 c0_i32_19
  let v38 : BitVec 32 := Scalar.extui v37
  let v39 : BitVec 32 := Scalar.subi v36 v38
  let v40 : BitVec 1 := Scalar.cmpi .ne v34 v39
  let v41 : BitVec 32 := Scalar.remsi v1 c1_i32_15
  let c0_i32_20 : BitVec 32 := 0#32
  let v42 : BitVec 1 := Scalar.cmpi .ne v41 c0_i32_20
  let v43 : BitVec 1 := Scalar.andi v40 v42
  let v29 : BitVec 32 := Scalar.divsi v1 c1_i32_15
  let c1_i32_21 : BitVec 32 := 1#32
  let v44 : BitVec 32 := Scalar.subi v29 c1_i32_21
  let v45 : BitVec 32 := Scalar.select v43 v44 v29
  let c2048_i32 : BitVec 32 := 2048#32
  let v47 : BitVec 32 := Scalar.muli v46 c2048_i32
  let c1_i32_22 : BitVec 32 := 1#32
  let c0_i32_23 : BitVec 32 := 0#32
  let v48 : BitVec 1 := Scalar.cmpi .eq c1_i32_22 c0_i32_23
  let c1_i32_24 : BitVec 32 := 1#32
  let v49 : BitVec 32 := Scalar.select v48 c1_i32_24 c1_i32_22
  let v50 : BitVec 32 := Scalar.remsi v1 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2048_i32_28 : BitVec 32 := 2048#32
  let v58 : BitVec 32 := Scalar.muli v57 c2048_i32_28
  let v59 : BitVec 32 := Scalar.addi v47 v58
  let c7_i32 : BitVec 32 := 7#32
  let c0_i32_364 : BitVec 32 := 0#32
  ![v45.toNat, v59.toNat, 7, 0]

def k0_chk3 (i : grid0.Coords) (v46 : BitVec 32) : Prop :=
  (∀ a, (k0_off69 i v46) a + S1x2048x1x128.size a ≤ S4x4096x8x128.size a) ∧
  (∀ a, (k0_off78 i v46) a + S1x2048x1x128.size a ≤ S4x4096x8x128.size a) ∧
  (∀ a, (k0_off86 i v46) a + S1x2048x1x128.size a ≤ S4x4096x8x128.size a) ∧
  (∀ a, (k0_off94 i v46) a + S1x2048x1x128.size a ≤ S4x4096x8x128.size a) ∧
  (∀ a, (k0_off102 i v46) a + S1x2048x1x128.size a ≤ S4x4096x8x128.size a) ∧
  (∀ a, (k0_off110 i v46) a + S1x2048x1x128.size a ≤ S4x4096x8x128.size a) ∧
  (∀ a, (k0_off118 i v46) a + S1x2048x1x128.size a ≤ S4x4096x8x128.size a) ∧
  (∀ a, (k0_off126 i v46) a + S1x2048x1x128.size a ≤ S4x4096x8x128.size a)
theorem k0_off69_inb : ∀ (i : grid0.Coords) (v46 : BitVec 32) (k0_hw3 : k0_chk3 i v46), ∀ a, (k0_off69 i v46) a + S1x2048x1x128.size a ≤ S4x4096x8x128.size a := fun i v46 k0_hw3 => k0_hw3.1
theorem k0_off78_inb : ∀ (i : grid0.Coords) (v46 : BitVec 32) (k0_hw3 : k0_chk3 i v46), ∀ a, (k0_off78 i v46) a + S1x2048x1x128.size a ≤ S4x4096x8x128.size a := fun i v46 k0_hw3 => k0_hw3.2.1
theorem k0_off86_inb : ∀ (i : grid0.Coords) (v46 : BitVec 32) (k0_hw3 : k0_chk3 i v46), ∀ a, (k0_off86 i v46) a + S1x2048x1x128.size a ≤ S4x4096x8x128.size a := fun i v46 k0_hw3 => k0_hw3.2.2.1
theorem k0_off94_inb : ∀ (i : grid0.Coords) (v46 : BitVec 32) (k0_hw3 : k0_chk3 i v46), ∀ a, (k0_off94 i v46) a + S1x2048x1x128.size a ≤ S4x4096x8x128.size a := fun i v46 k0_hw3 => k0_hw3.2.2.2.1
theorem k0_off102_inb : ∀ (i : grid0.Coords) (v46 : BitVec 32) (k0_hw3 : k0_chk3 i v46), ∀ a, (k0_off102 i v46) a + S1x2048x1x128.size a ≤ S4x4096x8x128.size a := fun i v46 k0_hw3 => k0_hw3.2.2.2.2.1
theorem k0_off110_inb : ∀ (i : grid0.Coords) (v46 : BitVec 32) (k0_hw3 : k0_chk3 i v46), ∀ a, (k0_off110 i v46) a + S1x2048x1x128.size a ≤ S4x4096x8x128.size a := fun i v46 k0_hw3 => k0_hw3.2.2.2.2.2.1
theorem k0_off118_inb : ∀ (i : grid0.Coords) (v46 : BitVec 32) (k0_hw3 : k0_chk3 i v46), ∀ a, (k0_off118 i v46) a + S1x2048x1x128.size a ≤ S4x4096x8x128.size a := fun i v46 k0_hw3 => k0_hw3.2.2.2.2.2.2.1
theorem k0_off126_inb : ∀ (i : grid0.Coords) (v46 : BitVec 32) (k0_hw3 : k0_chk3 i v46), ∀ a, (k0_off126 i v46) a + S1x2048x1x128.size a ≤ S4x4096x8x128.size a := fun i v46 k0_hw3 => k0_hw3.2.2.2.2.2.2.2

def k0_off127 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_367 : BitVec 32 := 1#32
  let c7_i32_368 : BitVec 32 := 7#32
  ![v28.toNat, 1, 7]
def k0_off128 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi v1 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v532 : Index := Scalar.indexCast v28
  let c7 : Index := 7#32
  let c0_372 : Index := 0#32
  let c0_373 : Index := 0#32
  ![v532.toNat, 7, 0, 0]
def k0_off129 (i : grid0.Coords) : Fin 5 → Nat :=
  let arg0 : BitVec 32 := BitVec.ofNat 32 (i 0).val
  let v543 : Index := Scalar.indexCast arg0
  let c0_379 : Index := 0#32
  let c7_380 : Index := 7#32
  let c0_381 : Index := 0#32
  let c0_382 : Index := 0#32
  ![v543.toNat, 0, 7, 0, 0]
def k0_off130 (i : grid0.Coords) : Fin 5 → Nat :=
  let arg0 : BitVec 32 := BitVec.ofNat 32 (i 0).val
  let v546 : Index := Scalar.indexCast arg0
  let c1_383 : Index := 1#32
  let c7_384 : Index := 7#32
  let c0_385 : Index := 0#32
  let c0_386 : Index := 0#32
  ![v546.toNat, 1, 7, 0, 0]
def k0_off131 (i : grid0.Coords) : Fin 4 → Nat :=
  let arg0 : BitVec 32 := BitVec.ofNat 32 (i 0).val
  let v564 : Index := Scalar.indexCast arg0
  let c7_391 : Index := 7#32
  let c0_392 : Index := 0#32
  let c0_393 : Index := 0#32
  ![v564.toNat, 7, 0, 0]
def k0_cond3 (i : grid0.Coords) : BitVec 1 :=
  let arg1 : BitVec 32 := BitVec.ofNat 32 (i 1).val
  let c0_i32_407 : BitVec 32 := 0#32
  let v586 : BitVec 1 := Scalar.cmpi .eq arg1 c0_i32_407
  let v587 : BitVec 32 := Scalar.extui v586
  let c0_i32_408 : BitVec 32 := 0#32
  let v588 : BitVec 1 := Scalar.cmpi .ne v587 c0_i32_408
  v588

def k0_off132 (i : grid0.Coords) : Fin 4 → Nat :=
  let arg0 : BitVec 32 := BitVec.ofNat 32 (i 0).val
  let v596 : Index := Scalar.indexCast arg0
  let c0_413 : Index := 0#32
  let c0_414 : Index := 0#32
  let c0_415 : Index := 0#32
  ![v596.toNat, 0, 0, 0]
def k0_off133 (i : grid0.Coords) : Fin 2 → Nat :=
  let c0_i32_420 : BitVec 32 := 0#32
  let arg0 : BitVec 32 := BitVec.ofNat 32 (i 0).val
  ![0, arg0.toNat]
def k0_off134 (i : grid0.Coords) : Fin 4 → Nat :=
  let arg0 : BitVec 32 := BitVec.ofNat 32 (i 0).val
  let c0_i32_424 : BitVec 32 := 0#32
  let c0_i32_425 : BitVec 32 := 0#32
  let c0_i32_426 : BitVec 32 := 0#32
  ![arg0.toNat, 0, 0, 0]
def k0_dev3 (d2 : Dev nD) : Nat :=
  let c0_i32_422 : BitVec 32 := 0#32
  let c1_i32_3 : BitVec 32 := 1#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let v8 : BitVec 32 := Scalar.subi c1_i32_3 v4
  let c2_i32_421 : BitVec 32 := 2#32
  let v604 : BitVec 32 := Scalar.muli v8 c2_i32_421
  let v605 : BitVec 32 := Scalar.addi c0_i32_422 v604
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let c1_i32_423 : BitVec 32 := 1#32
  let v606 : BitVec 32 := Scalar.muli v7 c1_i32_423
  let v607 : BitVec 32 := Scalar.addi v605 v606
  v607.toNat
def k0_off135 (i : grid0.Coords) : Fin 2 → Nat :=
  let c1_i32_431 : BitVec 32 := 1#32
  let arg0 : BitVec 32 := BitVec.ofNat 32 (i 0).val
  ![1, arg0.toNat]
def k0_off136 (i : grid0.Coords) : Fin 5 → Nat :=
  let arg0 : BitVec 32 := BitVec.ofNat 32 (i 0).val
  let c0_i32_435 : BitVec 32 := 0#32
  let c0_i32_436 : BitVec 32 := 0#32
  let c0_i32_437 : BitVec 32 := 0#32
  let c0_i32_438 : BitVec 32 := 0#32
  ![arg0.toNat, 0, 0, 0, 0]
def k0_dev4 (d2 : Dev nD) : Nat :=
  let c0_i32_433 : BitVec 32 := 0#32
  let c1_i32_3 : BitVec 32 := 1#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let v8 : BitVec 32 := Scalar.subi c1_i32_3 v4
  let c2_i32_432 : BitVec 32 := 2#32
  let v616 : BitVec 32 := Scalar.muli v8 c2_i32_432
  let v617 : BitVec 32 := Scalar.addi c0_i32_433 v616
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let c1_i32_434 : BitVec 32 := 1#32
  let v618 : BitVec 32 := Scalar.muli v7 c1_i32_434
  let v619 : BitVec 32 := Scalar.addi v617 v618
  v619.toNat
def k0_cond4 (i : grid0.Coords) : BitVec 1 :=
  let arg1 : BitVec 32 := BitVec.ofNat 32 (i 1).val
  let c0_i32_409 : BitVec 32 := 0#32
  let v589 : BitVec 1 := Scalar.cmpi .eq arg1 c0_i32_409
  let arg0 : BitVec 32 := BitVec.ofNat 32 (i 0).val
  let c0_i32_410 : BitVec 32 := 0#32
  let v590 : BitVec 1 := Scalar.cmpi .sgt arg0 c0_i32_410
  let v591 : BitVec 1 := Scalar.andi v589 v590
  let v592 : BitVec 32 := Scalar.extui v591
  let c0_i32_411 : BitVec 32 := 0#32
  let v593 : BitVec 1 := Scalar.cmpi .ne v592 c0_i32_411
  v593

def k0_off137 (i : grid0.Coords) : Fin 2 → Nat :=
  let c0_i32_414 : BitVec 32 := 0#32
  let arg0 : BitVec 32 := BitVec.ofNat 32 (i 0).val
  let c1_i32_413 : BitVec 32 := 1#32
  let v596 : BitVec 32 := Scalar.subi arg0 c1_i32_413
  ![0, v596.toNat]
def k0_off138 (i : grid0.Coords) : Fin 4 → Nat :=
  let arg0 : BitVec 32 := BitVec.ofNat 32 (i 0).val
  let c1_i32_413 : BitVec 32 := 1#32
  let v596 : BitVec 32 := Scalar.subi arg0 c1_i32_413
  let c0_i32_417 : BitVec 32 := 0#32
  let c0_i32_418 : BitVec 32 := 0#32
  let c0_i32_419 : BitVec 32 := 0#32
  ![v596.toNat, 0, 0, 0]
def k0_off139 (i : grid0.Coords) : Fin 2 → Nat :=
  let c1_i32_434 : BitVec 32 := 1#32
  let arg0 : BitVec 32 := BitVec.ofNat 32 (i 0).val
  let c1_i32_413 : BitVec 32 := 1#32
  let v596 : BitVec 32 := Scalar.subi arg0 c1_i32_413
  ![1, v596.toNat]
def k0_off140 (i : grid0.Coords) : Fin 5 → Nat :=
  let arg0 : BitVec 32 := BitVec.ofNat 32 (i 0).val
  let c1_i32_413 : BitVec 32 := 1#32
  let v596 : BitVec 32 := Scalar.subi arg0 c1_i32_413
  let c0_i32_437 : BitVec 32 := 0#32
  let c0_i32_438 : BitVec 32 := 0#32
  let c0_i32_439 : BitVec 32 := 0#32
  let c0_i32_440 : BitVec 32 := 0#32
  ![v596.toNat, 0, 0, 0, 0]
def k0_off141 (i : grid0.Coords) : Fin 5 → Nat :=
  let arg0 : BitVec 32 := BitVec.ofNat 32 (i 0).val
  let c1_i32_413 : BitVec 32 := 1#32
  let v596 : BitVec 32 := Scalar.subi arg0 c1_i32_413
  let v629 : Index := Scalar.indexCast v596
  let c0_458 : Index := 0#32
  let c0_459 : Index := 0#32
  let c0_460 : Index := 0#32
  let c0_461 : Index := 0#32
  ![v629.toNat, 0, 0, 0, 0]
def k0_off142 (i : grid0.Coords) : Fin 5 → Nat :=
  let arg0 : BitVec 32 := BitVec.ofNat 32 (i 0).val
  let c1_i32_413 : BitVec 32 := 1#32
  let v596 : BitVec 32 := Scalar.subi arg0 c1_i32_413
  let v632 : Index := Scalar.indexCast v596
  let c1_462 : Index := 1#32
  let c0_463 : Index := 0#32
  let c0_464 : Index := 0#32
  let c0_465 : Index := 0#32
  ![v632.toNat, 1, 0, 0, 0]
def k0_off143 (i : grid0.Coords) : Fin 4 → Nat :=
  let arg0 : BitVec 32 := BitVec.ofNat 32 (i 0).val
  let c1_i32_413 : BitVec 32 := 1#32
  let v596 : BitVec 32 := Scalar.subi arg0 c1_i32_413
  let v657 : Index := Scalar.indexCast v596
  let c0_482 : Index := 0#32
  let c0_483 : Index := 0#32
  let c0_484 : Index := 0#32
  ![v657.toNat, 0, 0, 0]
def k0_off144 (i : grid0.Coords) : Fin 2 → Nat :=
  let c2_i32_498 : BitVec 32 := 2#32
  let arg0 : BitVec 32 := BitVec.ofNat 32 (i 0).val
  let c1_i32_413 : BitVec 32 := 1#32
  let v596 : BitVec 32 := Scalar.subi arg0 c1_i32_413
  ![2, v596.toNat]
def k0_dev5 (d2 : Dev nD) : Nat :=
  let c0_i32_500 : BitVec 32 := 0#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let c2_i32_499 : BitVec 32 := 2#32
  let v681 : BitVec 32 := Scalar.muli v4 c2_i32_499
  let v682 : BitVec 32 := Scalar.addi c0_i32_500 v681
  let c1_i32_4 : BitVec 32 := 1#32
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let v9 : BitVec 32 := Scalar.subi c1_i32_4 v7
  let c1_i32_501 : BitVec 32 := 1#32
  let v683 : BitVec 32 := Scalar.muli v9 c1_i32_501
  let v684 : BitVec 32 := Scalar.addi v682 v683
  v684.toNat
def k0_off145 (i : grid0.Coords) : Fin 2 → Nat :=
  let c3_i32_509 : BitVec 32 := 3#32
  let arg0 : BitVec 32 := BitVec.ofNat 32 (i 0).val
  let c1_i32_413 : BitVec 32 := 1#32
  let v596 : BitVec 32 := Scalar.subi arg0 c1_i32_413
  ![3, v596.toNat]
def k0_dev6 (d2 : Dev nD) : Nat :=
  let c0_i32_511 : BitVec 32 := 0#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let c2_i32_510 : BitVec 32 := 2#32
  let v693 : BitVec 32 := Scalar.muli v4 c2_i32_510
  let v694 : BitVec 32 := Scalar.addi c0_i32_511 v693
  let c1_i32_4 : BitVec 32 := 1#32
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let v9 : BitVec 32 := Scalar.subi c1_i32_4 v7
  let c1_i32_512 : BitVec 32 := 1#32
  let v695 : BitVec 32 := Scalar.muli v9 c1_i32_512
  let v696 : BitVec 32 := Scalar.addi v694 v695
  v696.toNat
def k0_cond5 (i : grid0.Coords) : BitVec 1 :=
  let arg0 : BitVec 32 := BitVec.ofNat 32 (i 0).val
  let c3_i32_405 : BitVec 32 := 3#32
  let v583 : BitVec 1 := Scalar.cmpi .eq arg0 c3_i32_405
  let arg1 : BitVec 32 := BitVec.ofNat 32 (i 1).val
  let c0_i32_406 : BitVec 32 := 0#32
  let v584 : BitVec 1 := Scalar.cmpi .eq arg1 c0_i32_406
  let v585 : BitVec 1 := Scalar.andi v583 v584
  let v594 : BitVec 32 := Scalar.extui v585
  let c0_i32_412 : BitVec 32 := 0#32
  let v595 : BitVec 1 := Scalar.cmpi .ne v594 c0_i32_412
  v595

def k0_dev7 (d2 : Dev nD) : Nat :=
  let c0_i32_530 : BitVec 32 := 0#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let c2_i32_529 : BitVec 32 := 2#32
  let v669 : BitVec 32 := Scalar.muli v4 c2_i32_529
  let v670 : BitVec 32 := Scalar.addi c0_i32_530 v669
  let c1_i32_4 : BitVec 32 := 1#32
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let v9 : BitVec 32 := Scalar.subi c1_i32_4 v7
  let c1_i32_531 : BitVec 32 := 1#32
  let v671 : BitVec 32 := Scalar.muli v9 c1_i32_531
  let v672 : BitVec 32 := Scalar.addi v670 v671
  v672.toNat
def k0_dev8 (d2 : Dev nD) : Nat :=
  let c0_i32_545 : BitVec 32 := 0#32
  let v2 : BitVec 32 := Dev.word d2
  let c2_i32_0 : BitVec 32 := 2#32
  let v3 : BitVec 32 := Scalar.divsi v2 c2_i32_0
  let c2_i32 : BitVec 32 := 2#32
  let v4 : BitVec 32 := Scalar.remsi v3 c2_i32
  let c2_i32_544 : BitVec 32 := 2#32
  let v681 : BitVec 32 := Scalar.muli v4 c2_i32_544
  let v682 : BitVec 32 := Scalar.addi c0_i32_545 v681
  let c1_i32_4 : BitVec 32 := 1#32
  let v5 : BitVec 32 := Dev.word d2
  let c1_i32_2 : BitVec 32 := 1#32
  let v6 : BitVec 32 := Scalar.divsi v5 c1_i32_2
  let c2_i32_1 : BitVec 32 := 2#32
  let v7 : BitVec 32 := Scalar.remsi v6 c2_i32_1
  let v9 : BitVec 32 := Scalar.subi c1_i32_4 v7
  let c1_i32_546 : BitVec 32 := 1#32
  let v683 : BitVec 32 := Scalar.muli v9 c1_i32_546
  let v684 : BitVec 32 := Scalar.addi v682 v683
  v684.toNat
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== KernelIdeal.lean ====
variable {F : FTy → Type} [FloatOps F] [Named F]
def κ : String → Option EReal := fun
  | "s2" => some (((11863283 / 134217728) * (Real.log 2)⁻¹ : ℝ) : EReal)
  | _ => none
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S4x8x32x8192, .f32⟩
  | .hbm, ⟨6, _⟩ => ⟨S4x8x32x8192, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x8192, .f32⟩
  | .hbm, ⟨11, _⟩ => ⟨S4x8x32x8192, .f32⟩
  | .hbm, ⟨12, _⟩ => ⟨S4x8x32x8192, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x8192, .f32⟩
  | .hbm, ⟨17, _⟩ => ⟨S4x8x32x8192, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/- The kernel's body restated, one grid point at a time, as a straight line of a few repeated pieces:
   the barrier with the two neighbours and the first contents of the running maxima and sums; the start
   of one head's two copies; one head's step; the first exchange's sends; the first exchange's merge with
   the second exchange's sends; the second exchange's waits; the final merge. Each piece is generic in
   the batch, the ring slot and the head; that the body at each of the four points is the line of its
   pieces is checked by unfolding. -/
module

public import proofs.«01_k».proof.Proof.Gen.KernelIdeal.Skeleton
public import proofs.«01_k».proof.Proof.Gen.KernelIdeal.Launch

@[expose] public section

noncomputable section

namespace Cert.KernelIdeal.Body

open Idealize.ShloMosaic Idealize.ShloMosaic.TcCoe Idealize.SL.Sem Cert.KernelIdeal.Gen

variable {F : FTy → Type} [FloatOps F] [Named F]

/-- Programs of the kernel's own level. -/
abbrev Prg (F : FTy → Type) (α : Type) := Prog (TpuEff nD τ sig (Elt F) Λ₀ .tc) α

/-! ## The buffers -/

abbrev mKB : Memref sig .tc .vmem S2x8x2048x128 .f32 := Memref.whole cc0_scratch0
abbrev mVB : Memref sig .tc .vmem S2x8x2048x128 .f32 := Memref.whole cc0_scratch1
abbrev mOun : Memref sig .tc .vmem S4x8x32x128 .f32 := Memref.whole cc0_scratch2
abbrev mOxs : Memref sig .tc .vmem S4x8x32x128 .bf16 := Memref.whole cc0_scratch3
abbrev mOxs2 : Memref sig .tc .vmem S4x8x32x128 .bf16 := Memref.whole cc0_scratch4
abbrev mOr1 : Memref sig .tc .vmem S4x8x32x128 .bf16 := Memref.whole cc0_scratch5
abbrev mOr2 : Memref sig .tc .vmem S4x8x32x128 .bf16 := Memref.whole cc0_scratch6
abbrev mMl : Memref sig .tc .vmem S4x2x8x32x1 .f32 := Memref.whole cc0_scratch7
abbrev mMl1 : Memref sig .tc .vmem S4x2x8x32x1 .f32 := Memref.whole cc0_scratch8
abbrev mMl2 : Memref sig .tc .vmem S4x2x8x32x1 .f32 := Memref.whole cc0_scratch9
abbrev mK : Memref sig .tc .hbm S4x4096x8x128 .f32 := Memref.whole main_arg1
abbrev mV : Memref sig .tc .hbm S4x4096x8x128 .f32 := Memref.whole main_arg2
abbrev mTab : Memref sig .tc .smem S1 .i32 := Memref.whole main_v5

/-! ## The rectangles -/

theorem inbKB (s : Fin 2) (h : Fin 8) : ∀ a, (![s.val, h.val, 0, 0] : Fin 4 → Nat) a + S1x1x2048x128.size a ≤ S2x8x2048x128.size a := by
  revert s h; decide
theorem inbSem (k : Fin 2) (s : Fin 2) (h : Fin 8) : ∀ a, (![k.val, s.val, h.val] : Fin 3 → Nat) a + S1x1x1.size a ≤ S2x2x8.size a := by
  revert k s h; decide
theorem inbX (k b : Fin 4) : ∀ a, (![k.val, b.val] : Fin 2 → Nat) a + S1x1.size a ≤ S4x4.size a := by
  revert k b; decide
theorem inbO1 (b : Fin 4) (h : Fin 8) : ∀ a, (![b.val, h.val, 0, 0] : Fin 4 → Nat) a + S1x1x32x128.size a ≤ S4x8x32x128.size a := by
  revert b h; decide
theorem inbO (b : Fin 4) : ∀ a, (![b.val, 0, 0, 0] : Fin 4 → Nat) a + S1x8x32x128.size a ≤ S4x8x32x128.size a := by
  revert b; decide
theorem inbM1 (b : Fin 4) (j : Fin 2) (h : Fin 8) : ∀ a, (![b.val, j.val, h.val, 0, 0] : Fin 5 → Nat) a + S1x1x1x32x1.size a ≤ S4x2x8x32x1.size a := by
  revert b j h; decide
theorem inbM8 (b : Fin 4) (j : Fin 2) : ∀ a, (![b.val, j.val, 0, 0, 0] : Fin 5 → Nat) a + S1x1x8x32x1.size a ≤ S4x2x8x32x1.size a := by
  revert b j; decide
theorem inbM (b : Fin 4) : ∀ a, (![b.val, 0, 0, 0, 0] : Fin 5 → Nat) a + S1x2x8x32x1.size a ≤ S4x2x8x32x1.size a := by
  revert b; decide
theorem inbR (b : Fin 4) (h : Fin 8) : ∀ a, (![b.val, 0, h.val, 0] : Fin 4 → Nat) a + S1x32x1x128.size a ≤ S4x32x8x128.size a := by
  revert b h; decide

abbrev rKB (s : Fin 2) (h : Fin 8) : Rect S2x8x2048x128 := Rect.unit (s := S2x8x2048x128) ![s.val, h.val, 0, 0] S1x1x2048x128.size (inbKB s h)
abbrev rO1 (b : Fin 4) (h : Fin 8) : Rect S4x8x32x128 := Rect.unit (s := S4x8x32x128) ![b.val, h.val, 0, 0] S1x1x32x128.size (inbO1 b h)
abbrev rO (b : Fin 4) : Rect S4x8x32x128 := Rect.unit (s := S4x8x32x128) ![b.val, 0, 0, 0] S1x8x32x128.size (inbO b)
abbrev rM1 (b : Fin 4) (j : Fin 2) (h : Fin 8) : Rect S4x2x8x32x1 := Rect.unit (s := S4x2x8x32x1) ![b.val, j.val, h.val, 0, 0] S1x1x1x32x1.size (inbM1 b j h)
abbrev rM8 (b : Fin 4) (j : Fin 2) : Rect S4x2x8x32x1 := Rect.unit (s := S4x2x8x32x1) ![b.val, j.val, 0, 0, 0] S1x1x8x32x1.size (inbM8 b j)
abbrev rM (b : Fin 4) : Rect S4x2x8x32x1 := Rect.unit (s := S4x2x8x32x1) ![b.val, 0, 0, 0, 0] S1x2x8x32x1.size (inbM b)
abbrev rR (b : Fin 4) (h : Fin 8) : Rect S4x32x8x128 := Rect.unit (s := S4x32x8x128) ![b.val, 0, h.val, 0] S1x32x1x128.size (inbR b h)

/-- The first row of the device's half of its keys, as the table's word gives it. -/
abbrev row (v : BitVec 32) : Nat := (Scalar.addi (Scalar.muli v 2048#32) 0#32).toNat
/-- The half lies inside the block. -/
abbrev RowOk (v : BitVec 32) : Prop := row v + 2048 ≤ 4096

theorem inbSrc (b : Fin 4) (h : Fin 8) (v : BitVec 32) (hv : RowOk v) :
    ∀ a, (![b.val, row v, h.val, 0] : Fin 4 → Nat) a + S1x2048x1x128.size a ≤ S4x4096x8x128.size a := by
  intro a; fin_cases a
  · have := b.isLt; show b.val + 1 ≤ 4; omega
  · exact hv
  · have := h.isLt; show h.val + 1 ≤ 8; omega
  · show 0 + 128 ≤ 128; omega

abbrev rSrc (b : Fin 4) (h : Fin 8) (v : BitVec 32) (hv : RowOk v) : Rect S4x4096x8x128 :=
  Rect.unit (s := S4x4096x8x128) ![b.val, row v, h.val, 0] S1x2048x1x128.size (inbSrc b h v hv)

/-! ## The slices copied -/

abbrev kSl (s : Fin 2) (h : Fin 8) : Memref sig .tc .vmem S2048x128 .f32 :=
  (mKB.slice (rKB s h) (fun _ => rfl)).squeeze S2048x128 squeezes_S1x1x2048x128_S2048x128
abbrev vSl (s : Fin 2) (h : Fin 8) : Memref sig .tc .vmem S2048x128 .f32 :=
  (mVB.slice (rKB s h) (fun _ => rfl)).squeeze S2048x128 squeezes_S1x1x2048x128_S2048x128
abbrev kSrc (b : Fin 4) (h : Fin 8) (v : BitVec 32) (hv : RowOk v) : Memref sig .tc .hbm S2048x128 .f32 :=
  (mK.slice (rSrc b h v hv) (fun _ => rfl)).squeeze S2048x128 squeezes_S1x2048x1x128_S2048x128
abbrev vSrc (b : Fin 4) (h : Fin 8) (v : BitVec 32) (hv : RowOk v) : Memref sig .tc .hbm S2048x128 .f32 :=
  (mV.slice (rSrc b h v hv) (fun _ => rfl)).squeeze S2048x128 squeezes_S1x2048x1x128_S2048x128
abbrev oSl (m : Memref sig .tc .vmem S4x8x32x128 .bf16) (b : Fin 4) : Memref sig .tc .vmem S8x32x128 .bf16 :=
  (m.slice (rO b) (fun _ => rfl)).squeeze S8x32x128 squeezes_S1x8x32x128_S8x32x128
abbrev mSl (m : Memref sig .tc .vmem S4x2x8x32x1 .f32) (b : Fin 4) : Memref sig .tc .vmem S2x8x32x1 .f32 :=
  (m.slice (rM b) (fun _ => rfl)).squeeze S2x8x32x1 squeezes_S1x2x8x32x1_S2x8x32x1

abbrev kvSem (k s : Fin 2) (h : Fin 8) : DmaSem sig :=
  ((cc0_scratch10.slice (Rect.unit (s := S2x2x8) ![s.val, k.val, h.val] S1x1x1.size (inbSem s k h))).squeeze S_ squeezes_S1x1x1_S_).sem
abbrev sSem (k b : Fin 4) : DmaSem sig :=
  ((cc0_scratch11.slice (Rect.unit (s := S4x4) ![k.val, b.val] S1x1.size (inbX k b))).squeeze S_ squeezes_S1x1_S_).sem
abbrev rSem (k b : Fin 4) : DmaSem sig :=
  ((cc0_scratch12.slice (Rect.unit (s := S4x4) ![k.val, b.val] S1x1.size (inbX k b))).squeeze S_ squeezes_S1x1_S_).sem
abbrev barSem : Sem sig := (SemArray.scalar (sig.barrier 0 rfl) : Sems sig S_).sem

theorem wordsO (b : Fin 4) : (rO b).WholeWords (EltTy.packing .bf16) := by
  revert b; decide
theorem packedO (b : Fin 4) : (rO b).PackedRows (EltTy.packing .bf16) := by
  revert b; decide
theorem slicesQ (h : Fin 8) : S32x8x128.Slices ![0, h.val, 0] S32x1x128 := by
  revert h; decide
theorem slicesR (h : Fin 8) : S8x32x128.Slices ![h.val, 0, 0] S1x32x128 := by
  revert h; decide

/-! ## What one head's step computes -/

/-- The scores of the head's queries against its keys, scaled for the base-two exponential. -/
def hS (h : Fin 8) (q : FVec F S32x8x128 .bf16) (k : Vec F S1x1x2048x128 .f32) : FVec F S32x2048 .f32 :=
  mulf (matmul dot_S32x128_S2048x128_S32x2048_1_1_0_0_n_n none
      (shapeCast S32x128 (extractStridedSlice S32x1x128 ![0, h.val, 0] q (slicesQ h)) shapeCasts_S32x1x128_S32x128)
      (truncf .bf16 (shapeCast S2048x128 k shapeCasts_S1x1x2048x128_S2048x128) bitsLt_bf16_f32)
      (constant S32x2048 .f32 0x00000000#32))
    (broadcast S32x2048 (Named.named κ "s2" 0x3E0293EE#32))
/-- The running maximum after the head's scores. -/
def hM (h : Fin 8) (q : FVec F S32x8x128 .bf16) (k : Vec F S1x1x2048x128 .f32) (mo : Vec F S1x1x1x32x1 .f32) : FVec F S32x1 .f32 :=
  maximumf (shapeCast S32x1 mo shapeCasts_S1x1x1x32x1_S32x1)
    (shapeCast S32x1 (multiReduction .maximumf [1] S32 (hS h q k) 0xFF800000#32 reduces_S32x2048_S32 (.inl rfl) rfl) shapeCasts_S32_S32x1)
/-- The factor by which the earlier sums shrink. -/
def hA (h : Fin 8) (q : FVec F S32x8x128 .bf16) (k : Vec F S1x1x2048x128 .f32) (mo : Vec F S1x1x1x32x1 .f32) : FVec F S32x1 .f32 :=
  exp2 (subf (shapeCast S32x1 mo shapeCasts_S1x1x1x32x1_S32x1) (hM h q k mo))
/-- The weights. -/
def hP (h : Fin 8) (q : FVec F S32x8x128 .bf16) (k : Vec F S1x1x2048x128 .f32) (mo : Vec F S1x1x1x32x1 .f32) : FVec F S32x2048 .f32 :=
  exp2 (subf (hS h q k) (broadcastTo S32x2048 (hM h q k mo) broadcasts_S32x1_S32x2048))
/-- The running sum of the weights. -/
def hL (h : Fin 8) (q : FVec F S32x8x128 .bf16) (k : Vec F S1x1x2048x128 .f32) (mo lo : Vec F S1x1x1x32x1 .f32) : FVec F S32x1 .f32 :=
  addf (mulf (shapeCast S32x1 lo shapeCasts_S1x1x1x32x1_S32x1) (hA h q k mo))
    (shapeCast S32x1 (multiReduction .add [1] S32 (hP h q k mo) 0x00000000#32 reduces_S32x2048_S32 (.inl rfl) rfl) shapeCasts_S32_S32x1)
/-- The weighted sum of the values. -/
def hPV (h : Fin 8) (q : FVec F S32x8x128 .bf16) (k v : Vec F S1x1x2048x128 .f32) (mo : Vec F S1x1x1x32x1 .f32) : FVec F S32x128 .f32 :=
  matmul dot_S32x2048_S2048x128_S32x128_1_0_0_1_n_n none (truncf .bf16 (hP h q k mo) bitsLt_bf16_f32)
    (truncf .bf16 (shapeCast S2048x128 v shapeCasts_S1x1x2048x128_S2048x128) bitsLt_bf16_f32) (constant S32x128 .f32 0x00000000#32)
/-- What the head stores as its running weighted sum. -/
def hO (h : Fin 8) (q : FVec F S32x8x128 .bf16) (k v : Vec F S1x1x2048x128 .f32) (mo : Vec F S1x1x1x32x1 .f32) (o : Vec F S1x1x32x128 .f32) : FVec F S1x1x32x128 .f32 :=
  shapeCast S1x1x32x128 (Scalar.select (Scalar.cmpi .eq 0#32 0#32) (hPV h q k v mo)
    (addf (mulf (shapeCast S32x128 o shapeCasts_S1x1x32x128_S32x128) (broadcastTo S32x128 (hA h q k mo) broadcasts_S32x1_S32x128)) (hPV h q k v mo))) shapeCasts_S32x128_S1x1x32x128

/-- The quotient the last merge stores, all heads at once. -/
def fin8 (m0 l0 m1 l1 : Vec F S1x1x8x32x1 .f32) (o0 : Vec F S1x8x32x128 .f32) (o1 : Vec F S1x8x32x128 .bf16) : FVec F S8x32x128 .f32 :=
  k0_pay39 (k0_pay36 m0) (k0_pay37 l0) (k0_pay38 m1) l1 o0 o1
/-- One head's rows of it. -/
def finH (h : Fin 8) (x : FVec F S8x32x128 .f32) : FVec F S1x32x1x128 .f32 :=
  shapeCast S1x32x1x128 (shapeCast S32x128 (extractStridedSlice S1x32x128 ![h.val, 0, 0] x (slicesR h)) shapeCasts_S1x32x128_S32x128) shapeCasts_S32x128_S1x32x1x128

/-! ## The pieces -/

/-- The barrier with the two neighbours, then the first maxima and sums of one batch. -/
def barrier (p1 p2 : Dev nD) : Prg F PUnit := do
  semSignalWord p1 barSem 1#32
  semSignalWord p2 barSem 1#32
  semWaitWord barSem 2#32

def initB (b : Fin 4) : Prg F PUnit := do
  let _ ← Prog.lift (.load mMl (rM8 b 0).toLoadRect (View.loadsAt_vmem h_S1x1x8x32x1))
  Prog.lift (.store mMl (rM8 b 0) (k0_pay5 (F := F)) Finset.univ (View.stores_vmem_bits_univ h_S1x1x8x32x1 rfl) (.inl rfl))
  let _ ← Prog.lift (.load mMl (rM8 b 1).toLoadRect (View.loadsAt_vmem h_S1x1x8x32x1))
  Prog.lift (.store mMl (rM8 b 1) (k0_pay6 (F := F)) Finset.univ (View.stores_vmem_bits_univ h_S1x1x8x32x1 rfl) (.inl rfl))

/-- The start of one head's two copies into a slot. -/
def startH (b : Fin 4) (s : Fin 2) (v : BitVec 32) (hv : RowOk v) (h : Fin 8) : Prg F PUnit := do
  Prog.lift (.enqueueDma (kSrc b h v hv) (.here (kSl s h)) (.dma (kvSem 0 s h)) ((View.wordExact_bits rfl).reshape _ _) ((View.wordExact_bits rfl).reshape _ _) ⟨Or.inl rfl, trivial⟩)
  Prog.lift (.enqueueDma (vSrc b h v hv) (.here (vSl s h)) (.dma (kvSem 1 s h)) ((View.wordExact_bits rfl).reshape _ _) ((View.wordExact_bits rfl).reshape _ _) ⟨Or.inl rfl, trivial⟩)

/-- A piece for each head in turn. -/
def each8 (f : Fin 8 → Prg F PUnit) : Prg F PUnit := do
  f 0; f 1; f 2; f 3; f 4; f 5; f 6; f 7

/-- One head's step. -/
def headH (b : Fin 4) (s : Fin 2) (v : BitVec 32) (hv : RowOk v) (q : FVec F S32x8x128 .bf16) (h : Fin 8) : Prg F PUnit := do
  Prog.lift (.waitDma2 (kvSem 0 s h) (kSrc b h v hv) (kSl s h) ((View.wordExact_bits rfl).reshape _ _) ((View.wordExact_bits rfl).reshape _ _))
  Prog.lift (.waitDma2 (kvSem 1 s h) (vSrc b h v hv) (vSl s h) ((View.wordExact_bits rfl).reshape _ _) ((View.wordExact_bits rfl).reshape _ _))
  let k : Vec F S1x1x2048x128 .f32 ← Prog.lift (.load mKB (rKB s h).toLoadRect (View.loadsAt_vmem h_S1x1x2048x128))
  let vv : Vec F S1x1x2048x128 .f32 ← Prog.lift (.load mVB (rKB s h).toLoadRect (View.loadsAt_vmem h_S1x1x2048x128))
  let mo : Vec F S1x1x1x32x1 .f32 ← Prog.lift (.load mMl (rM1 b 0 h).toLoadRect (View.loadsAt_vmem h_S1x1x1x32x1))
  let lo : Vec F S1x1x1x32x1 .f32 ← Prog.lift (.load mMl (rM1 b 1 h).toLoadRect (View.loadsAt_vmem h_S1x1x1x32x1))
  let o : Vec F S1x1x32x128 .f32 ← Prog.lift (.load mOun (rO1 b h).toLoadRect (View.loadsAt_vmem h_S1x1x32x128))
  let _ ← Prog.lift (.load mOun (rO1 b h).toLoadRect (View.loadsAt_vmem h_S1x1x32x128))
  Prog.lift (.store mOun (rO1 b h) (hO h q k vv mo o) Finset.univ (View.stores_vmem_bits_univ h_S1x1x32x128 rfl) (.inl rfl))
  let _ ← Prog.lift (.load mMl (rM1 b 0 h).toLoadRect (View.loadsAt_vmem h_S1x1x1x32x1))
  Prog.lift (.store mMl (rM1 b 0 h) (shapeCast S1x1x1x32x1 (hM h q k mo) shapeCasts_S32x1_S1x1x1x32x1) Finset.univ (View.stores_vmem_bits_univ h_S1x1x1x32x1 rfl) (.inl rfl))
  let _ ← Prog.lift (.load mMl (rM1 b 1 h).toLoadRect (View.loadsAt_vmem h_S1x1x1x32x1))
  Prog.lift (.store mMl (rM1 b 1 h) (shapeCast S1x1x1x32x1 (hL h q k mo lo) shapeCasts_S32x1_S1x1x1x32x1) Finset.univ (View.stores_vmem_bits_univ h_S1x1x1x32x1 rfl) (.inl rfl))

/-- One exchange's two sends of batch `b`: a slab of rounded partial sums and a slab of maxima and sums. -/
def sendB (k0 k1 : Fin 4) (src : Memref sig .tc .vmem S4x8x32x128 .bf16) (hsrc : src.IsWhole) (dst : Memref sig .tc .vmem S4x8x32x128 .bf16) (hdst : dst.IsWhole)
    (mdst : Memref sig .tc .vmem S4x2x8x32x1 .f32) (p1 p2 : Dev nD) (b : Fin 4) : Prg F PUnit := do
  Prog.lift (.enqueueDma (oSl src b) (.remote (Dev.tc p1) (oSl dst b) (.dma (sSem k0 b))) (.dma (rSem k0 b)) ((hsrc.wordExact_slice rfl _ (wordsO b)).reshape _ _) ((hdst.wordExact_slice rfl _ (wordsO b)).reshape _ _) ⟨⟨rfl, Or.inl rfl⟩, trivial⟩)
  Prog.lift (.enqueueDma (mSl mMl b) (.remote (Dev.tc p2) (mSl mdst b) (.dma (sSem k1 b))) (.dma (rSem k1 b)) ((View.wordExact_bits rfl).reshape _ _) ((View.wordExact_bits rfl).reshape _ _) ⟨⟨rfl, Or.inl rfl⟩, trivial⟩)

/-- The rounding of the partial sums, then the first exchange's sends. -/
def send1 (p1 p2 : Dev nD) (b : Fin 4) : Prg F PUnit := do
  let o : Vec F S1x8x32x128 .f32 ← Prog.lift (.load mOun (rO b).toLoadRect (View.loadsAt_vmem h_S1x8x32x128))
  let _ ← Prog.lift (.load mOxs (rO b).toLoadRect (View.loadsAt_vmem h_S1x8x32x128))
  Prog.lift (.store mOxs (rO b) (k0_pay14 o) Finset.univ (View.stores_vmem h_S1x8x32x128 ((Memref.isWhole_whole _).storeExact_slice rfl _ (packedO b)) (fun _ => rfl)) (.inl rfl))
  sendB 0 1 mOxs (Memref.isWhole_whole _) mOr1 (Memref.isWhole_whole _) mMl1 p1 p2 b

/-- One exchange's four waits of batch `b`: its own sends, and what the neighbour sends. -/
def waitB (k0 k1 : Fin 4) (src : Memref sig .tc .vmem S4x8x32x128 .bf16) (hsrc : src.IsWhole) (dst : Memref sig .tc .vmem S4x8x32x128 .bf16) (hdst : dst.IsWhole)
    (mdst : Memref sig .tc .vmem S4x2x8x32x1 .f32) (b : Fin 4) : Prg F PUnit := do
  Prog.lift (.waitDma2 (sSem k0 b) (oSl dst b) (oSl src b) ((hdst.wordExact_slice rfl _ (wordsO b)).reshape _ _) ((hsrc.wordExact_slice rfl _ (wordsO b)).reshape _ _))
  Prog.lift (.waitDma2 (rSem k0 b) (oSl src b) (oSl dst b) ((hsrc.wordExact_slice rfl _ (wordsO b)).reshape _ _) ((hdst.wordExact_slice rfl _ (wordsO b)).reshape _ _))
  Prog.lift (.waitDma2 (sSem k1 b) (mSl mdst b) (mSl mMl b) ((View.wordExact_bits rfl).reshape _ _) ((View.wordExact_bits rfl).reshape _ _))
  Prog.lift (.waitDma2 (rSem k1 b) (mSl mMl b) (mSl mdst b) ((View.wordExact_bits rfl).reshape _ _) ((View.wordExact_bits rfl).reshape _ _))

/-- The merge of the first exchange's two halves, its result rounded. -/
def merge1 (b : Fin 4) : Prg F PUnit := do
  let m0 : Vec F S1x1x8x32x1 .f32 ← Prog.lift (.load mMl (rM8 b 0).toLoadRect (View.loadsAt_vmem h_S1x1x8x32x1))
  let l0 : Vec F S1x1x8x32x1 .f32 ← Prog.lift (.load mMl (rM8 b 1).toLoadRect (View.loadsAt_vmem h_S1x1x8x32x1))
  let m1 : Vec F S1x1x8x32x1 .f32 ← Prog.lift (.load mMl1 (rM8 b 0).toLoadRect (View.loadsAt_vmem h_S1x1x8x32x1))
  let l1 : Vec F S1x1x8x32x1 .f32 ← Prog.lift (.load mMl1 (rM8 b 1).toLoadRect (View.loadsAt_vmem h_S1x1x8x32x1))
  let _ ← Prog.lift (.load mMl (rM8 b 0).toLoadRect (View.loadsAt_vmem h_S1x1x8x32x1))
  Prog.lift (.store mMl (rM8 b 0) (k0_pay22 (k0_pay19 m0 m1)) Finset.univ (View.stores_vmem_bits_univ h_S1x1x8x32x1 rfl) (.inl rfl))
  let _ ← Prog.lift (.load mMl (rM8 b 1).toLoadRect (View.loadsAt_vmem h_S1x1x8x32x1))
  Prog.lift (.store mMl (rM8 b 1) (k0_pay23 (k0_pay16 l0) (k0_pay18 l1) (k0_pay20 m0 m1) (k0_pay21 m0 m1)) Finset.univ (View.stores_vmem_bits_univ h_S1x1x8x32x1 rfl) (.inl rfl))
  let o0 : Vec F S1x8x32x128 .f32 ← Prog.lift (.load mOun (rO b).toLoadRect (View.loadsAt_vmem h_S1x8x32x128))
  let o1 : Vec F S1x8x32x128 .bf16 ← Prog.lift (.load mOr1 (rO b).toLoadRect (View.loadsAt_vmem h_S1x8x32x128))
  let _ ← Prog.lift (.load mOun (rO b).toLoadRect (View.loadsAt_vmem h_S1x8x32x128))
  Prog.lift (.store mOun (rO b) (k0_pay24 (k0_pay20 m0 m1) (k0_pay21 m0 m1) o0 o1) Finset.univ (View.stores_vmem_bits_univ h_S1x8x32x128 rfl) (.inl rfl))
  let o2 : Vec F S1x8x32x128 .f32 ← Prog.lift (.load mOun (rO b).toLoadRect (View.loadsAt_vmem h_S1x8x32x128))
  let _ ← Prog.lift (.load mOxs2 (rO b).toLoadRect (View.loadsAt_vmem h_S1x8x32x128))
  Prog.lift (.store mOxs2 (rO b) (k0_pay25 o2) Finset.univ (View.stores_vmem h_S1x8x32x128 ((Memref.isWhole_whole _).storeExact_slice rfl _ (packedO b)) (fun _ => rfl)) (.inl rfl))

/-- The first exchange's end and the second exchange's sends. -/
def handle1 (p1 p2 : Dev nD) (b : Fin 4) : Prg F PUnit := do
  waitB 0 1 mOxs (Memref.isWhole_whole _) mOr1 (Memref.isWhole_whole _) mMl1 b
  merge1 b
  sendB 2 3 mOxs2 (Memref.isWhole_whole _) mOr2 (Memref.isWhole_whole _) mMl2 p1 p2 b

/-- One head's rows of the result, stored. -/
def outH (arg6 : Memref sig .tc .vmem S4x32x8x128 .f32) (b : Fin 4) (x : FVec F S8x32x128 .f32) (h : Fin 8) : Prg F PUnit := do
  let _ ← Prog.lift (.load arg6 (rR b h).toLoadRect (View.loadsAt_vmem h_S1x32x1x128))
  Prog.lift (.store arg6 (rR b h) (finH h x) Finset.univ (View.stores_vmem_bits_univ h_S1x32x1x128 rfl) (.inl rfl))

/-- The final merge of one batch. -/
def finalB (arg6 : Memref sig .tc .vmem S4x32x8x128 .f32) (b : Fin 4) : Prg F PUnit := do
  let m0 : Vec F S1x1x8x32x1 .f32 ← Prog.lift (.load mMl (rM8 b 0).toLoadRect (View.loadsAt_vmem h_S1x1x8x32x1))
  let l0 : Vec F S1x1x8x32x1 .f32 ← Prog.lift (.load mMl (rM8 b 1).toLoadRect (View.loadsAt_vmem h_S1x1x8x32x1))
  let m1 : Vec F S1x1x8x32x1 .f32 ← Prog.lift (.load mMl2 (rM8 b 0).toLoadRect (View.loadsAt_vmem h_S1x1x8x32x1))
  let l1 : Vec F S1x1x8x32x1 .f32 ← Prog.lift (.load mMl2 (rM8 b 1).toLoadRect (View.loadsAt_vmem h_S1x1x8x32x1))
  let o0 : Vec F S1x8x32x128 .f32 ← Prog.lift (.load mOun (rO b).toLoadRect (View.loadsAt_vmem h_S1x8x32x128))
  let o1 : Vec F S1x8x32x128 .bf16 ← Prog.lift (.load mOr2 (rO b).toLoadRect (View.loadsAt_vmem h_S1x8x32x128))
  each8 (outH arg6 b (fin8 m0 l0 m1 l1 o0 o1))

def wait2 (b : Fin 4) : Prg F PUnit :=
  waitB 2 3 mOxs2 (Memref.isWhole_whole _) mOr2 (Memref.isWhole_whole _) mMl2 b

/-- The table's word. -/
def word : Prg F (Elt F .i32) := smemLoad mTab (Rect.unit (s := S1) ![0] S1.size inb_S1_S1_0) numel1_S1 rfl

/-- The device whose rows are this one's other half. -/
def xn (d : Dev nD) : Dev nD := ⟨k0_dev1 d, by rw [k0_dev1_eq]; have : d.val < 4 := d.isLt; show _ < 4; omega⟩
/-- The device that holds the other keys. -/
def yn (d : Dev nD) : Dev nD := ⟨k0_dev2 d, by rw [k0_dev2_eq]; have : d.val < 4 := d.isLt; show _ < 4; omega⟩

theorem rowOk1 {v : BitVec 32} (hw : k0_chk1 (grid0.coords t0_0) v) : RowOk v := hw.1 rfl 1
theorem rowOk2_0 {v : BitVec 32} (hw : k0_chk2 (grid0.coords t0_0) v) : RowOk v := hw.1 rfl 1
theorem rowOk2_1 {v : BitVec 32} (hw : k0_chk2 (grid0.coords t0_1) v) : RowOk v := hw.1 rfl 1
theorem rowOk2_2 {v : BitVec 32} (hw : k0_chk2 (grid0.coords t0_2) v) : RowOk v := hw.1 rfl 1
theorem rowOk3_0 {v : BitVec 32} (hw : k0_chk3 (grid0.coords t0_0) v) : RowOk v := hw.1 1
theorem rowOk3_1 {v : BitVec 32} (hw : k0_chk3 (grid0.coords t0_1) v) : RowOk v := hw.1 1
theorem rowOk3_2 {v : BitVec 32} (hw : k0_chk3 (grid0.coords t0_2) v) : RowOk v := hw.1 1
theorem rowOk3_3 {v : BitVec 32} (hw : k0_chk3 (grid0.coords t0_3) v) : RowOk v := hw.1 1

abbrev loadQ (arg3 : Memref sig .tc .vmem S1x32x8x128 .f32) : Prg F (Vec F S1x32x8x128 .f32) :=
  Prog.lift (.load arg3 (Rect.unit (s := S1x32x8x128) ![0, 0, 0, 0] S1x32x8x128.size inb_S1x32x8x128_S1x32x8x128_0_0_0_0).toLoadRect (View.loadsAt_vmem h_S1x32x8x128))

def kbody0 (arg3 : Memref sig .tc .vmem S1x32x8x128 .f32) (arg6 : Memref sig .tc .vmem S4x32x8x128 .f32) : Prg F PUnit := do
  let d ← Prog.lift .deviceId
  barrier (xn d) (yn d)
  initB 0; initB 1; initB 2; initB 3
  let v ← word
  let hw ← Prog.lift (TpuEff.assume (k0_chk1 (grid0.coords t0_0) v) (k0_chk1.dec (grid0.coords t0_0) v))
  each8 (startH 0 0 v (rowOk1 hw.down))
  let v ← word
  let hw ← Prog.lift (TpuEff.assume (k0_chk2 (grid0.coords t0_0) v) (k0_chk2.dec (grid0.coords t0_0) v))
  each8 (startH 1 1 v (rowOk2_0 hw.down))
  let v ← word
  let hw ← Prog.lift (TpuEff.assume (k0_chk3 (grid0.coords t0_0) v) (k0_chk3.dec (grid0.coords t0_0) v))
  let q ← loadQ arg3
  each8 (headH 0 0 v (rowOk3_0 hw.down) (k0_pay89 q))
  send1 (xn d) (xn d) 0

def kbody1 (arg3 : Memref sig .tc .vmem S1x32x8x128 .f32) (arg6 : Memref sig .tc .vmem S4x32x8x128 .f32) : Prg F PUnit := do
  let d ← Prog.lift .deviceId
  let v ← word
  let hw ← Prog.lift (TpuEff.assume (k0_chk2 (grid0.coords t0_1) v) (k0_chk2.dec (grid0.coords t0_1) v))
  each8 (startH 2 0 v (rowOk2_1 hw.down))
  let v ← word
  let hw ← Prog.lift (TpuEff.assume (k0_chk3 (grid0.coords t0_1) v) (k0_chk3.dec (grid0.coords t0_1) v))
  let q ← loadQ arg3
  each8 (headH 1 1 v (rowOk3_1 hw.down) (k0_pay89 q))
  send1 (xn d) (xn d) 1
  handle1 (yn d) (yn d) 0

def kbody2 (arg3 : Memref sig .tc .vmem S1x32x8x128 .f32) (arg6 : Memref sig .tc .vmem S4x32x8x128 .f32) : Prg F PUnit := do
  let d ← Prog.lift .deviceId
  let v ← word
  let hw ← Prog.lift (TpuEff.assume (k0_chk2 (grid0.coords t0_2) v) (k0_chk2.dec (grid0.coords t0_2) v))
  each8 (startH 3 1 v (rowOk2_2 hw.down))
  let v ← word
  let hw ← Prog.lift (TpuEff.assume (k0_chk3 (grid0.coords t0_2) v) (k0_chk3.dec (grid0.coords t0_2) v))
  let q ← loadQ arg3
  each8 (headH 2 0 v (rowOk3_2 hw.down) (k0_pay89 q))
  send1 (xn d) (xn d) 2
  handle1 (yn d) (yn d) 1

def kbody3 (arg3 : Memref sig .tc .vmem S1x32x8x128 .f32) (arg6 : Memref sig .tc .vmem S4x32x8x128 .f32) : Prg F PUnit := do
  let d ← Prog.lift .deviceId
  let v ← word
  let hw ← Prog.lift (TpuEff.assume (k0_chk3 (grid0.coords t0_3) v) (k0_chk3.dec (grid0.coords t0_3) v))
  let q ← loadQ arg3
  each8 (headH 3 1 v (rowOk3_3 hw.down) (k0_pay89 q))
  send1 (xn d) (xn d) 3
  handle1 (yn d) (yn d) 2
  handle1 (yn d) (yn d) 3
  wait2 0; wait2 1; wait2 2; wait2 3
  finalB arg6 0; finalB arg6 1; finalB arg6 2; finalB arg6 3

/-- The body as the region calls it, at grid point `t` on the given staging buffers. -/
abbrev bodyAt (t : Fin grid0.N) (arg3 : Memref sig .tc .vmem S1x32x8x128 .f32) (h3 : arg3.IsWhole)
    (arg6 : Memref sig .tc .vmem S4x32x8x128 .f32) (h6 : arg6.IsWhole) : Prg F PUnit :=
  cc0_body (grid0.coords t) (Memref.whole main_v5) (Memref.isWhole_whole _) arg3 h3 (Memref.whole main_arg1) (Memref.isWhole_whole _) (Memref.whole main_arg2) (Memref.isWhole_whole _) arg6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12

end Cert.KernelIdeal.Body

end
-- ==== Proof.Contents.lean ====
/- What each scratch buffer holds at each stage, as a function of the buffer's own index: the running
   maxima and sums of every batch, the weighted sums, what is sent and what the two merges leave, all in
   terms of the queries a device stages and the keys and values it copies in. And the element sets the
   kernel cuts its buffers into: a slab per batch, a slab per ring slot and head. -/
module

public import proofs.«01_k».proof.Proof.Prog
public import Idealize.ShloMosaic.Lib.ValueIdxCore
public import Idealize.ShloMosaic.Lib.Pipeline.Value
public import Idealize.ShloMosaic.Lib.Pipeline.Launch
public import Idealize.ShloMosaic.Lib.Pipeline.Kit
public import Idealize.ShloMosaic.Lib.Tactic

@[expose] public section

noncomputable section

namespace Cert.KernelIdeal.Body

open Idealize.ShloMosaic Idealize.ShloMosaic.TcCoe Idealize.ShloMosaic.ValueIdx Idealize.SL.Sem Cert.KernelIdeal.Gen

variable {F : FTy → Type} [FloatOps F] [Named F]

/-- What the devices read: the rounded queries of every batch, and every batch and head's keys and values. -/
structure Data (F : FTy → Type) where
  q : Dev nD → Fin 4 → FVec F S32x8x128 .bf16
  k : Dev nD → Fin 4 → Fin 8 → Vec F S1x1x2048x128 .f32
  v : Dev nD → Fin 4 → Fin 8 → Vec F S1x1x2048x128 .f32

variable (D : Data F)

/-- A head's first maximum and first sum. -/
def mInit : Vec F S1x1x1x32x1 .f32 := fun _ => k0_pay5 (F := F) (ix5 0 0 0 0 0)
def lInit : Vec F S1x1x1x32x1 .f32 := fun _ => k0_pay6 (F := F) (ix5 0 0 0 0 0)

/-- A head's maximum, sum and weighted sum over the device's own keys. -/
def vM (c : Dev nD) (b : Fin 4) (h : Fin 8) : FVec F S32x1 .f32 := hM h (D.q c b) (D.k c b h) mInit
def vL (c : Dev nD) (b : Fin 4) (h : Fin 8) : FVec F S32x1 .f32 := hL h (D.q c b) (D.k c b h) mInit lInit
def vO (c : Dev nD) (b : Fin 4) (h : Fin 8) : FVec F S32x128 .f32 := hPV h (D.q c b) (D.k c b h) (D.v c b h) mInit

/-- The ring's buffers: a slot holds a batch's keys (values) head by head. -/
def kF (c : Dev nD) (b : Fin 4) : S2x8x2048x128.Idx → Elt F .f32 := fun x => D.k c b (x 1) (ix4 0 0 (x 2) (x 3))
def vF (c : Dev nD) (b : Fin 4) : S2x8x2048x128.Idx → Elt F .f32 := fun x => D.v c b (x 1) (ix4 0 0 (x 2) (x 3))

/-- Maxima and sums after `n` heads. -/
def mlN (c : Dev nD) (n : ℕ) : S4x2x8x32x1.Idx → Elt F .f32 := fun x =>
  if (x 2).val < n then (if (x 1).val = 0 then vM D c (x 0) (x 2) (ix2 (x 3) (x 4)) else vL D c (x 0) (x 2) (ix2 (x 3) (x 4)))
  else (if (x 1).val = 0 then k0_pay5 (F := F) (ix5 0 0 0 0 0) else k0_pay6 (F := F) (ix5 0 0 0 0 0))
/-- Weighted sums after `n` heads, over the contents `f` found. -/
def oN (c : Dev nD) (f : S4x8x32x128.Idx → Elt F .f32) (n : ℕ) : S4x8x32x128.Idx → Elt F .f32 := fun x =>
  if (x 1).val < n then vO D c (x 0) (x 1) (ix2 (x 2) (x 3)) else f x

/-- All heads done. -/
def mlA (c : Dev nD) : S4x2x8x32x1.Idx → Elt F .f32 := mlN D c 8
def oA (c : Dev nD) : S4x8x32x128.Idx → Elt F .f32 := fun x => vO D c (x 0) (x 1) (ix2 (x 2) (x 3))

/-- A batch's maxima (`j = 0`) or sums (`j = 1`) out of a buffer, and a batch's slab. -/
def pM {α : Type} (f : S4x2x8x32x1.Idx → α) (b : Fin 4) (j : Fin 2) : S1x1x8x32x1.Idx → α := fun y => f ((rM8 b j).emb y)
def pO {α : Type} (f : S4x8x32x128.Idx → α) (b : Fin 4) : S1x8x32x128.Idx → α := fun y => f ((rO b).emb y)

/-- What the first exchange sends. -/
def x1 (c : Dev nD) : S4x8x32x128.Idx → Elt F .bf16 := fun x => k0_pay14 (F := F) (pO (oA D c) (x 0)) (ix4 0 (x 1) (x 2) (x 3))

/-- Maxima and sums after the first merge, -/
def mlB (c : Dev nD) : S4x2x8x32x1.Idx → Elt F .f32 := fun x =>
  if (x 1).val = 0 then k0_pay22 (k0_pay19 (pM (mlA D c) (x 0) 0) (pM (mlA D (xn c)) (x 0) 0)) (ix5 0 0 (x 2) (x 3) (x 4))
  else k0_pay23 (k0_pay16 (pM (mlA D c) (x 0) 1)) (k0_pay18 (pM (mlA D (xn c)) (x 0) 1))
    (k0_pay20 (pM (mlA D c) (x 0) 0) (pM (mlA D (xn c)) (x 0) 0)) (k0_pay21 (pM (mlA D c) (x 0) 0) (pM (mlA D (xn c)) (x 0) 0)) (ix5 0 0 (x 2) (x 3) (x 4))
/-- the weighted sums after it, -/
def oB (c : Dev nD) : S4x8x32x128.Idx → Elt F .f32 := fun x =>
  k0_pay24 (k0_pay20 (pM (mlA D c) (x 0) 0) (pM (mlA D (xn c)) (x 0) 0)) (k0_pay21 (pM (mlA D c) (x 0) 0) (pM (mlA D (xn c)) (x 0) 0))
    (pO (oA D c) (x 0)) (pO (x1 D (xn c)) (x 0)) (ix4 0 (x 1) (x 2) (x 3))
/-- and what the second exchange sends. -/
def x2 (c : Dev nD) : S4x8x32x128.Idx → Elt F .bf16 := fun x => k0_pay25 (F := F) (pO (oB D c) (x 0)) (ix4 0 (x 1) (x 2) (x 3))

/-- One batch's quotient, all heads, -/
def res8 (c : Dev nD) (b : Fin 4) : FVec F S8x32x128 .f32 :=
  fin8 (pM (mlB D c) b 0) (pM (mlB D c) b 1) (pM (mlB D (yn c)) b 0) (pM (mlB D (yn c)) b 1) (pO (oB D c) b) (pO (x2 D (yn c)) b)
/-- and the kernel's result. -/
def res (c : Dev nD) : S4x32x8x128.Idx → Elt F .f32 := fun x => finH (x 2) (res8 D c (x 0)) (ix4 0 (x 1) 0 (x 3))
/-- The result buffer after the first `n` batch-and-head pieces, over the contents `f` found. -/
def resN (c : Dev nD) (f : S4x32x8x128.Idx → Elt F .f32) (n : ℕ) : S4x32x8x128.Idx → Elt F .f32 := fun x =>
  if (x 0).val * 8 + (x 2).val < n then res D c x else f x

/-! ## Where a rectangle puts its indices -/

theorem emb_rKB (s : Fin 2) (h : Fin 8) (y : (rKB s h).shape.Idx) : (rKB s h).emb y = ix4 s h (y 2) (y 3) := by
  have h0 : (y 0).val < 1 := (y 0).isLt
  have h1 : (y 1).val < 1 := (y 1).isLt
  funext a; apply Fin.ext
  match a with
  | ⟨0, _⟩ => show s.val + 1 * (y 0).val = s.val; omega
  | ⟨1, _⟩ => show h.val + 1 * (y 1).val = h.val; omega
  | ⟨2, _⟩ => show 0 + 1 * (y 2).val = (y 2).val; omega
  | ⟨3, _⟩ => show 0 + 1 * (y 3).val = (y 3).val; omega
theorem emb_rO1 (b : Fin 4) (h : Fin 8) (y : (rO1 b h).shape.Idx) : (rO1 b h).emb y = ix4 b h (y 2) (y 3) := by
  have h0 : (y 0).val < 1 := (y 0).isLt
  have h1 : (y 1).val < 1 := (y 1).isLt
  funext a; apply Fin.ext
  match a with
  | ⟨0, _⟩ => show b.val + 1 * (y 0).val = b.val; omega
  | ⟨1, _⟩ => show h.val + 1 * (y 1).val = h.val; omega
  | ⟨2, _⟩ => show 0 + 1 * (y 2).val = (y 2).val; omega
  | ⟨3, _⟩ => show 0 + 1 * (y 3).val = (y 3).val; omega
theorem emb_rO (b : Fin 4) (y : (rO b).shape.Idx) : (rO b).emb y = ix4 b (y 1) (y 2) (y 3) := by
  have h0 : (y 0).val < 1 := (y 0).isLt
  funext a; apply Fin.ext
  match a with
  | ⟨0, _⟩ => show b.val + 1 * (y 0).val = b.val; omega
  | ⟨1, _⟩ => show 0 + 1 * (y 1).val = (y 1).val; omega
  | ⟨2, _⟩ => show 0 + 1 * (y 2).val = (y 2).val; omega
  | ⟨3, _⟩ => show 0 + 1 * (y 3).val = (y 3).val; omega
theorem emb_rM1 (b : Fin 4) (j : Fin 2) (h : Fin 8) (y : (rM1 b j h).shape.Idx) : (rM1 b j h).emb y = ix5 b j h (y 3) (y 4) := by
  have h0 : (y 0).val < 1 := (y 0).isLt
  have h1 : (y 1).val < 1 := (y 1).isLt
  have h2 : (y 2).val < 1 := (y 2).isLt
  funext a; apply Fin.ext
  match a with
  | ⟨0, _⟩ => show b.val + 1 * (y 0).val = b.val; omega
  | ⟨1, _⟩ => show j.val + 1 * (y 1).val = j.val; omega
  | ⟨2, _⟩ => show h.val + 1 * (y 2).val = h.val; omega
  | ⟨3, _⟩ => show 0 + 1 * (y 3).val = (y 3).val; omega
  | ⟨4, _⟩ => show 0 + 1 * (y 4).val = (y 4).val; omega
theorem emb_rM8 (b : Fin 4) (j : Fin 2) (y : (rM8 b j).shape.Idx) : (rM8 b j).emb y = ix5 b j (y 2) (y 3) (y 4) := by
  have h0 : (y 0).val < 1 := (y 0).isLt
  have h1 : (y 1).val < 1 := (y 1).isLt
  funext a; apply Fin.ext
  match a with
  | ⟨0, _⟩ => show b.val + 1 * (y 0).val = b.val; omega
  | ⟨1, _⟩ => show j.val + 1 * (y 1).val = j.val; omega
  | ⟨2, _⟩ => show 0 + 1 * (y 2).val = (y 2).val; omega
  | ⟨3, _⟩ => show 0 + 1 * (y 3).val = (y 3).val; omega
  | ⟨4, _⟩ => show 0 + 1 * (y 4).val = (y 4).val; omega
theorem emb_rR (b : Fin 4) (h : Fin 8) (y : (rR b h).shape.Idx) : (rR b h).emb y = ix4 b (y 1) h (y 3) := by
  have h0 : (y 0).val < 1 := (y 0).isLt
  have h2 : (y 2).val < 1 := (y 2).isLt
  funext a; apply Fin.ext
  match a with
  | ⟨0, _⟩ => show b.val + 1 * (y 0).val = b.val; omega
  | ⟨1, _⟩ => show 0 + 1 * (y 1).val = (y 1).val; omega
  | ⟨2, _⟩ => show h.val + 1 * (y 2).val = h.val; omega
  | ⟨3, _⟩ => show 0 + 1 * (y 3).val = (y 3).val; omega

/-! ## Indices with unit coordinates -/

theorem ix_1x8 (y : S1x8x32x128.Idx) : y = ix4 0 (y 1) (y 2) (y 3) := by
  have h0 : (y 0).val < 1 := (y 0).isLt
  funext a; apply Fin.ext
  match a with
  | ⟨0, _⟩ => show (y 0).val = 0; omega
  | ⟨1, _⟩ => rfl
  | ⟨2, _⟩ => rfl
  | ⟨3, _⟩ => rfl
theorem ix_11x8 (y : S1x1x8x32x1.Idx) : y = ix5 0 0 (y 2) (y 3) (y 4) := by
  have h0 : (y 0).val < 1 := (y 0).isLt
  have h1 : (y 1).val < 1 := (y 1).isLt
  funext a; apply Fin.ext
  match a with
  | ⟨0, _⟩ => show (y 0).val = 0; omega
  | ⟨1, _⟩ => show (y 1).val = 0; omega
  | ⟨2, _⟩ => rfl
  | ⟨3, _⟩ => rfl
  | ⟨4, _⟩ => rfl
theorem ix_111x32 (y : S1x1x1x32x1.Idx) : y = ix5 0 0 0 (y 3) (y 4) := by
  have h0 : (y 0).val < 1 := (y 0).isLt
  have h1 : (y 1).val < 1 := (y 1).isLt
  have h2 : (y 2).val < 1 := (y 2).isLt
  funext a; apply Fin.ext
  match a with
  | ⟨0, _⟩ => show (y 0).val = 0; omega
  | ⟨1, _⟩ => show (y 1).val = 0; omega
  | ⟨2, _⟩ => show (y 2).val = 0; omega
  | ⟨3, _⟩ => rfl
  | ⟨4, _⟩ => rfl
theorem ix_11x32x128 (y : S1x1x32x128.Idx) : y = ix4 0 0 (y 2) (y 3) := by
  have h0 : (y 0).val < 1 := (y 0).isLt
  have h1 : (y 1).val < 1 := (y 1).isLt
  funext a; apply Fin.ext
  match a with
  | ⟨0, _⟩ => show (y 0).val = 0; omega
  | ⟨1, _⟩ => show (y 1).val = 0; omega
  | ⟨2, _⟩ => rfl
  | ⟨3, _⟩ => rfl
theorem ix_11x2048x128 (y : S1x1x2048x128.Idx) : y = ix4 0 0 (y 2) (y 3) := by
  have h0 : (y 0).val < 1 := (y 0).isLt
  have h1 : (y 1).val < 1 := (y 1).isLt
  funext a; apply Fin.ext
  match a with
  | ⟨0, _⟩ => show (y 0).val = 0; omega
  | ⟨1, _⟩ => show (y 1).val = 0; omega
  | ⟨2, _⟩ => rfl
  | ⟨3, _⟩ => rfl
theorem ix_1x32x1x128 (y : S1x32x1x128.Idx) : y = ix4 0 (y 1) 0 (y 3) := by
  have h0 : (y 0).val < 1 := (y 0).isLt
  have h2 : (y 2).val < 1 := (y 2).isLt
  funext a; apply Fin.ext
  match a with
  | ⟨0, _⟩ => show (y 0).val = 0; omega
  | ⟨1, _⟩ => rfl
  | ⟨2, _⟩ => show (y 2).val = 0; omega
  | ⟨3, _⟩ => rfl

/-! ## The slabs -/

/-- A batch's slab; a ring slot's slab of one head. -/
def slO (b : Fin 4) : Finset S4x8x32x128.Idx := Finset.univ.filter fun x => (x 0).val = b.val
def slM (b : Fin 4) : Finset S4x2x8x32x1.Idx := Finset.univ.filter fun x => (x 0).val = b.val
def slKB (p : Fin 2 × Fin 8) : Finset S2x8x2048x128.Idx := Finset.univ.filter fun x => (x 0).val = p.1.val ∧ (x 1).val = p.2.val

theorem mem_slO {b : Fin 4} {x : S4x8x32x128.Idx} : x ∈ slO b ↔ x 0 = b := by
  rw [slO, Finset.mem_filter]; exact ⟨fun h => Fin.ext h.2, fun h => ⟨Finset.mem_univ _, congrArg Fin.val h⟩⟩
theorem mem_slM {b : Fin 4} {x : S4x2x8x32x1.Idx} : x ∈ slM b ↔ x 0 = b := by
  rw [slM, Finset.mem_filter]; exact ⟨fun h => Fin.ext h.2, fun h => ⟨Finset.mem_univ _, congrArg Fin.val h⟩⟩
theorem mem_slKB {p : Fin 2 × Fin 8} {x : S2x8x2048x128.Idx} : x ∈ slKB p ↔ x 0 = p.1 ∧ x 1 = p.2 := by
  rw [slKB, Finset.mem_filter]; exact ⟨fun h => ⟨Fin.ext h.2.1, Fin.ext h.2.2⟩, fun h => ⟨Finset.mem_univ _, congrArg Fin.val h.1, congrArg Fin.val h.2⟩⟩

theorem slO_disj (b b' : Fin 4) (h : b ≠ b') : Disjoint (slO b) (slO b') :=
  Finset.disjoint_left.mpr fun x hx hx' => h ((mem_slO.mp hx).symm.trans (mem_slO.mp hx'))
theorem slM_disj (b b' : Fin 4) (h : b ≠ b') : Disjoint (slM b) (slM b') :=
  Finset.disjoint_left.mpr fun x hx hx' => h ((mem_slM.mp hx).symm.trans (mem_slM.mp hx'))
theorem slKB_disj (p p' : Fin 2 × Fin 8) (h : p ≠ p') : Disjoint (slKB p) (slKB p') :=
  Finset.disjoint_left.mpr fun x hx hx' => h (Prod.ext ((mem_slKB.mp hx).1.symm.trans (mem_slKB.mp hx').1) ((mem_slKB.mp hx).2.symm.trans (mem_slKB.mp hx').2))
theorem slO_cover : Finset.univ.biUnion slO = Finset.univ :=
  Finset.eq_univ_iff_forall.mpr fun x => Finset.mem_biUnion.mpr ⟨x 0, Finset.mem_univ _, mem_slO.mpr rfl⟩
theorem slM_cover : Finset.univ.biUnion slM = Finset.univ :=
  Finset.eq_univ_iff_forall.mpr fun x => Finset.mem_biUnion.mpr ⟨x 0, Finset.mem_univ _, mem_slM.mpr rfl⟩
theorem slKB_cover : Finset.univ.biUnion slKB = Finset.univ :=
  Finset.eq_univ_iff_forall.mpr fun x => Finset.mem_biUnion.mpr ⟨(x 0, x 1), Finset.mem_univ _, mem_slKB.mpr ⟨rfl, rfl⟩⟩

theorem rO_set (b : Fin 4) : (rO b).set = slO b := by
  ext x; rw [mem_slO]
  constructor
  · intro hx
    rw [← Rect.map_emb_univ, Finset.mem_map] at hx
    obtain ⟨y, -, rfl⟩ := hx
    rw [emb_rO]
  · intro hx
    rw [← Rect.map_emb_univ, Finset.mem_map]
    refine ⟨(ix4 0 (x 1) (x 2) (x 3) : S1x8x32x128.Idx), Finset.mem_univ _, ?_⟩
    rw [emb_rO]; subst hx; exact (eq_ix4 x).symm
theorem rM_set (b : Fin 4) : (rM b).set = slM b := by
  ext x; rw [mem_slM]
  constructor
  · intro hx
    rw [← Rect.map_emb_univ, Finset.mem_map] at hx
    obtain ⟨y, -, rfl⟩ := hx
    have h0 : (y 0).val < 1 := (y 0).isLt
    apply Fin.ext; show b.val + 1 * (y 0).val = b.val; omega
  · intro hx
    rw [← Rect.map_emb_univ, Finset.mem_map]
    refine ⟨(ix5 0 (x 1) (x 2) (x 3) (x 4) : S1x2x8x32x1.Idx), Finset.mem_univ _, ?_⟩
    subst hx
    funext a; apply Fin.ext
    match a with
    | ⟨0, _⟩ => show (x 0).val + 1 * 0 = (x 0).val; omega
    | ⟨1, _⟩ => show 0 + 1 * (x 1).val = (x 1).val; omega
    | ⟨2, _⟩ => show 0 + 1 * (x 2).val = (x 2).val; omega
    | ⟨3, _⟩ => show 0 + 1 * (x 3).val = (x 3).val; omega
    | ⟨4, _⟩ => show 0 + 1 * (x 4).val = (x 4).val; omega
theorem rKB_set (s : Fin 2) (h : Fin 8) : (rKB s h).set = slKB (s, h) := by
  ext x; rw [mem_slKB]
  constructor
  · intro hx
    rw [← Rect.map_emb_univ, Finset.mem_map] at hx
    obtain ⟨y, -, rfl⟩ := hx
    rw [emb_rKB]; exact ⟨rfl, rfl⟩
  · rintro ⟨hx, hx'⟩
    rw [← Rect.map_emb_univ, Finset.mem_map]
    refine ⟨(ix4 0 0 (x 2) (x 3) : S1x1x2048x128.Idx), Finset.mem_univ _, ?_⟩
    rw [emb_rKB]
    have e : s = x 0 := hx.symm
    have e' : h = x 1 := hx'.symm
    subst e e'; exact (eq_ix4 x).symm

/-! ## What a load reads -/

theorem pO_oA (c : Dev nD) (b : Fin 4) : pO (oA D c) b = fun y => vO D c b (y 1) (ix2 (y 2) (y 3)) := by
  funext y; unfold pO; rw [emb_rO]; rfl
theorem load_k (c : Dev nD) (b : Fin 4) (s : Fin 2) (h : Fin 8) : mKB.view.readAt (Elt F) (rKB s h).toLoadRect (kF D c b) = D.k c b h := by
  funext y
  refine (show _ = kF D c b ((rKB s h).emb y) from rfl).trans ?_
  rw [emb_rKB]
  exact congrArg (D.k c b h) (ix_11x2048x128 y).symm
theorem load_v (c : Dev nD) (b : Fin 4) (s : Fin 2) (h : Fin 8) : mVB.view.readAt (Elt F) (rKB s h).toLoadRect (vF D c b) = D.v c b h := by
  funext y
  refine (show _ = vF D c b ((rKB s h).emb y) from rfl).trans ?_
  rw [emb_rKB]
  exact congrArg (D.v c b h) (ix_11x2048x128 y).symm
theorem load_m1 (c : Dev nD) (b : Fin 4) (h : Fin 8) : mMl.view.readAt (Elt F) (rM1 b 0 h).toLoadRect (mlN D c h.val) = mInit := by
  funext y
  refine (show _ = mlN D c h.val ((rM1 b 0 h).emb y) from rfl).trans ?_
  rw [emb_rM1]; unfold mlN
  rw [if_neg (by show ¬ h.val < h.val; omega), if_pos (show (0 : Fin 2).val = 0 from rfl)]; rfl
theorem load_l1 (c : Dev nD) (b : Fin 4) (h : Fin 8) : mMl.view.readAt (Elt F) (rM1 b 1 h).toLoadRect (mlN D c h.val) = lInit := by
  funext y
  refine (show _ = mlN D c h.val ((rM1 b 1 h).emb y) from rfl).trans ?_
  rw [emb_rM1]; unfold mlN
  rw [if_neg (by show ¬ h.val < h.val; omega), if_neg (show ¬ (1 : Fin 2).val = 0 by decide)]; rfl

end Cert.KernelIdeal.Body

end
-- ==== Proof.Sched.lean ====
/- The protocol the devices keep between them. A device has one cell for the barrier, one for each of its
   sixteen outgoing copies and one for each of its sixteen incoming ones (four kinds, four batches). The
   barrier's two signals hand over the neighbours' landing slabs; an incoming copy's cell hands over the
   slab it landed in, with its contents; an outgoing copy's cell gives the source slab back. What a device
   still has to pay is a list of cells, shortened from the front; a wait is allowed while everything still
   owed lies on a higher level than the cell waited on. -/
module

public import proofs.«01_k».proof.Proof.Contents

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The algebra: the pipeline's copy, the protocol's, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## The neighbours -/

theorem xn_val (c : Dev nD) : (xn c).val = ((c.val % 2) + 2) - 2 * (c.val / 2) := k0_dev1_eq c
theorem yn_val (c : Dev nD) : (yn c).val = (2 * (c.val / 2) + 1) - (c.val % 2) := k0_dev2_eq c
theorem xn_xn (c : Dev nD) : xn (xn c) = c := by
  have h : c.val < 4 := c.isLt
  apply Fin.ext; rw [xn_val, xn_val]; omega
theorem yn_yn (c : Dev nD) : yn (yn c) = c := by
  have h : c.val < 4 := c.isLt
  apply Fin.ext; rw [yn_val, yn_val]; omega

/-- The neighbour across the rows (`false`), across the keys (`true`). -/
def peer (e : Bool) (c : Dev nD) : Dev nD := if e then yn c else xn c
theorem peer_peer (e : Bool) (c : Dev nD) : peer e (peer e c) = c := by
  cases e
  · exact xn_xn c
  · exact yn_yn c
/-- Which neighbour a kind of copy goes to. -/
def side (k : Fin 4) : Bool := decide (2 ≤ k.val)

/-! ## The cells -/

/-- The barrier (`none`); an outgoing (`false`) or incoming (`true`) copy's cell, by kind and batch. -/
abbrev CI : Type := Option (Bool × Fin 4 × Fin 4)

def csem : CI → SemLoc sig
  | none => .reg barSem
  | some (false, k, b) => .dma (sSem k b)
  | some (true, k, b) => .dma (rSem k b)

theorem csem_inj : Function.Injective csem := by
  unfold Function.Injective; decide

theorem csem_kv (i : CI) (k s : Fin 2) (h : Fin 8) : csem i ≠ .dma (kvSem k s h) := by
  revert i k s h; decide

open Classical in
/-- Which cell a semaphore is. -/
def ofSem (sm : SemLoc sig) : Option CI := if h : ∃ i, csem i = sm then some h.choose else none
theorem ofSem_csem (i : CI) : ofSem (csem i) = some i := by
  unfold ofSem
  rw [dif_pos ⟨i, rfl⟩]
  exact congrArg some (csem_inj (Exists.choose_spec (p := fun j => csem j = csem i) ⟨i, rfl⟩))
theorem ofSem_none {sm : SemLoc sig} (h : ∀ i, csem i ≠ sm) : ofSem sm = none := by
  unfold ofSem; rw [dif_neg]; rintro ⟨i, hi⟩; exact h i hi

abbrev kcell (ci : Dev nD × CI) : GSem nD τ sig := ((ci.1 : Thread nD τ), csem ci.2)
theorem kcell_inj : Function.Injective kcell := by
  rintro ⟨c, i⟩ ⟨c', i'⟩ h
  have h1 : (c : Thread nD τ) = (c' : Thread nD τ) := congrArg Prod.fst h
  have h2 : c = c' := congrArg Prod.fst h1
  have h3 : i = i' := csem_inj (congrArg Prod.snd h)
  rw [h2, h3]

/-- The units of a copy of a slab of weighted sums, and of maxima and sums. -/
abbrev NO : ℕ := (oSl mOr1 0).view.dmaCredit
abbrev NM : ℕ := (mSl mMl1 0).view.dmaCredit
theorem NO_pos : 0 < NO := View.dmaCredit_pos _ (by decide)
theorem NM_pos : 0 < NM := View.dmaCredit_pos _ (by decide)

def amtK (k : Fin 4) : ℕ := if k.val % 2 = 0 then NO else NM
def amt : CI → ℕ
  | none => 1
  | some (_, k, _) => amtK k
theorem amt_pos (i : CI) : 0 < amt i := by
  match i with
  | none => exact Nat.one_pos
  | some (_, k, _) => show 0 < amtK k; unfold amtK; split; exacts [NO_pos, NM_pos]

def lev : CI → ℕ
  | none => 1
  | some (false, _, _) => 0
  | some (true, k, b) => if k.val < 2 then 2 + b.val else 10

variable (D : Data F)

/-! ## What the cells hand over -/

/-- A neighbour's landing slabs of one exchange, and that its receive cells are open. -/
def land (e : Bool) (c : Dev nD) (b : Fin 4) : sProp 𝕄 :=
  if e then iprop((∃ f, mOr2.view.loc (c : Thread nD τ) ↦[slO b]{fullShare} f) ∗ (∃ f, mMl2.view.loc (c : Thread nD τ) ↦[slM b]{fullShare} f)
    ∗ reached ER (kcell (c, some (true, 2, b))) 0 ∗ reached ER (kcell (c, some (true, 3, b))) 0)
  else iprop((∃ f, mOr1.view.loc (c : Thread nD τ) ↦[slO b]{fullShare} f) ∗ (∃ f, mMl1.view.loc (c : Thread nD τ) ↦[slM b]{fullShare} f)
    ∗ reached ER (kcell (c, some (true, 0, b))) 0 ∗ reached ER (kcell (c, some (true, 1, b))) 0)

def sendPay (c : Dev nD) (k b : Fin 4) : sProp 𝕄 :=
  match k with
  | 0 => iprop(∃ f, mOxs.view.loc (c : Thread nD τ) ↦[slO b]{fullShare} f)
  | 1 => mMl.view.loc (c : Thread nD τ) ↦[slM b]{fullShare} mlA D c
  | 2 => iprop(∃ f, mOxs2.view.loc (c : Thread nD τ) ↦[slO b]{fullShare} f)
  | 3 => mMl.view.loc (c : Thread nD τ) ↦[slM b]{fullShare} mlB D c
def recvPay (c : Dev nD) (k b : Fin 4) : sProp 𝕄 :=
  match k with
  | 0 => mOr1.view.loc (c : Thread nD τ) ↦[slO b]{fullShare} x1 D (xn c)
  | 1 => mMl1.view.loc (c : Thread nD τ) ↦[slM b]{fullShare} mlA D (xn c)
  | 2 => mOr2.view.loc (c : Thread nD τ) ↦[slO b]{fullShare} x2 D (yn c)
  | 3 => mMl2.view.loc (c : Thread nD τ) ↦[slM b]{fullShare} mlB D (yn c)
def pay (c : Dev nD) (i : CI) (d : Bool) : sProp 𝕄 :=
  match i with
  | none => bigSep Finset.univ fun b => land d (peer d c) b
  | some (false, k, b) => sendPay D c k b
  | some (true, k, b) => recvPay D c k b

set_option synthInstance.maxHeartbeats 400000 in
instance land_storable (e : Bool) (c : Dev nD) (b : Fin 4) : BI.Storable (upEmb : UEmb _ 𝕄) (land (F := F) e c b) := by
  unfold land; split <;> infer_instance
instance sendPay_storable (c : Dev nD) (k b : Fin 4) : BI.Storable (upEmb : UEmb _ 𝕄) (sendPay D c k b) := by
  unfold sendPay; split <;> infer_instance
instance recvPay_storable (c : Dev nD) (k b : Fin 4) : BI.Storable (upEmb : UEmb _ 𝕄) (recvPay D c k b) := by
  unfold recvPay; split <;> infer_instance
instance pay_storable (c : Dev nD) (i : CI) (d : Bool) : BI.Storable (upEmb : UEmb _ 𝕄) (pay D c i d) := by
  unfold pay; split <;> infer_instance

/-! ## The schedule -/

def cellCI (g : GSem nD τ sig) : Option CI := if g.1.2 = .tc then ofSem g.2 else none
theorem cellCI_kcell (c : Dev nD) (i : CI) : cellCI (kcell (c, i)) = some i := by
  unfold cellCI; rw [if_pos rfl]; exact ofSem_csem i

def Rd : Rounds.Schedule (GSem nD τ sig) Bool 𝕄 where
  duties g r := if r = 0 then (match cellCI g with | none => ∅ | some none => Finset.univ | some (some _) => {false}) else ∅
  unitless _ := False
  amount g _ _ := match cellCI g with | none => 1 | some i => amt i
  payload g _ d := match cellCI g with | none => iprop(emp) | some i => pay D g.1.1 i d
  amount_pos g _ _ _ := by
    split
    · exact Nat.one_pos
    · exact amt_pos _

instance Rd_storable (g : GSem nD τ sig) (r : ℕ) (d : Bool) : BI.Storable (upEmb : UEmb _ 𝕄) ((Rd D).payload g r d) := by
  show BI.Storable upEmb (match cellCI g with | none => iprop(emp) | some i => pay D g.1.1 i d)
  split <;> infer_instance

section
variable (c : Dev nD)
theorem duties_bar : (Rd D).duties (kcell (c, none)) 0 = Finset.univ := by
  dsimp only [Rd]; rw [if_pos rfl, cellCI_kcell]
theorem duties_copy (x : Bool × Fin 4 × Fin 4) : (Rd D).duties (kcell (c, some x)) 0 = {false} := by
  dsimp only [Rd]; rw [if_pos rfl, cellCI_kcell]
theorem duties_later (g : GSem nD τ sig) : ∀ r, 1 ≤ r → (Rd D).duties g r = ∅ := fun r hr => by
  dsimp only [Rd]; rw [if_neg (by omega)]
theorem amount_eq (i : CI) (r : ℕ) (d : Bool) : (Rd D).amount (kcell (c, i)) r d = amt i := by
  dsimp only [Rd]; rw [cellCI_kcell]
theorem payload_eq (i : CI) (r : ℕ) (d : Bool) : (Rd D).payload (kcell (c, i)) r d = pay D c i d := by
  dsimp only [Rd]; rw [cellCI_kcell]
theorem expect_bar : (Rd D).expect (kcell (c, none)) 0 = 2 := by
  unfold Schedule.expect Schedule.amountOf
  rw [duties_bar, Finset.sum_congr rfl fun d _ => amount_eq D c none 0 d, Finset.sum_const, Finset.card_univ, Fintype.card_bool]; rfl
theorem expect_copy (x : Bool × Fin 4 × Fin 4) : (Rd D).expect (kcell (c, some x)) 0 = amt (some x) := by
  unfold Schedule.expect Schedule.amountOf
  rw [duties_copy, Finset.sum_singleton, amount_eq]
theorem rest_bar : bigSep ((Rd D).duties (kcell (c, none)) 0 \ ∅) (fun d => (Rd D).payload (kcell (c, none)) 0 d) = iprop(pay D c none false ∗ pay D c none true) := by
  rw [Finset.sdiff_empty, duties_bar, bigSep_univ_eq_bigSepL [false, true] (by decide) (by decide), bigSepL_cons_cons, bigSepL_singleton,
    payload_eq, payload_eq]
  rfl
theorem rest_copy (x : Bool × Fin 4 × Fin 4) : bigSep ((Rd D).duties (kcell (c, some x)) 0 \ ∅) (fun d => (Rd D).payload (kcell (c, some x)) 0 d) = pay D c (some x) false := by
  rw [Finset.sdiff_empty, duties_copy, bigSep_singleton, payload_eq]
end

/-! ## What is owed, and the levels -/

/-- A payment: which neighbour's cell. -/
abbrev Pay : Type := Bool × CI
def payCell (c : Dev nD) (a : Pay) : GSem nD τ sig := kcell (peer a.1 c, a.2)
def OL (c : Dev nD) : List Pay → CellTallies nD τ sig Unit
  | [] => 0
  | a :: l => OL c l + tallyAt (payCell c a) () (amt a.2)

/-- The two slabs of exchange `e` of batch `b`. -/
abbrev payO (e : Bool) (b : Fin 4) : Pay := (e, some (true, if e then 2 else 0, b))
abbrev payM (e : Bool) (b : Fin 4) : Pay := (e, some (true, if e then 3 else 1, b))
abbrev owed4 : List Pay := []
abbrev owed3 : List Pay := [payO false 3, payM false 3, payO true 2, payM true 2, payO true 3, payM true 3]
abbrev owed2 : List Pay := payO false 2 :: payM false 2 :: payO true 1 :: payM true 1 :: owed3
abbrev owed1 : List Pay := payO false 1 :: payM false 1 :: payO true 0 :: payM true 0 :: owed2
abbrev owedB : List Pay := payO false 0 :: payM false 0 :: owed1
abbrev owed0 : List Pay := (false, none) :: (true, none) :: owedB

def L (g : GSem nD τ sig) : Finset Unit := if g.1.2 = .tc then {()} else ∅
def lv (g : GSem nD τ sig) (_ : Unit) : ℕ := match ofSem g.2 with | none => 0 | some i => lev i

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (i : CI) (u : Unit) : lv (kcell (c, i)) u = lev i := by
  unfold lv; rw [ofSem_csem]

theorem OL_pos {c : Dev nD} {l : List Pay} {g : GSem nD τ sig} {u : Unit} (h : 0 < OL c l g u) : ∃ a ∈ l, g = payCell c a := by
  induction l with
  | nil => exact absurd h (Nat.lt_irrefl 0)
  | cons a l ih =>
    by_cases hg : g = payCell c a
    · exact ⟨a, List.mem_cons_self, hg⟩
    · unfold OL at h
      rw [Pi.add_apply, Finsupp.add_apply, tallyAt_apply, if_neg (fun h' => hg h'.1), Nat.add_zero] at h
      obtain ⟨a', ha, e⟩ := ih h
      exact ⟨a', List.mem_cons_of_mem _ ha, e⟩

theorem mayWait_lt (c : Dev nD) (sm : SemLoc sig) (n : ℕ) (hn : lv ((c : Thread nD τ), sm) () ≤ n) (l : List Pay) (hl : ∀ a ∈ l, n < lev a.2) :
    (levAts L lv : sProp 𝕄) ⊢ MayWait (c : Thread nD τ) sm () (OL c l) := by
  refine MayOwe.of_cut (L := L) (lev := lv) n (fun p hp => by rw [Finset.mem_singleton.mp hp, L_tc]; exact Finset.mem_singleton_self _)
      (fun g u hg => ?_)
      (fun p hp => by rw [Finset.mem_singleton.mp hp]; exact hn)
      (fun g u hg => ?_)
  · obtain ⟨a, ha, rfl⟩ := OL_pos hg; exact Finset.mem_singleton_self _
  · obtain ⟨a, ha, rfl⟩ := OL_pos hg
    unfold payCell; rw [lv_kcell]; exact hl a ha

theorem mayWait_cell (c : Dev nD) (i : CI) (l : List Pay) (hl : ∀ a ∈ l, lev i < lev a.2) :
    (levAts L lv : sProp 𝕄) ⊢ MayWait (c : Thread nD τ) (csem i) () (OL c l) :=
  mayWait_lt c (csem i) (lev i) (le_of_eq (lv_kcell c i ())) l hl

theorem mayWait_other (c : Dev nD) (sm : SemLoc sig) (hsm : ∀ i, csem i ≠ sm) (l : List Pay) (hl : ∀ a ∈ l, 0 < lev a.2) :
    (levAts L lv : sProp 𝕄) ⊢ MayWait (c : Thread nD τ) sm () (OL c l) :=
  mayWait_lt c sm 0 (by unfold lv; rw [ofSem_none hsm]) l hl

/-- What the device owes, whatever it has waited on. -/
def ow (c : Dev nD) (l : List Pay) : sProp 𝕄 := iprop(∃ W, owes (c : Thread nD τ) (OL c l) W)

/-! ## The records every device shares, and its own tokens -/

abbrev Names : Type := Dev nD × CI → ℕ

def recs (K : Names) : sProp 𝕄 :=
  iprop((bigSep Finset.univ fun ci => cellInv ER (Rd D) (K ci) (kcell ci)) ∗ (bigSep Finset.univ fun d => reached ER (kcell (d, none)) 0) ∗ levAts L lv)
instance recs_persistent (K : Names) : BI.Persistent (recs D K) := by unfold recs; infer_instance

theorem recs_inv (K : Names) (ci : Dev nD × CI) : recs D K ⊢ cellInv ER (Rd D) (K ci) (kcell ci) := by
  unfold recs; iintro ⟨H, -, -⟩
  ihave H := (show (bigSep Finset.univ fun ci => cellInv ER (Rd D) (K ci) (kcell ci) : sProp 𝕄) ⊢ _ from bigSep_elim (Finset.mem_univ ci)) $$ H
  iexact H
theorem recs_reached (K : Names) (d : Dev nD) : recs D K ⊢ reached ER (kcell (d, none)) 0 := by
  unfold recs; iintro ⟨-, H, -⟩
  ihave H := (show (bigSep Finset.univ fun d => reached ER (kcell (d, none)) 0 : sProp 𝕄) ⊢ _ from bigSep_elim (Finset.mem_univ d)) $$ H
  iexact H
theorem recs_lev (K : Names) : recs D K ⊢ levAts L lv := by
  unfold recs; iintro ⟨-, -, H⟩; iexact H

/-- The positions and credit of one copy, sent or not. -/
def ends (c : Dev nD) (k b : Fin 4) : sProp 𝕄 :=
  iprop(atPos ER (kcell (c, some (false, k, b))) 0 ∅ 0 ∗ atPos ER (kcell (c, some (true, k, b))) 0 ∅ 0 ∗ cred (tallyAt (kcell (c, some (true, k, b))) () (amtK k)))
/-- A copy's tokens before it is sent, -/
def toks (c : Dev nD) (k b : Fin 4) : sProp 𝕄 :=
  iprop(ends c k b ∗ reached ER (kcell (c, some (false, k, b))) 0 ∗ dutyTok ER (kcell (c, some (false, k, b))) 0 false ∗ dutyTok ER (kcell (peer (side k) c, some (true, k, b))) 0 false)
/-- while it is under way, -/
def mid (c : Dev nD) (k b : Fin 4) : sProp 𝕄 :=
  iprop(ends c k b ∗ cred (tallyAt (kcell (c, some (false, k, b))) () (amtK k)))
/-- and after both waits. -/
def done (c : Dev nD) (k b : Fin 4) : sProp 𝕄 :=
  iprop(semVal (kcell (c, some (false, k, b))) 0 ∗ semVal (kcell (c, some (true, k, b))) 0)

end Cert.KernelIdeal.Body

end
-- ==== Proof.Rules.lean ====
/- Rules for one step of the body in the form the pieces use them: a load whose value is known, a store
   whose outcome on the held elements is known, a wait on one of the protocol's cells, a send. -/
module

public import proofs.«01_k».proof.Proof.Sched

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-- The weakest precondition of a piece on device `c`. -/
abbrev WP (c : Dev nD) {α : Type} (p : Prg F α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

variable (D : Data F) (K : Names) (c : Dev nD) {α : Type} {Q : α → sProp (MT nD τ sig Unit (Elt F) ℕ UU ℕ)}

theorem wp_load_as {cs : CoreSpace} {s : Shape} {e : EltTy} {m : Memref sig .tc cs s e} {r : LoadRect s} {hl : m.view.LoadsAt r}
    {k : (r.shape.Idx → Elt F e) → Prg F α} {S : Finset (Idx (m.view.loc (c : Thread nD τ)))} {q : PosShare TreeShare}
    {f : Buf (Elt F) (m.view.loc (c : Thread nD τ))} (hS : m.view.setOn r.set ⊆ S) {x : r.shape.Idx → Elt F e} (hx : m.view.readAt (Elt F) r f = x) :
    (m.view.loc (c : Thread nD τ) ↦[S]{q} f : sProp 𝕄)
      ⊢ iprop(((m.view.loc (c : Thread nD τ) ↦[S]{q} f) -∗ WP c (k x) Q) -∗ WP c (.op (.load m r hl) k) Q) := by
  subst hx; exact wp_load 𝒱₀ (c : Thread nD τ) none Set.univ hS

theorem wp_store_as {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prg F α} {S : Finset (Idx ((m.access r).loc (c : Thread nD τ)))}
    {f g : Buf (Elt F) ((m.access r).loc (c : Thread nD τ))}
    (hS : (m.access r).setOn Finset.univ ⊆ S)
    (hw : ∀ y, _root_.cast (congrArg (Elt F) (m.access r).elt_eq.symm) (w y) = g ((m.access r).emb y))
    (hf : ∀ i ∈ S, (∃ y, i = (m.access r).emb y) ∨ f i = g i) :
    ((m.access r).loc (c : Thread nD τ) ↦[S]{fullShare} f : sProp 𝕄)
      ⊢ iprop((((m.access r).loc (c : Thread nD τ) ↦[S]{fullShare} g) -∗ WP c (k ⟨⟩) Q) -∗ WP c (.op (.store m r w Finset.univ hx hm) k) Q) := by
  have e : ((m.access r).loc (c : Thread nD τ) ↦[S]{fullShare} ((m.access r).write (Elt F) f w Finset.univ) : sProp 𝕄)
      = ((m.access r).loc (c : Thread nD τ) ↦[S]{fullShare} g) := pointsTo_congr fun i hi => by
    by_cases hy : ∃ y, i = (m.access r).emb y
    · obtain ⟨y, rfl⟩ := hy
      exact (View.write_emb_of_mem _ _ (Finset.mem_univ y)).trans (hw y)
    · refine (View.write_of_not_mem _ _ _ fun hi' => ?_).trans ((hf i hi).resolve_left hy)
      rw [View.setOn, Finset.mem_map] at hi'
      obtain ⟨y, -, rfl⟩ := hi'
      exact hy ⟨y, rfl⟩
  rw [← e]
  exact wp_store 𝒱₀ (c : Thread nD τ) none Set.univ hS

/-- A wait on a copy's cell: its payload, and the cell closed. -/
theorem wp_wait_cell (l : List Pay) (x : Bool × Fin 4 × Fin 4) {sem : DmaSem sig} (hsem : csem (some x) = .dma sem)
    {s s' : Shape} {e e' : EltTy} {sp sp' : Space} {κ' : Kind} {srcw : Memref sig .tc sp' s' e'} {dstw : Memref sig κ' sp s e}
    {hsrc : srcw.view.WordExact} {hdst : dstw.view.WordExact} {k : PUnit → Prg F α}
    (hN : dstw.view.dmaCredit = amt (some x)) (hl : ∀ a ∈ l, lev (some x) < lev a.2) :
    iprop(recs D K ∗ cred (tallyAt (kcell (c, some x)) () (amt (some x))) ∗ ow c l ∗ atPos ER (kcell (c, some x)) 0 ∅ 0)
      ⊢ iprop(((ow c l ∗ semVal (kcell (c, some x)) 0 ∗ pay D c (some x) false) -∗ WP c (k ⟨⟩) Q)
          -∗ WP c (.op (.waitDma2 sem srcw dstw hsrc hdst) k) Q) := by
  unfold ow
  iintro ⟨#Hrec, Hc, ⟨%W, HO⟩, Hat⟩ Hk
  ihave #Hinv := (recs_inv D K (c, some x)) $$ Hrec
  rw [← hN]
  unfold kcell
  dsimp only
  rw [hsem]
  iapply (Rounds.wp_wait_rest_token 𝒱₀ ER (Rd D) (c : Thread nD τ) none (κ := K (c, some x))
      (wpE_waitDma2_eq 𝒱₀ (c : Thread nD τ) none Set.univ) (Set.mem_univ _) () (O := OL c l) (W := W) (R := 0) (m := 0) (T := ∅)
      (by rw [Nat.zero_add, ← hsem, expect_copy, hN])) $$ [Hc HO Hat]
  · isplitr; · iexact Hinv
    isplitl [Hc]; · iexact Hc
    isplitl [HO]; · iexact HO
    isplitr
    · ihave Hlev := (recs_lev D K) $$ Hrec
      rw [← hsem]
      iapply (mayWait_cell c (some x) l hl); iexact Hlev
    iexact Hat
  iintro ⟨HO, Hat, -, Hpay⟩
  imod (Rounds.cell_close ER (Rd D) (Set.mem_univ (K (c, some x))) (fun h => h) (R := 0 + 1) (duties_later D _)) $$ [Hat] with Hz
  · isplitr; · iexact Hinv
    iexact Hat
  iapply Hk
  isplitl [HO]; · iexists _; iexact HO
  isplitl [Hz]; · iexact Hz
  rw [← hsem]
  ihave Hp := (Entails.of_eq (rest_copy D c x)) $$ Hpay
  iexact Hp

/-- A send: it pays the peer's cell, and its own cell holds the credit. -/
theorem wp_send_cell (l : List Pay) (e' : Bool) (k b : Fin 4) (hk : side k = e') {s : Shape} {e : EltTy} {sp sp' : Space}
    (n : Dev nD) (hn : n = peer e' c)
    {src : Memref sig .tc sp s e} {dst : Memref sig (Dev.tc n : Thread nD τ).2.kind sp' s e} {hsc : dst.view.ref.isScScratch = false}
    {hsrc : src.view.WordExact} {hdst : dst.view.WordExact} {hsem : DmaTarget.Typed sp (.dma (rSem k b)) (.remote (Dev.tc n) dst (.dma (sSem k b)) hsc)}
    {kk : PUnit → Prg F α} (hN : dst.view.dmaCredit = amtK k)
    {fs : Buf (Elt F) (src.view.loc (c : Thread nD τ))} {fd : Buf (Elt F) (dst.view.loc (n : Thread nD τ))}
    (h1 : (src.view.loc (c : Thread nD τ) ↦[src.view.set]{fullShare} fs : sProp 𝕄) ⊢ sendPay D c k b)
    (h2 : (dst.view.loc (n : Thread nD τ) ↦[dst.view.set]{fullShare} (dst.view.write (Elt F) fd (src.view.read (Elt F) fs) Finset.univ) : sProp 𝕄) ⊢ recvPay D n k b) :
    iprop(recs D K ∗ (src.view.loc (c : Thread nD τ) ↦[src.view.set]{fullShare} fs) ∗ (dst.view.loc (n : Thread nD τ) ↦[dst.view.set]{fullShare} fd)
        ∗ ow c ((e', some (true, k, b)) :: l) ∗ toks c k b ∗ reached ER (kcell (peer e' c, some (true, k, b))) 0)
      ⊢ iprop(((mid c k b ∗ ow c l) -∗ WP c (kk ⟨⟩) Q)
          -∗ WP c (.op (.enqueueDma src (.remote (Dev.tc n) dst (.dma (sSem k b)) hsc) (.dma (rSem k b)) hsrc hdst hsem) kk) Q) := by
  unfold ow toks mid
  rw [hk]
  subst hn
  iintro ⟨#Hrec, Hs, Hd, ⟨%W, HO⟩, ⟨He, #Hr1, Ht1, Ht2⟩, #Hr2⟩ Hk
  ihave #Hinv1 := (recs_inv D K (c, some (false, k, b))) $$ Hrec
  ihave #Hinv2 := (recs_inv D K (peer e' c, some (true, k, b))) $$ Hrec
  iapply (Rounds.wp_send_pointsTo 𝒱₀ ER (Rd D) (c : Thread nD τ) none (κ₁ := K (c, some (false, k, b))) (κ₂ := K (peer e' c, some (true, k, b)))
    (src := src) (dst := dst) (r₁ := 0) (r₂ := 0) (d₁ := false) (d₂ := false) (fd := fd) (fs := fs)
    (by show false ∈ (Rd D).duties (kcell (c, some (false, k, b))) 0; rw [duties_copy]; exact Finset.mem_singleton_self _)
    (by show false ∈ (Rd D).duties (kcell (peer e' c, some (true, k, b))) 0; rw [duties_copy]; exact Finset.mem_singleton_self _)
    () () (amtK k) (sem := .dma (rSem k b)) (show dst.view.amount (.dma (rSem k b)) = amtK k from hN) (amount_eq D c (some (false, k, b)) 0 false) (amount_eq D (peer e' c) (some (true, k, b)) 0 false) (OL c l) rfl (W := W)
    (by show _ ⊢ (Rd D).payload (kcell (c, some (false, k, b))) 0 false; rw [payload_eq]; exact h1)
    (by show _ ⊢ (Rd D).payload (kcell (peer e' c, some (true, k, b))) 0 false; rw [payload_eq]; exact h2)) $$ [Hs Hd HO Ht1 Ht2]
  · isplitr; · iexact Hinv1
    isplitr; · iexact Hinv2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [He Hc]
  · isplitl [He]; · iexact He
    iexact Hc
  iexists W; iexact HO

/-! ## Sequencing -/

theorem WP_bind {β : Type} (p : Prg F β) (k : β → Prg F α) : WP c (p >>= k) Q = WP c p (fun a => WP c (k a) Q) := wp_bind _ _ _ _ _ _

theorem WP_ret (a : α) (Q : α → sProp (MT nD τ sig Unit (Elt F) ℕ UU ℕ)) : Q a ⊢ WP c (.ret a) Q := by
  unfold WP; rw [wp_ret]; iintro H; imodintro; iexact H

theorem bigSep8 (A : Fin 8 → sProp (MT nD τ sig Unit (Elt F) ℕ UU ℕ)) :
    bigSep Finset.univ A = iprop(A 0 ∗ A 1 ∗ A 2 ∗ A 3 ∗ A 4 ∗ A 5 ∗ A 6 ∗ A 7) :=
  bigSep_univ_eq_bigSepL [(0 : Fin 8), 1, 2, 3, 4, 5, 6, 7] (by decide) (by decide) A
theorem bigSep4 (A : Fin 4 → sProp (MT nD τ sig Unit (Elt F) ℕ UU ℕ)) :
    bigSep Finset.univ A = iprop(A 0 ∗ A 1 ∗ A 2 ∗ A 3) :=
  bigSep_univ_eq_bigSepL [(0 : Fin 4), 1, 2, 3] (by decide) (by decide) A

/-- Eight steps, each taking its own part `A h` to `B h` beside a running state `I`. -/
theorem wp_each8 (f : Fin 8 → Prg F PUnit) (I : ℕ → sProp (MT nD τ sig Unit (Elt F) ℕ UU ℕ)) (A B : Fin 8 → sProp (MT nD τ sig Unit (Elt F) ℕ UU ℕ))
    (h : ∀ (h : Fin 8) (Kt : PUnit → sProp (MT nD τ sig Unit (Elt F) ℕ UU ℕ)), iprop(I h.val ∗ A h ∗ ((I (h.val + 1) ∗ B h) -∗ Kt ⟨⟩)) ⊢ WP c (f h) Kt)
    (Kt : PUnit → sProp (MT nD τ sig Unit (Elt F) ℕ UU ℕ)) :
    iprop(I 0 ∗ bigSep Finset.univ A ∗ ((I 8 ∗ bigSep Finset.univ B) -∗ Kt ⟨⟩)) ⊢ WP c (each8 f) Kt := by
  have h0 : ∀ Kt : PUnit → sProp (MT nD τ sig Unit (Elt F) ℕ UU ℕ), iprop(I 0 ∗ A 0 ∗ ((I 1 ∗ B 0) -∗ Kt ⟨⟩)) ⊢ WP c (f 0) Kt := h 0
  have h1 : ∀ Kt : PUnit → sProp (MT nD τ sig Unit (Elt F) ℕ UU ℕ), iprop(I 1 ∗ A 1 ∗ ((I 2 ∗ B 1) -∗ Kt ⟨⟩)) ⊢ WP c (f 1) Kt := h 1
  have h2 : ∀ Kt : PUnit → sProp (MT nD τ sig Unit (Elt F) ℕ UU ℕ), iprop(I 2 ∗ A 2 ∗ ((I 3 ∗ B 2) -∗ Kt ⟨⟩)) ⊢ WP c (f 2) Kt := h 2
  have h3 : ∀ Kt : PUnit → sProp (MT nD τ sig Unit (Elt F) ℕ UU ℕ), iprop(I 3 ∗ A 3 ∗ ((I 4 ∗ B 3) -∗ Kt ⟨⟩)) ⊢ WP c (f 3) Kt := h 3
  have h4 : ∀ Kt : PUnit → sProp (MT nD τ sig Unit (Elt F) ℕ UU ℕ), iprop(I 4 ∗ A 4 ∗ ((I 5 ∗ B 4) -∗ Kt ⟨⟩)) ⊢ WP c (f 4) Kt := h 4
  have h5 : ∀ Kt : PUnit → sProp (MT nD τ sig Unit (Elt F) ℕ UU ℕ), iprop(I 5 ∗ A 5 ∗ ((I 6 ∗ B 5) -∗ Kt ⟨⟩)) ⊢ WP c (f 5) Kt := h 5
  have h6 : ∀ Kt : PUnit → sProp (MT nD τ sig Unit (Elt F) ℕ UU ℕ), iprop(I 6 ∗ A 6 ∗ ((I 7 ∗ B 6) -∗ Kt ⟨⟩)) ⊢ WP c (f 6) Kt := h 6
  have h7 : ∀ Kt : PUnit → sProp (MT nD τ sig Unit (Elt F) ℕ UU ℕ), iprop(I 7 ∗ A 7 ∗ ((I 8 ∗ B 7) -∗ Kt ⟨⟩)) ⊢ WP c (f 7) Kt := h 7
  rw [bigSep8 A, bigSep8 B]
  unfold each8
  simp only [WP_bind]
  iintro ⟨HI, ⟨H0, H1, H2, H3, H4, H5, H6, H7⟩, Hk⟩
  iapply h0; isplitl [HI]; · iexact HI
  isplitl [H0]; · iexact H0
  iintro ⟨HI, H0⟩
  iapply h1; isplitl [HI]; · iexact HI
  isplitl [H1]; · iexact H1
  iintro ⟨HI, H1⟩
  iapply h2; isplitl [HI]; · iexact HI
  isplitl [H2]; · iexact H2
  iintro ⟨HI, H2⟩
  iapply h3; isplitl [HI]; · iexact HI
  isplitl [H3]; · iexact H3
  iintro ⟨HI, H3⟩
  iapply h4; isplitl [HI]; · iexact HI
  isplitl [H4]; · iexact H4
  iintro ⟨HI, H4⟩
  iapply h5; isplitl [HI]; · iexact HI
  isplitl [H5]; · iexact H5
  iintro ⟨HI, H5⟩
  iapply h6; isplitl [HI]; · iexact HI
  isplitl [H6]; · iexact H6
  iintro ⟨HI, H6⟩
  iapply h7; isplitl [HI]; · iexact HI
  isplitl [H7]; · iexact H7
  iintro ⟨HI, H7⟩
  iapply Hk
  isplitl [HI]; · iexact HI
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Body

end
-- ==== Proof.Local.lean ====
/- The pieces that only compute: the first maxima and sums, one head's arithmetic, the first merge, the
   last. Each takes its batch's slabs from one stage's contents to the next's. -/
module

public import proofs.«01_k».proof.Proof.Rules

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The elements a rectangle reads or writes -/

theorem setOn_whole (b : Ref sig .tc) (M : Finset b.ty.Idx) : (View.whole b).setOn M = M := Finset.map_refl

theorem set_access (b : Ref sig .tc) (r : Rect b.ty.shape) : ((Memref.whole b).access r).setOn Finset.univ = r.set := by
  rw [← Rect.map_emb_univ]; rfl

theorem sub_rO1 (b : Fin 4) (h : Fin 8) : (rO1 b h).set ⊆ slO b := fun x hx => by
  rw [← Rect.map_emb_univ, Finset.mem_map] at hx
  obtain ⟨y, -, rfl⟩ := hx
  rw [emb_rO1]; exact mem_slO.mpr rfl
theorem sub_rM1 (b : Fin 4) (j : Fin 2) (h : Fin 8) : (rM1 b j h).set ⊆ slM b := fun x hx => by
  rw [← Rect.map_emb_univ, Finset.mem_map] at hx
  obtain ⟨y, -, rfl⟩ := hx
  rw [emb_rM1]; exact mem_slM.mpr rfl
theorem sub_rM8 (b : Fin 4) (j : Fin 2) : (rM8 b j).set ⊆ slM b := fun x hx => by
  rw [← Rect.map_emb_univ, Finset.mem_map] at hx
  obtain ⟨y, -, rfl⟩ := hx
  rw [emb_rM8]; exact mem_slM.mpr rfl

theorem in_rO1 {b : Fin 4} {h : Fin 8} {x : S4x8x32x128.Idx} (h0 : x 0 = b) (h1 : x 1 = h) : ∃ y, x = (rO1 b h).emb y := by
  refine ⟨(ix4 0 0 (x 2) (x 3) : S1x1x32x128.Idx), ?_⟩
  subst h0 h1; exact (eq_ix4 x).trans (emb_rO1 (x 0) (x 1) (ix4 0 0 (x 2) (x 3) : S1x1x32x128.Idx)).symm
theorem in_rO {b : Fin 4} {x : S4x8x32x128.Idx} (h0 : x ∈ slO b) : ∃ y, x = (rO b).emb y := by
  refine ⟨(ix4 0 (x 1) (x 2) (x 3) : S1x8x32x128.Idx), ?_⟩
  have h0 := mem_slO.mp h0
  subst h0; exact (eq_ix4 x).trans (emb_rO (x 0) (ix4 0 (x 1) (x 2) (x 3) : S1x8x32x128.Idx)).symm
theorem in_rM1 {b : Fin 4} {j : Fin 2} {h : Fin 8} {x : S4x2x8x32x1.Idx} (h0 : x 0 = b) (h1 : x 1 = j) (h2 : x 2 = h) : ∃ y, x = (rM1 b j h).emb y := by
  refine ⟨(ix5 0 0 0 (x 3) (x 4) : S1x1x1x32x1.Idx), ?_⟩
  subst h0 h1 h2; exact (eq_ix5 x).trans (emb_rM1 (x 0) (x 1) (x 2) (ix5 0 0 0 (x 3) (x 4) : S1x1x1x32x1.Idx)).symm
theorem in_rM8 {b : Fin 4} {j : Fin 2} {x : S4x2x8x32x1.Idx} (h0 : x 0 = b) (h1 : x 1 = j) : ∃ y, x = (rM8 b j).emb y := by
  refine ⟨(ix5 0 0 (x 2) (x 3) (x 4) : S1x1x8x32x1.Idx), ?_⟩
  subst h0 h1; exact (eq_ix5 x).trans (emb_rM8 (x 0) (x 1) (ix5 0 0 (x 2) (x 3) (x 4) : S1x1x8x32x1.Idx)).symm
theorem in_rR {b : Fin 4} {h : Fin 8} {x : S4x32x8x128.Idx} (h0 : x 0 = b) (h2 : x 2 = h) : ∃ y, x = (rR b h).emb y := by
  refine ⟨(ix4 0 (x 1) 0 (x 3) : S1x32x1x128.Idx), ?_⟩
  subst h0 h2; exact (eq_ix4 x).trans (emb_rR (x 0) (x 2) (ix4 0 (x 1) 0 (x 3) : S1x32x1x128.Idx)).symm
theorem fin2_of_ne {j : Fin 2} (h : ¬ j.val = 0) : j = 1 := by
  apply Fin.ext; show j.val = 1; have := j.isLt; omega
theorem fin2_of_eq {j : Fin 2} (h : j.val = 0) : j = 0 := Fin.ext h

/-- Contents that agree with `g` where the first coordinate of a pair is `0` and with `f` elsewhere. -/
def half {α : Type} (f g : S4x2x8x32x1.Idx → α) : S4x2x8x32x1.Idx → α := fun x => if (x 1).val = 0 then g x else f x
theorem half_0 {α : Type} {f g : S4x2x8x32x1.Idx → α} {x : S4x2x8x32x1.Idx} (h : (x 1).val = 0) : half f g x = g x := if_pos h
theorem half_1 {α : Type} {f g : S4x2x8x32x1.Idx → α} {x : S4x2x8x32x1.Idx} (h : ¬ (x 1).val = 0) : half f g x = f x := if_neg h

variable (D : Data F) (c : Dev nD) (Kt : PUnit → sProp (MT nD τ sig Unit (Elt F) ℕ UU ℕ))

/-! ## The first maxima and sums -/

theorem init_m (y : S1x1x8x32x1.Idx) : k0_pay5 (F := F) y = k0_pay5 (F := F) (ix5 0 0 0 0 0) := rfl
theorem init_l (y : S1x1x8x32x1.Idx) : k0_pay6 (F := F) y = k0_pay6 (F := F) (ix5 0 0 0 0 0) := rfl

theorem wp_initB (b : Fin 4) :
    iprop((∃ f, mMl.view.loc (c : Thread nD τ) ↦[slM b]{fullShare} f)
        ∗ ((mMl.view.loc (c : Thread nD τ) ↦[slM b]{fullShare} mlN D c 0) -∗ Kt ⟨⟩)) ⊢ WP c (initB (F := F) b) Kt := by
  unfold initB
  simp only [Prog.lift, Prog.bind_op, Prog.bind_ret, Prog.pure_eq_ret]
  iintro ⟨⟨%f, H⟩, Hk⟩
  iapply (wp_load_as c (m := mMl) (by rw [setOn_whole]; exact sub_rM8 b 0) rfl) $$ H; iintro H
  iapply (wp_store_as c (m := mMl) (r := rM8 b 0) (f := f) (g := half f (mlN D c 0)) (by rw [set_access]; exact sub_rM8 b 0)
    (fun y => by
      show k0_pay5 (F := F) y = half f (mlN D c 0) ((rM8 b 0).emb y)
      rw [emb_rM8]; exact (half_0 (f := f) (g := mlN D c 0) (x := ix5 b 0 (y 2) (y 3) (y 4)) rfl).symm)
    (fun i hi => by
      by_cases hj : (i 1).val = 0
      · exact .inl (in_rM8 (mem_slM.mp hi) (fin2_of_eq hj))
      · exact .inr (half_1 hj).symm)) $$ H; iintro H
  iapply (wp_load_as c (m := mMl) (by rw [setOn_whole]; exact sub_rM8 b 1) rfl) $$ H; iintro H
  iapply (wp_store_as c (m := mMl) (r := rM8 b 1) (f := half f (mlN D c 0)) (g := mlN D c 0) (by rw [set_access]; exact sub_rM8 b 1)
    (fun y => by
      show k0_pay6 (F := F) y = mlN D c 0 ((rM8 b 1).emb y)
      rw [emb_rM8]; rfl)
    (fun i hi => by
      by_cases hj : (i 1).val = 0
      · exact .inr (half_0 hj)
      · exact .inl (in_rM8 (mem_slM.mp hi) (fin2_of_ne hj)))) $$ H; iintro H
  iapply (WP_ret c)
  iapply Hk; iexact H

/-! ## One head -/

/-- One head's step after its keys and values have landed. -/
def headC (b : Fin 4) (s : Fin 2) (q : FVec F S32x8x128 .bf16) (h : Fin 8) : Prg F PUnit := do
  let k : Vec F S1x1x2048x128 .f32 ← Prog.lift (.load mKB (rKB s h).toLoadRect (View.loadsAt_vmem h_S1x1x2048x128))
  let vv : Vec F S1x1x2048x128 .f32 ← Prog.lift (.load mVB (rKB s h).toLoadRect (View.loadsAt_vmem h_S1x1x2048x128))
  let mo : Vec F S1x1x1x32x1 .f32 ← Prog.lift (.load mMl (rM1 b 0 h).toLoadRect (View.loadsAt_vmem h_S1x1x1x32x1))
  let lo : Vec F S1x1x1x32x1 .f32 ← Prog.lift (.load mMl (rM1 b 1 h).toLoadRect (View.loadsAt_vmem h_S1x1x1x32x1))
  let o : Vec F S1x1x32x128 .f32 ← Prog.lift (.load mOun (rO1 b h).toLoadRect (View.loadsAt_vmem h_S1x1x32x128))
  let _ ← Prog.lift (.load mOun (rO1 b h).toLoadRect (View.loadsAt_vmem h_S1x1x32x128))
  Prog.lift (.store mOun (rO1 b h) (hO h q k vv mo o) Finset.univ (View.stores_vmem_bits_univ h_S1x1x32x128 rfl) (.inl rfl))
  let _ ← Prog.lift (.load mMl (rM1 b 0 h).toLoadRect (View.loadsAt_vmem h_S1x1x1x32x1))
  Prog.lift (.store mMl (rM1 b 0 h) (shapeCast S1x1x1x32x1 (hM h q k mo) shapeCasts_S32x1_S1x1x1x32x1) Finset.univ (View.stores_vmem_bits_univ h_S1x1x1x32x1 rfl) (.inl rfl))
  let _ ← Prog.lift (.load mMl (rM1 b 1 h).toLoadRect (View.loadsAt_vmem h_S1x1x1x32x1))
  Prog.lift (.store mMl (rM1 b 1 h) (shapeCast S1x1x1x32x1 (hL h q k mo lo) shapeCasts_S32x1_S1x1x1x32x1) Finset.univ (View.stores_vmem_bits_univ h_S1x1x1x32x1 rfl) (.inl rfl))

/-- A column laid out as a buffer's rows. -/
theorem col_apply' (x : S32x1.Idx → Elt F .f32) (i : Fin 32) (j : Fin 1) : shapeCast S1x1x1x32x1 x shapeCasts_S32x1_S1x1x1x32x1 (ix5 0 0 0 i j) = x (ix2 i j) := by
  refine shapeCast_apply _ _ _ _ ?_
  rw [Shape.rowMajor_val_two, Shape.rowMajor_val_five]
  show i.val * 1 + j.val = (((0 * 1 + 0) * 1 + 0) * 32 + i.val) * 1 + j.val
  omega
theorem col_apply (x : S32x1.Idx → Elt F .f32) (y : S1x1x1x32x1.Idx) : shapeCast S1x1x1x32x1 x shapeCasts_S32x1_S1x1x1x32x1 y = x (ix2 (y 3) (y 4)) :=
  (congrArg _ (ix_111x32 y)).trans (col_apply' x (y 3) (y 4))
theorem sq_apply' (x : S32x128.Idx → Elt F .f32) (i : Fin 32) (j : Fin 128) : shapeCast S1x1x32x128 x shapeCasts_S32x128_S1x1x32x128 (ix4 0 0 i j) = x (ix2 i j) := by
  refine shapeCast_apply _ _ _ _ ?_
  rw [Shape.rowMajor_val_two, Shape.rowMajor_val_four]
  show i.val * 128 + j.val = ((0 * 1 + 0) * 32 + i.val) * 128 + j.val
  omega
theorem hO_apply (h : Fin 8) (q : FVec F S32x8x128 .bf16) (k v : Vec F S1x1x2048x128 .f32) (mo : Vec F S1x1x1x32x1 .f32) (o : Vec F S1x1x32x128 .f32)
    (y : S1x1x32x128.Idx) : hO h q k v mo o y = hPV h q k v mo (ix2 (y 2) (y 3)) := by
  unfold hO
  rw [show (Scalar.select (Scalar.cmpi .eq 0#32 0#32) (hPV h q k v mo)
    (addf (mulf (shapeCast S32x128 o shapeCasts_S1x1x32x128_S32x128) (broadcastTo S32x128 (hA h q k mo) broadcasts_S32x1_S32x128)) (hPV h q k v mo))) = hPV h q k v mo from rfl]
  exact (congrArg _ (ix_11x32x128 y)).trans (sq_apply' _ (y 2) (y 3))

theorem mlN_new0 {n : ℕ} {b : Fin 4} {h : Fin 8} (hn : h.val < n) (i : Fin 32) (j : Fin 1) : mlN D c n (ix5 b 0 h i j) = vM D c b h (ix2 i j) := by
  unfold mlN; rw [if_pos hn, if_pos (show (0 : Fin 2).val = 0 from rfl)]
theorem mlN_new1 {n : ℕ} {b : Fin 4} {h : Fin 8} (hn : h.val < n) (i : Fin 32) (j : Fin 1) : mlN D c n (ix5 b 1 h i j) = vL D c b h (ix2 i j) := by
  unfold mlN; rw [if_pos hn, if_neg (show ¬ (1 : Fin 2).val = 0 by decide)]
theorem oN_new {n : ℕ} {b : Fin 4} {h : Fin 8} (hn : h.val < n) (f : S4x8x32x128.Idx → Elt F .f32) (i : Fin 32) (j : Fin 128) :
    oN D c f n (ix4 b h i j) = vO D c b h (ix2 i j) := by
  unfold oN; exact if_pos hn
theorem mlN_same {n : ℕ} {x : S4x2x8x32x1.Idx} (h : ¬ (x 2).val = n) : mlN D c n x = mlN D c (n + 1) x := by
  unfold mlN
  by_cases h' : (x 2).val < n
  · rw [if_pos h', if_pos (show (x 2).val < n + 1 by omega)]
  · rw [if_neg h', if_neg (show ¬ (x 2).val < n + 1 by omega)]

theorem wp_headC (b : Fin 4) (s : Fin 2) (h : Fin 8) (f : Buf (Elt F) (mOun.view.loc (c : Thread nD τ))) :
    iprop((mKB.view.loc (c : Thread nD τ) ↦[slKB (s, h)]{fullShare} kF D c b) ∗ (mVB.view.loc (c : Thread nD τ) ↦[slKB (s, h)]{fullShare} vF D c b)
        ∗ (mMl.view.loc (c : Thread nD τ) ↦[slM b]{fullShare} mlN D c h.val) ∗ (mOun.view.loc (c : Thread nD τ) ↦[slO b]{fullShare} oN D c f h.val)
        ∗ (((mKB.view.loc (c : Thread nD τ) ↦[slKB (s, h)]{fullShare} kF D c b) ∗ (mVB.view.loc (c : Thread nD τ) ↦[slKB (s, h)]{fullShare} vF D c b)
            ∗ (mMl.view.loc (c : Thread nD τ) ↦[slM b]{fullShare} mlN D c (h.val + 1)) ∗ (mOun.view.loc (c : Thread nD τ) ↦[slO b]{fullShare} oN D c f (h.val + 1))) -∗ Kt ⟨⟩))
      ⊢ WP c (headC b s (D.q c b) h) Kt := by
  unfold headC
  simp only [Prog.lift, Prog.bind_op, Prog.bind_ret, Prog.pure_eq_ret]
  iintro ⟨HK, HV, HM, HO, Hk⟩
  iapply (wp_load_as c (m := mKB) (by rw [setOn_whole]; exact (rKB_set s h).le) (load_k D c b s h)) $$ HK; iintro HK
  iapply (wp_load_as c (m := mVB) (by rw [setOn_whole]; exact (rKB_set s h).le) (load_v D c b s h)) $$ HV; iintro HV
  iapply (wp_load_as c (m := mMl) (by rw [setOn_whole]; exact sub_rM1 b 0 h) (load_m1 D c b h)) $$ HM; iintro HM
  iapply (wp_load_as c (m := mMl) (by rw [setOn_whole]; exact sub_rM1 b 1 h) (load_l1 D c b h)) $$ HM; iintro HM
  iapply (wp_load_as c (m := mOun) (by rw [setOn_whole]; exact sub_rO1 b h) rfl) $$ HO; iintro HO
  iapply (wp_load_as c (m := mOun) (by rw [setOn_whole]; exact sub_rO1 b h) rfl) $$ HO; iintro HO
  iapply (wp_store_as c (m := mOun) (r := rO1 b h) (f := oN D c f h.val) (g := oN D c f (h.val + 1)) (by rw [set_access]; exact sub_rO1 b h)
    (fun y => by
      refine ((show _ = hO h (D.q c b) (D.k c b h) (D.v c b h) mInit _ y from rfl).trans (hO_apply h _ _ _ _ _ y)).trans ?_
      show _ = oN D c f (h.val + 1) ((rO1 b h).emb y)
      rw [emb_rO1]; exact (oN_new D c (Nat.lt_succ_self h.val) f _ _).symm)
    (fun i hi => by
      by_cases hj : i 1 = h
      · exact .inl (in_rO1 (mem_slO.mp hi) hj)
      · refine .inr ?_
        have hj' : ¬ (i 1).val = h.val := fun e => hj (Fin.ext e)
        unfold oN
        by_cases h' : (i 1).val < h.val
        · rw [if_pos h', if_pos (show (i 1).val < h.val + 1 by omega)]
        · rw [if_neg h', if_neg (show ¬ (i 1).val < h.val + 1 by omega)])) $$ HO; iintro HO
  iapply (wp_load_as c (m := mMl) (by rw [setOn_whole]; exact sub_rM1 b 0 h) rfl) $$ HM; iintro HM
  iapply (wp_store_as c (m := mMl) (r := rM1 b 0 h) (f := mlN D c h.val) (g := half (mlN D c h.val) (mlN D c (h.val + 1))) (by rw [set_access]; exact sub_rM1 b 0 h)
    (fun y => by
      refine (show _ = shapeCast S1x1x1x32x1 (vM D c b h) shapeCasts_S32x1_S1x1x1x32x1 y from rfl).trans ?_
      rw [col_apply]
      show _ = half (mlN D c h.val) (mlN D c (h.val + 1)) ((rM1 b 0 h).emb y)
      rw [emb_rM1]
      exact ((half_0 (x := ix5 b 0 h (y 3) (y 4)) rfl).trans (mlN_new0 D c (Nat.lt_succ_self h.val) _ _)).symm)
    (fun i hi => by
      by_cases hj : (i 1).val = 0
      · by_cases hh : i 2 = h
        · exact .inl (in_rM1 (mem_slM.mp hi) (fin2_of_eq hj) hh)
        · refine .inr ?_
          rw [half_0 hj]; exact mlN_same D c (fun e => hh (Fin.ext e))
      · exact .inr (half_1 hj).symm)) $$ HM; iintro HM
  iapply (wp_load_as c (m := mMl) (by rw [setOn_whole]; exact sub_rM1 b 1 h) rfl) $$ HM; iintro HM
  iapply (wp_store_as c (m := mMl) (r := rM1 b 1 h) (f := half (mlN D c h.val) (mlN D c (h.val + 1))) (g := mlN D c (h.val + 1)) (by rw [set_access]; exact sub_rM1 b 1 h)
    (fun y => by
      refine (show _ = shapeCast S1x1x1x32x1 (vL D c b h) shapeCasts_S32x1_S1x1x1x32x1 y from rfl).trans ?_
      rw [col_apply]
      show _ = mlN D c (h.val + 1) ((rM1 b 1 h).emb y)
      rw [emb_rM1]
      exact (mlN_new1 D c (Nat.lt_succ_self h.val) _ _).symm)
    (fun i hi => by
      by_cases hj : (i 1).val = 0
      · exact .inr (half_0 hj)
      · by_cases hh : i 2 = h
        · exact .inl (in_rM1 (mem_slM.mp hi) (fin2_of_ne hj) hh)
        · refine .inr ?_
          rw [half_1 hj]; exact mlN_same D c (fun e => hh (Fin.ext e)))) $$ HM; iintro HM
  iapply (WP_ret c)
  iapply Hk
  isplitl [HK]; · iexact HK
  isplitl [HV]; · iexact HV
  isplitl [HM]; · iexact HM
  iexact HO

/-! ## The merges -/

theorem wp_merge1 (b : Fin 4) :
    iprop((mMl.view.loc (c : Thread nD τ) ↦[slM b]{fullShare} mlA D c) ∗ (mMl1.view.loc (c : Thread nD τ) ↦[slM b]{fullShare} mlA D (xn c))
        ∗ (mOun.view.loc (c : Thread nD τ) ↦[slO b]{fullShare} oA D c) ∗ (mOr1.view.loc (c : Thread nD τ) ↦[slO b]{fullShare} x1 D (xn c))
        ∗ (∃ f, mOxs2.view.loc (c : Thread nD τ) ↦[slO b]{fullShare} f)
        ∗ (((mMl.view.loc (c : Thread nD τ) ↦[slM b]{fullShare} mlB D c) ∗ (mMl1.view.loc (c : Thread nD τ) ↦[slM b]{fullShare} mlA D (xn c))
            ∗ (mOun.view.loc (c : Thread nD τ) ↦[slO b]{fullShare} oB D c) ∗ (mOr1.view.loc (c : Thread nD τ) ↦[slO b]{fullShare} x1 D (xn c))
            ∗ (mOxs2.view.loc (c : Thread nD τ) ↦[slO b]{fullShare} x2 D c)) -∗ Kt ⟨⟩))
      ⊢ WP c (merge1 (F := F) b) Kt := by
  unfold merge1
  simp only [Prog.lift, Prog.bind_op, Prog.bind_ret, Prog.pure_eq_ret]
  iintro ⟨HM, HM1, HO, HO1, ⟨%f, HX⟩, Hk⟩
  iapply (wp_load_as c (m := mMl) (by rw [setOn_whole]; exact sub_rM8 b 0) (x := pM (mlA D c) b 0) rfl) $$ HM; iintro HM
  iapply (wp_load_as c (m := mMl) (by rw [setOn_whole]; exact sub_rM8 b 1) (x := pM (mlA D c) b 1) rfl) $$ HM; iintro HM
  iapply (wp_load_as c (m := mMl1) (by rw [setOn_whole]; exact sub_rM8 b 0) (x := pM (mlA D (xn c)) b 0) rfl) $$ HM1; iintro HM1
  iapply (wp_load_as c (m := mMl1) (by rw [setOn_whole]; exact sub_rM8 b 1) (x := pM (mlA D (xn c)) b 1) rfl) $$ HM1; iintro HM1
  iapply (wp_load_as c (m := mMl) (by rw [setOn_whole]; exact sub_rM8 b 0) rfl) $$ HM; iintro HM
  iapply (wp_store_as c (m := mMl) (r := rM8 b 0) (f := mlA D c) (g := half (mlA D c) (mlB D c)) (by rw [set_access]; exact sub_rM8 b 0)
    (fun y => by
      show _ = half (mlA D c) (mlB D c) ((rM8 b 0).emb y)
      rw [emb_rM8]
      refine (show _ = k0_pay22 (k0_pay19 (pM (mlA D c) b 0) (pM (mlA D (xn c)) b 0)) y from rfl).trans ?_
      exact (congrArg _ (ix_11x8 y)).trans (half_0 (f := mlA D c) (g := mlB D c) (x := ix5 b 0 (y 2) (y 3) (y 4)) rfl).symm)
    (fun i hi => by
      by_cases hj : (i 1).val = 0
      · exact .inl (in_rM8 (mem_slM.mp hi) (fin2_of_eq hj))
      · exact .inr (half_1 hj).symm)) $$ HM; iintro HM
  iapply (wp_load_as c (m := mMl) (by rw [setOn_whole]; exact sub_rM8 b 1) rfl) $$ HM; iintro HM
  iapply (wp_store_as c (m := mMl) (r := rM8 b 1) (f := half (mlA D c) (mlB D c)) (g := mlB D c) (by rw [set_access]; exact sub_rM8 b 1)
    (fun y => by
      show _ = mlB D c ((rM8 b 1).emb y)
      rw [emb_rM8]
      refine (show _ = k0_pay23 (k0_pay16 (pM (mlA D c) b 1)) (k0_pay18 (pM (mlA D (xn c)) b 1))
        (k0_pay20 (pM (mlA D c) b 0) (pM (mlA D (xn c)) b 0)) (k0_pay21 (pM (mlA D c) b 0) (pM (mlA D (xn c)) b 0)) y from rfl).trans ?_
      exact congrArg _ (ix_11x8 y))
    (fun i hi => by
      by_cases hj : (i 1).val = 0
      · exact .inr (half_0 hj)
      · exact .inl (in_rM8 (mem_slM.mp hi) (fin2_of_ne hj)))) $$ HM; iintro HM
  iapply (wp_load_as c (m := mOun) (by rw [setOn_whole]; exact (rO_set b).le) (x := pO (oA D c) b) rfl) $$ HO; iintro HO
  iapply (wp_load_as c (m := mOr1) (by rw [setOn_whole]; exact (rO_set b).le) (x := pO (x1 D (xn c)) b) rfl) $$ HO1; iintro HO1
  iapply (wp_load_as c (m := mOun) (by rw [setOn_whole]; exact (rO_set b).le) rfl) $$ HO; iintro HO
  iapply (wp_store_as c (m := mOun) (r := rO b) (f := oA D c) (g := oB D c) (by rw [set_access]; exact (rO_set b).le)
    (fun y => by
      show _ = oB D c ((rO b).emb y)
      rw [emb_rO]
      refine (show _ = k0_pay24 (k0_pay20 (pM (mlA D c) b 0) (pM (mlA D (xn c)) b 0)) (k0_pay21 (pM (mlA D c) b 0) (pM (mlA D (xn c)) b 0))
        (pO (oA D c) b) (pO (x1 D (xn c)) b) y from rfl).trans ?_
      exact congrArg _ (ix_1x8 y))
    (fun i hi => .inl (in_rO hi))) $$ HO; iintro HO
  iapply (wp_load_as c (m := mOun) (by rw [setOn_whole]; exact (rO_set b).le) (x := pO (oB D c) b) rfl) $$ HO; iintro HO
  iapply (wp_load_as c (m := mOxs2) (by rw [setOn_whole]; exact (rO_set b).le) rfl) $$ HX; iintro HX
  iapply (wp_store_as c (m := mOxs2) (r := rO b) (f := f) (g := x2 D c) (by rw [set_access]; exact (rO_set b).le)
    (fun y => by
      show _ = x2 D c ((rO b).emb y)
      rw [emb_rO]
      refine (show _ = k0_pay25 (F := F) (pO (oB D c) b) y from rfl).trans ?_
      exact congrArg _ (ix_1x8 y))
    (fun i hi => .inl (in_rO hi))) $$ HX; iintro HX
  iapply (WP_ret c)
  iapply Hk
  isplitl [HM]; · iexact HM
  isplitl [HM1]; · iexact HM1
  isplitl [HO]; · iexact HO
  isplitl [HO1]; · iexact HO1
  iexact HX

/-- The rounding before the first exchange. -/
def round1 (b : Fin 4) : Prg F PUnit := do
  let o : Vec F S1x8x32x128 .f32 ← Prog.lift (.load mOun (rO b).toLoadRect (View.loadsAt_vmem h_S1x8x32x128))
  let _ ← Prog.lift (.load mOxs (rO b).toLoadRect (View.loadsAt_vmem h_S1x8x32x128))
  Prog.lift (.store mOxs (rO b) (k0_pay14 o) Finset.univ (View.stores_vmem h_S1x8x32x128 ((Memref.isWhole_whole _).storeExact_slice rfl _ (packedO b)) (fun _ => rfl)) (.inl rfl))

theorem wp_round1 (b : Fin 4) :
    iprop((mOun.view.loc (c : Thread nD τ) ↦[slO b]{fullShare} oA D c) ∗ (∃ f, mOxs.view.loc (c : Thread nD τ) ↦[slO b]{fullShare} f)
        ∗ (((mOun.view.loc (c : Thread nD τ) ↦[slO b]{fullShare} oA D c) ∗ (mOxs.view.loc (c : Thread nD τ) ↦[slO b]{fullShare} x1 D c)) -∗ Kt ⟨⟩))
      ⊢ WP c (round1 (F := F) b) Kt := by
  unfold round1
  simp only [Prog.lift, Prog.bind_op, Prog.bind_ret, Prog.pure_eq_ret]
  iintro ⟨HO, ⟨%f, HX⟩, Hk⟩
  iapply (wp_load_as c (m := mOun) (by rw [setOn_whole]; exact (rO_set b).le) (x := pO (oA D c) b) rfl) $$ HO; iintro HO
  iapply (wp_load_as c (m := mOxs) (by rw [setOn_whole]; exact (rO_set b).le) rfl) $$ HX; iintro HX
  iapply (wp_store_as c (m := mOxs) (r := rO b) (f := f) (g := x1 D c) (by rw [set_access]; exact (rO_set b).le)
    (fun y => by
      show _ = x1 D c ((rO b).emb y)
      rw [emb_rO]
      refine (show _ = k0_pay14 (F := F) (pO (oA D c) b) y from rfl).trans ?_
      exact congrArg _ (ix_1x8 y))
    (fun i hi => .inl (in_rO hi))) $$ HX; iintro HX
  iapply (WP_ret c)
  iapply Hk
  isplitl [HO]; · iexact HO
  iexact HX

/-! ## The last merge -/

theorem resN_same {f : S4x32x8x128.Idx → Elt F .f32} {b : Fin 4} {h : Fin 8} {x : S4x32x8x128.Idx} (hx : ¬ (x 0 = b ∧ x 2 = h)) :
    resN D c f (b.val * 8 + h.val) x = resN D c f (b.val * 8 + (h.val + 1)) x := by
  have h2 : (x 2).val < 8 := (x 2).isLt
  have h3 : h.val < 8 := h.isLt
  have hx' : ¬ ((x 0).val = b.val ∧ (x 2).val = h.val) := fun e => hx ⟨Fin.ext e.1, Fin.ext e.2⟩
  unfold resN
  by_cases h' : (x 0).val * 8 + (x 2).val < b.val * 8 + h.val
  · rw [if_pos h', if_pos (show (x 0).val * 8 + (x 2).val < b.val * 8 + (h.val + 1) by omega)]
  · rw [if_neg h', if_neg (show ¬ (x 0).val * 8 + (x 2).val < b.val * 8 + (h.val + 1) by omega)]

/-- The result's staging buffer. -/
abbrev mOut : Memref sig .tc .vmem S4x32x8x128 .f32 := Memref.whole cc0_stg1_0

theorem wp_outH (b : Fin 4) (h : Fin 8) (f : Buf (Elt F) (mOut.view.loc (c : Thread nD τ))) :
    iprop((mOut.view.loc (c : Thread nD τ) ↦[Finset.univ]{fullShare} resN D c f (b.val * 8 + h.val))
        ∗ ((mOut.view.loc (c : Thread nD τ) ↦[Finset.univ]{fullShare} resN D c f (b.val * 8 + (h.val + 1))) -∗ Kt ⟨⟩))
      ⊢ WP c (outH mOut b (res8 D c b) h) Kt := by
  unfold outH
  simp only [Prog.lift, Prog.bind_op, Prog.bind_ret, Prog.pure_eq_ret]
  iintro ⟨H, Hk⟩
  iapply (wp_load_as c (m := mOut) (Finset.subset_univ _) rfl) $$ H; iintro H
  iapply (wp_store_as c (m := mOut) (r := rR b h) (f := resN D c f (b.val * 8 + h.val)) (g := resN D c f (b.val * 8 + (h.val + 1))) (Finset.subset_univ _)
    (fun y => by
      show _ = resN D c f (b.val * 8 + (h.val + 1)) ((rR b h).emb y)
      rw [emb_rR]
      refine (show _ = finH h (res8 D c b) y from rfl).trans ?_
      refine (congrArg _ (ix_1x32x1x128 y)).trans ?_
      exact (if_pos (show b.val * 8 + h.val < b.val * 8 + (h.val + 1) by omega)).symm)
    (fun i hi => by
      by_cases hj : i 0 = b ∧ i 2 = h
      · exact .inl (in_rR hj.1 hj.2)
      · exact .inr (resN_same D c hj))) $$ H; iintro H
  iapply (WP_ret c)
  iapply Hk; iexact H

/-- One batch's slabs at the last merge. -/
def fin (b : Fin 4) : sProp 𝕄 :=
  iprop((mMl.view.loc (c : Thread nD τ) ↦[slM b]{fullShare} mlB D c) ∗ (mMl2.view.loc (c : Thread nD τ) ↦[slM b]{fullShare} mlB D (yn c))
    ∗ (mOun.view.loc (c : Thread nD τ) ↦[slO b]{fullShare} oB D c) ∗ (mOr2.view.loc (c : Thread nD τ) ↦[slO b]{fullShare} x2 D (yn c)))

theorem wp_finalB (b : Fin 4) (n n' : ℕ) (hn : n = b.val * 8) (hn' : n' = b.val * 8 + 8) (f : Buf (Elt F) (mOut.view.loc (c : Thread nD τ))) :
    iprop(fin D c b ∗ (mOut.view.loc (c : Thread nD τ) ↦[Finset.univ]{fullShare} resN D c f n)
        ∗ ((fin D c b ∗ (mOut.view.loc (c : Thread nD τ) ↦[Finset.univ]{fullShare} resN D c f n')) -∗ Kt ⟨⟩))
      ⊢ WP c (finalB mOut b) Kt := by
  subst hn hn'
  unfold finalB fin
  simp only [Prog.lift, Prog.bind_op, Prog.bind_ret, Prog.pure_eq_ret]
  iintro ⟨⟨HM, HM2, HO, HO2⟩, H, Hk⟩
  iapply (wp_load_as c (m := mMl) (by rw [setOn_whole]; exact sub_rM8 b 0) (x := pM (mlB D c) b 0) rfl) $$ HM; iintro HM
  iapply (wp_load_as c (m := mMl) (by rw [setOn_whole]; exact sub_rM8 b 1) (x := pM (mlB D c) b 1) rfl) $$ HM; iintro HM
  iapply (wp_load_as c (m := mMl2) (by rw [setOn_whole]; exact sub_rM8 b 0) (x := pM (mlB D (yn c)) b 0) rfl) $$ HM2; iintro HM2
  iapply (wp_load_as c (m := mMl2) (by rw [setOn_whole]; exact sub_rM8 b 1) (x := pM (mlB D (yn c)) b 1) rfl) $$ HM2; iintro HM2
  iapply (wp_load_as c (m := mOun) (by rw [setOn_whole]; exact (rO_set b).le) (x := pO (oB D c) b) rfl) $$ HO; iintro HO
  iapply (wp_load_as c (m := mOr2) (by rw [setOn_whole]; exact (rO_set b).le) (x := pO (x2 D (yn c)) b) rfl) $$ HO2; iintro HO2
  iapply (wp_each8 c (outH mOut b (res8 D c b)) (fun n => mOut.view.loc (c : Thread nD τ) ↦[Finset.univ]{fullShare} resN D c f (b.val * 8 + n))
    (fun _ => iprop(emp)) (fun _ => iprop(emp)) (fun h Kt' => by
      iintro ⟨HI, -, Hk'⟩
      iapply (wp_outH D c Kt' b h f)
      isplitl [HI]; · iexact HI
      iintro HI
      iapply Hk'
      isplitl [HI]; · iexact HI
      iempintro) Kt)
  isplitl [H]; · iexact H
  isplitr
  · rw [bigSep8]; isplitl; · iempintro
    isplitl; · iempintro
    isplitl; · iempintro
    isplitl; · iempintro
    isplitl; · iempintro
    isplitl; · iempintro
    isplitl; · iempintro
    iempintro
  iintro ⟨H, -⟩
  iapply Hk
  isplitr [H]
  · isplitl [HM]; · iexact HM
    isplitl [HM2]; · iexact HM2
    isplitl [HO]; · iexact HO
    iexact HO2
  iexact H

end Cert.KernelIdeal.Body

end
-- ==== Proof.Comm.lean ====
/- The pieces that move data: the two copies of one head's keys and values and the step that waits for
   them, the barrier, the two exchanges' sends and waits. -/
module

public import proofs.«01_k».proof.Proof.Local

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (D : Data F) (K : Names) (c : Dev nD) (Kt : PUnit → sProp (MT nD τ sig Unit (Elt F) ℕ UU ℕ))

/-! ## The copies of keys and values -/

theorem kv_emb (s : Fin 2) (h : Fin 8) (i : Fin 2048) (j : Fin 128) (e : S2048x128.numel = S1x1x2048x128.numel) :
    (rKB s h).emb (Shape.reshapeEquiv e (ix2 i j)) = ix4 s h i j := by
  have e1 : (Shape.reshapeEquiv e (ix2 i j) : S1x1x2048x128.Idx) = ix4 0 0 i j := Shape.reshapeEquiv_eq_of_rowMajor _ (by
    rw [Shape.rowMajor_val_two, Shape.rowMajor_val_four]
    show ((0 * 1 + 0) * 2048 + i.val) * 128 + j.val = i.val * 128 + j.val
    omega)
  exact (congrArg (rKB s h).emb e1).trans (emb_rKB s h _)
theorem src_emb (b : Fin 4) (h : Fin 8) (v : BitVec 32) (hv : RowOk v) (i : Fin 2048) (j : Fin 128) (e : S2048x128.numel = S1x2048x1x128.numel) :
    (rSrc b h v hv).emb (Shape.reshapeEquiv e (ix2 i j)) = ix4 b ⟨row v + i.val, Nat.lt_of_lt_of_le (Nat.add_lt_add_left i.isLt _) hv⟩ h j := by
  have e1 : (Shape.reshapeEquiv e (ix2 i j) : S1x2048x1x128.Idx) = ix4 0 i 0 j := Shape.reshapeEquiv_eq_of_rowMajor _ (by
    rw [Shape.rowMajor_val_two, Shape.rowMajor_val_four]
    show ((0 * 2048 + i.val) * 1 + 0) * 128 + j.val = i.val * 128 + j.val
    omega)
  refine (congrArg (rSrc b h v hv).emb e1).trans ?_
  funext a; apply Fin.ext
  match a with
  | ⟨0, _⟩ => show b.val + 1 * 0 = b.val; omega
  | ⟨1, _⟩ => show row v + 1 * i.val = row v + i.val; omega
  | ⟨2, _⟩ => show h.val + 1 * 0 = h.val; omega
  | ⟨3, _⟩ => show 0 + 1 * j.val = j.val; omega

/-- The keys `x` are the rows of the array `f` from the table word's row on. -/
def SrcOk (x : Fin 4 → Fin 8 → Vec F S1x1x2048x128 .f32) (v : BitVec 32) (hv : RowOk v) (f : S4x4096x8x128.Idx → Elt F .f32) : Prop :=
  ∀ b h (i : Fin 2048) (j : Fin 128), x b h (ix4 0 0 i j) = f (ix4 b ⟨row v + i.val, Nat.lt_of_lt_of_le (Nat.add_lt_add_left i.isLt _) hv⟩ h j)

theorem kSl_set (s : Fin 2) (h : Fin 8) : (kSl s h).view.set = slKB (s, h) :=
  (Memref.set_view_squeeze _ _).trans ((View.set_slice _ _).trans (Finset.map_refl.trans (rKB_set s h)))
theorem vSl_set (s : Fin 2) (h : Fin 8) : (vSl s h).view.set = slKB (s, h) :=
  (Memref.set_view_squeeze _ _).trans ((View.set_slice _ _).trans (Finset.map_refl.trans (rKB_set s h)))

theorem k_landed (b : Fin 4) (s : Fin 2) (h : Fin 8) (v : BitVec 32) (hv : RowOk v) (f : Buf (Elt F) (mK.view.loc (c : Thread nD τ)))
    (fd : Buf (Elt F) (mKB.view.loc (c : Thread nD τ))) (hs : SrcOk (D.k c) v hv f) :
    ((kSl s h).view.loc (c : Thread nD τ) ↦[slKB (s, h)]{fullShare} ((kSl s h).view.write (Elt F) fd ((kSrc b h v hv).view.read (Elt F) f) Finset.univ) : sProp 𝕄)
      = (mKB.view.loc (c : Thread nD τ) ↦[slKB (s, h)]{fullShare} kF D c b) := pointsTo_congr fun i hi => by
  rw [← kSl_set s h] at hi
  rw [View.set, Finset.mem_map] at hi
  obtain ⟨y, -, rfl⟩ := hi
  refine (View.write_emb_of_mem _ _ (Finset.mem_univ y)).trans ?_
  obtain ⟨i, j, rfl⟩ : ∃ i j, y = ix2 i j := ⟨y 0, y 1, eq_ix2 y⟩
  refine (show _ = f ((rSrc b h v hv).emb (Shape.reshapeEquiv squeezes_S1x2048x1x128_S2048x128.numel_eq (ix2 i j))) from rfl).trans ?_
  refine Eq.trans ?_ (show kF D c b ((rKB s h).emb (Shape.reshapeEquiv squeezes_S1x1x2048x128_S2048x128.numel_eq (ix2 i j))) = _ from rfl)
  rw [kv_emb, src_emb]
  exact (hs b h i j).symm
theorem v_landed (b : Fin 4) (s : Fin 2) (h : Fin 8) (v : BitVec 32) (hv : RowOk v) (f : Buf (Elt F) (mV.view.loc (c : Thread nD τ)))
    (fd : Buf (Elt F) (mVB.view.loc (c : Thread nD τ))) (hs : SrcOk (D.v c) v hv f) :
    ((vSl s h).view.loc (c : Thread nD τ) ↦[slKB (s, h)]{fullShare} ((vSl s h).view.write (Elt F) fd ((vSrc b h v hv).view.read (Elt F) f) Finset.univ) : sProp 𝕄)
      = (mVB.view.loc (c : Thread nD τ) ↦[slKB (s, h)]{fullShare} vF D c b) := pointsTo_congr fun i hi => by
  rw [← vSl_set s h] at hi
  rw [View.set, Finset.mem_map] at hi
  obtain ⟨y, -, rfl⟩ := hi
  refine (View.write_emb_of_mem _ _ (Finset.mem_univ y)).trans ?_
  obtain ⟨i, j, rfl⟩ : ∃ i j, y = ix2 i j := ⟨y 0, y 1, eq_ix2 y⟩
  refine (show _ = f ((rSrc b h v hv).emb (Shape.reshapeEquiv squeezes_S1x2048x1x128_S2048x128.numel_eq (ix2 i j))) from rfl).trans ?_
  refine Eq.trans ?_ (show vF D c b ((rKB s h).emb (Shape.reshapeEquiv squeezes_S1x1x2048x128_S2048x128.numel_eq (ix2 i j))) = _ from rfl)
  rw [kv_emb, src_emb]
  exact (hs b h i j).symm

abbrev NK : ℕ := (kSl 0 0).view.dmaCredit
theorem NK_pos : 0 < NK := View.dmaCredit_pos _ (by decide)

theorem k_flight (b : Fin 4) (s : Fin 2) (h : Fin 8) (v : BitVec 32) (hv : RowOk v) (f : Buf (Elt F) (mK.view.loc (c : Thread nD τ)))
    (fd : Buf (Elt F) (mKB.view.loc (c : Thread nD τ))) (hs : SrcOk (D.k c) v hv f) (X : sProp 𝕄) (N : ℕ) :
    (Flight EC (c : Thread nD τ) (.dma (kvSem 0 s h)) () N
        iprop(((kSl s h).view.loc (c : Thread nD τ) ↦[slKB (s, h)]{fullShare} ((kSl s h).view.write (Elt F) fd ((kSrc b h v hv).view.read (Elt F) f) Finset.univ)) ∗ X) : sProp 𝕄)
      ⊢ Flight EC (c : Thread nD τ) (.dma (kvSem 0 s h)) () N (mKB.view.loc (c : Thread nD τ) ↦[slKB (s, h)]{fullShare} kF D c b) :=
  Flight_mono EC _ (by rw [k_landed D c b s h v hv f fd hs]; iintro ⟨H, -⟩; iexact H)
theorem v_flight (b : Fin 4) (s : Fin 2) (h : Fin 8) (v : BitVec 32) (hv : RowOk v) (f : Buf (Elt F) (mV.view.loc (c : Thread nD τ)))
    (fd : Buf (Elt F) (mVB.view.loc (c : Thread nD τ))) (hs : SrcOk (D.v c) v hv f) (X : sProp 𝕄) (N : ℕ) :
    (Flight EC (c : Thread nD τ) (.dma (kvSem 1 s h)) () N
        iprop(((vSl s h).view.loc (c : Thread nD τ) ↦[slKB (s, h)]{fullShare} ((vSl s h).view.write (Elt F) fd ((vSrc b h v hv).view.read (Elt F) f) Finset.univ)) ∗ X) : sProp 𝕄)
      ⊢ Flight EC (c : Thread nD τ) (.dma (kvSem 1 s h)) () N (mVB.view.loc (c : Thread nD τ) ↦[slKB (s, h)]{fullShare} vF D c b) :=
  Flight_mono EC _ (by rw [v_landed D c b s h v hv f fd hs]; iintro ⟨H, -⟩; iexact H)

/-- A head's part of a ring slot: free, -/
def idleH (s : Fin 2) (h : Fin 8) : sProp 𝕄 :=
  iprop((∃ f, mKB.view.loc (c : Thread nD τ) ↦[slKB (s, h)]{fullShare} f) ∗ (∃ f, mVB.view.loc (c : Thread nD τ) ↦[slKB (s, h)]{fullShare} f)
    ∗ semVal ((c : Thread nD τ), .dma (kvSem 0 s h)) 0 ∗ semVal ((c : Thread nD τ), .dma (kvSem 1 s h)) 0)
/-- or being filled with batch `b`'s keys and values. -/
def flyH (b : Fin 4) (s : Fin 2) (h : Fin 8) : sProp 𝕄 :=
  iprop(Flight EC (c : Thread nD τ) (.dma (kvSem 0 s h)) () NK (mKB.view.loc (c : Thread nD τ) ↦[slKB (s, h)]{fullShare} kF D c b)
    ∗ Flight EC (c : Thread nD τ) (.dma (kvSem 1 s h)) () NK (mVB.view.loc (c : Thread nD τ) ↦[slKB (s, h)]{fullShare} vF D c b))
/-- A share of the two arrays the copies read. -/
def srcH (fK fV : S4x4096x8x128.Idx → Elt F .f32) : sProp 𝕄 :=
  iprop((∃ q, mK.view.loc (c : Thread nD τ) ↦[Finset.univ]{q} fK) ∗ (∃ q, mV.view.loc (c : Thread nD τ) ↦[Finset.univ]{q} fV))

theorem wp_startH (b : Fin 4) (s : Fin 2) (v : BitVec 32) (hv : RowOk v) (h : Fin 8) (fK fV : S4x4096x8x128.Idx → Elt F .f32)
    (hk : SrcOk (D.k c) v hv fK) (hvv : SrcOk (D.v c) v hv fV) :
    iprop(idleH c s h ∗ srcH c fK fV ∗ (flyH D c b s h -∗ Kt ⟨⟩)) ⊢ WP c (startH (F := F) b s v hv h) Kt := by
  unfold startH idleH srcH flyH
  simp only [Prog.lift, Prog.bind_op, Prog.bind_ret, Prog.pure_eq_ret]
  iintro ⟨⟨⟨%f1, H1⟩, ⟨%f2, H2⟩, Hs1, Hs2⟩, ⟨⟨%q1, HK⟩, ⟨%q2, HV⟩⟩, Hk⟩
  ihave HK := (pointsTo_split_subset (Finset.subset_univ (kSrc b h v hv).view.set)) $$ HK
  icases HK with ⟨HK, -⟩
  ihave HV := (pointsTo_split_subset (Finset.subset_univ (vSrc b h v hv).view.set)) $$ HV
  icases HV with ⟨HV, -⟩
  iapply (Transfers.wp_dmaLocal EC 𝒱₀ (c : Thread nD τ) none (src := kSrc b h v hv) (dst := kSl s h) (fd := f1) (fs := fK) (Sd := slKB (s, h)) () NK
    (sm := .dma (kvSem 0 s h)) (show (kSl s h).view.amount (.dma (kvSem 0 s h)) = NK from rfl) NK_pos (kSl_set s h).le) $$ [HK H1 Hs1]
  · isplitl [HK]; · iexact HK
    isplitl [H1]; · iexact H1
    iexact Hs1
  iintro HF1
  iapply (Transfers.wp_dmaLocal EC 𝒱₀ (c : Thread nD τ) none (src := vSrc b h v hv) (dst := vSl s h) (fd := f2) (fs := fV) (Sd := slKB (s, h)) () NK
    (sm := .dma (kvSem 1 s h)) (show (vSl s h).view.amount (.dma (kvSem 1 s h)) = NK from rfl) NK_pos (vSl_set s h).le) $$ [HV H2 Hs2]
  · isplitl [HV]; · iexact HV
    isplitl [H2]; · iexact H2
    iexact Hs2
  iintro HF2
  iapply (WP_ret c)
  iapply Hk
  isplitl [HF1]
  · iapply (k_flight D c b s h v hv fK f1 hk _ NK); iexact HF1
  · iapply (v_flight D c b s h v hv fV f2 hvv _ NK); iexact HF2

/-- One head's step: both copies have landed, and its slot is free again. -/
theorem wp_headH (b : Fin 4) (s : Fin 2) (v : BitVec 32) (hv : RowOk v) (h : Fin 8) (l : List Pay) (hl : ∀ a ∈ l, 0 < lev a.2)
    (f : Buf (Elt F) (mOun.view.loc (c : Thread nD τ))) :
    iprop(recs D K ∗ (ow c l ∗ (mMl.view.loc (c : Thread nD τ) ↦[slM b]{fullShare} mlN D c h.val) ∗ (mOun.view.loc (c : Thread nD τ) ↦[slO b]{fullShare} oN D c f h.val))
        ∗ flyH D c b s h
        ∗ (((ow c l ∗ (mMl.view.loc (c : Thread nD τ) ↦[slM b]{fullShare} mlN D c (h.val + 1)) ∗ (mOun.view.loc (c : Thread nD τ) ↦[slO b]{fullShare} oN D c f (h.val + 1)))
            ∗ idleH c s h) -∗ Kt ⟨⟩))
      ⊢ WP c (headH b s v hv (D.q c b) h) Kt := by
  rw [show headH b s v hv (D.q c b) h = (do
    Prog.lift (.waitDma2 (kvSem 0 s h) (kSrc b h v hv) (kSl s h) ((View.wordExact_bits rfl).reshape _ _) ((View.wordExact_bits rfl).reshape _ _))
    Prog.lift (.waitDma2 (kvSem 1 s h) (vSrc b h v hv) (vSl s h) ((View.wordExact_bits rfl).reshape _ _) ((View.wordExact_bits rfl).reshape _ _))
    headC b s (D.q c b) h) from rfl]
  simp only [Prog.lift, Prog.bind_op, Prog.bind_ret, Prog.pure_eq_ret]
  unfold ow flyH idleH
  iintro ⟨#Hrec, ⟨⟨%W, HO⟩, HM, HU⟩, ⟨HF1, HF2⟩, Hk⟩
  iapply (Transfers.wp_waitLocalO EC 𝒱₀ (c : Thread nD τ) none (srcw := kSrc b h v hv) (dstw := kSl s h) () (N := NK) (show (kSl s h).view.dmaCredit = NK from rfl) (O := OL c l) (W := W)) $$ [HF1 HO]
  · isplitl [HF1]; · iexact HF1
    isplitl [HO]; · iexact HO
    iapply (mayWait_other c (.dma (kvSem 0 s h)) (fun i => csem_kv i 0 s h) l hl)
    iapply (recs_lev D K); iexact Hrec
  iintro ⟨H1, Hs1, HO⟩
  iapply (Transfers.wp_waitLocalO EC 𝒱₀ (c : Thread nD τ) none (srcw := vSrc b h v hv) (dstw := vSl s h) () (N := NK) (show (vSl s h).view.dmaCredit = NK from rfl) (O := OL c l)) $$ [HF2 HO]
  · isplitl [HF2]; · iexact HF2
    isplitl [HO]; · iexact HO
    iapply (mayWait_other c (.dma (kvSem 1 s h)) (fun i => csem_kv i 1 s h) l hl)
    iapply (recs_lev D K); iexact Hrec
  iintro ⟨H2, Hs2, HO⟩
  iapply (wp_headC D c Kt b s h f)
  isplitl [H1]; · iexact H1
  isplitl [H2]; · iexact H2
  isplitl [HM]; · iexact HM
  isplitl [HU]; · iexact HU
  iintro ⟨H1, H2, HM, HU⟩
  iapply Hk
  isplitl [HO HM HU]
  · isplitl [HO]; · iexists _; iexact HO
    isplitl [HM]; · iexact HM
    iexact HU
  isplitl [H1]; · iexists _; iexact H1
  isplitl [H2]; · iexists _; iexact H2
  isplitl [Hs1]; · iexact Hs1
  iexact Hs2

/-! ## The exchanges -/

theorem land_false (n : Dev nD) (b : Fin 4) : (land false n b : sProp 𝕄)
    = iprop((∃ f, mOr1.view.loc (n : Thread nD τ) ↦[slO b]{fullShare} f) ∗ (∃ f, mMl1.view.loc (n : Thread nD τ) ↦[slM b]{fullShare} f)
      ∗ reached ER (kcell (n, some (true, 0, b))) 0 ∗ reached ER (kcell (n, some (true, 1, b))) 0) := rfl
theorem land_true (n : Dev nD) (b : Fin 4) : (land true n b : sProp 𝕄)
    = iprop((∃ f, mOr2.view.loc (n : Thread nD τ) ↦[slO b]{fullShare} f) ∗ (∃ f, mMl2.view.loc (n : Thread nD τ) ↦[slM b]{fullShare} f)
      ∗ reached ER (kcell (n, some (true, 2, b))) 0 ∗ reached ER (kcell (n, some (true, 3, b))) 0) := rfl

theorem oSl_set1 (b : Fin 4) : (oSl mOxs b).view.set = slO b := (Memref.set_view_squeeze _ _).trans ((View.set_slice _ _).trans (Finset.map_refl.trans (rO_set b)))
theorem oSl_set2 (b : Fin 4) : (oSl mOxs2 b).view.set = slO b := (Memref.set_view_squeeze _ _).trans ((View.set_slice _ _).trans (Finset.map_refl.trans (rO_set b)))
theorem oSl_set3 (b : Fin 4) : (oSl mOr1 b).view.set = slO b := (Memref.set_view_squeeze _ _).trans ((View.set_slice _ _).trans (Finset.map_refl.trans (rO_set b)))
theorem oSl_set4 (b : Fin 4) : (oSl mOr2 b).view.set = slO b := (Memref.set_view_squeeze _ _).trans ((View.set_slice _ _).trans (Finset.map_refl.trans (rO_set b)))
theorem mSl_set1 (b : Fin 4) : (mSl mMl b).view.set = slM b := (Memref.set_view_squeeze _ _).trans ((View.set_slice _ _).trans (Finset.map_refl.trans (rM_set b)))
theorem mSl_set2 (b : Fin 4) : (mSl mMl1 b).view.set = slM b := (Memref.set_view_squeeze _ _).trans ((View.set_slice _ _).trans (Finset.map_refl.trans (rM_set b)))
theorem mSl_set3 (b : Fin 4) : (mSl mMl2 b).view.set = slM b := (Memref.set_view_squeeze _ _).trans ((View.set_slice _ _).trans (Finset.map_refl.trans (rM_set b)))

theorem o_landed1 (b : Fin 4) (n : Dev nD) (fs : S4x8x32x128.Idx → Elt F .bf16) (fd : Buf (Elt F) (mOr1.view.loc (n : Thread nD τ))) :
    ((oSl mOr1 b).view.loc (n : Thread nD τ) ↦[(oSl mOr1 b).view.set]{fullShare} ((oSl mOr1 b).view.write (Elt F) fd ((oSl mOxs b).view.read (Elt F) fs) Finset.univ) : sProp 𝕄)
      = (mOr1.view.loc (n : Thread nD τ) ↦[slO b]{fullShare} fs) := by
  rw [← oSl_set3 b]
  exact pointsTo_congr fun i hi => by
    rw [View.set, Finset.mem_map] at hi
    obtain ⟨y, -, rfl⟩ := hi
    exact (View.write_emb_of_mem _ _ (Finset.mem_univ y)).trans rfl
theorem o_landed2 (b : Fin 4) (n : Dev nD) (fs : S4x8x32x128.Idx → Elt F .bf16) (fd : Buf (Elt F) (mOr2.view.loc (n : Thread nD τ))) :
    ((oSl mOr2 b).view.loc (n : Thread nD τ) ↦[(oSl mOr2 b).view.set]{fullShare} ((oSl mOr2 b).view.write (Elt F) fd ((oSl mOxs2 b).view.read (Elt F) fs) Finset.univ) : sProp 𝕄)
      = (mOr2.view.loc (n : Thread nD τ) ↦[slO b]{fullShare} fs) := by
  rw [← oSl_set4 b]
  exact pointsTo_congr fun i hi => by
    rw [View.set, Finset.mem_map] at hi
    obtain ⟨y, -, rfl⟩ := hi
    exact (View.write_emb_of_mem _ _ (Finset.mem_univ y)).trans rfl
theorem m_landed1 (b : Fin 4) (n : Dev nD) (fs : S4x2x8x32x1.Idx → Elt F .f32) (fd : Buf (Elt F) (mMl1.view.loc (n : Thread nD τ))) :
    ((mSl mMl1 b).view.loc (n : Thread nD τ) ↦[(mSl mMl1 b).view.set]{fullShare} ((mSl mMl1 b).view.write (Elt F) fd ((mSl mMl b).view.read (Elt F) fs) Finset.univ) : sProp 𝕄)
      = (mMl1.view.loc (n : Thread nD τ) ↦[slM b]{fullShare} fs) := by
  rw [← mSl_set2 b]
  exact pointsTo_congr fun i hi => by
    rw [View.set, Finset.mem_map] at hi
    obtain ⟨y, -, rfl⟩ := hi
    exact (View.write_emb_of_mem _ _ (Finset.mem_univ y)).trans rfl
theorem m_landed2 (b : Fin 4) (n : Dev nD) (fs : S4x2x8x32x1.Idx → Elt F .f32) (fd : Buf (Elt F) (mMl2.view.loc (n : Thread nD τ))) :
    ((mSl mMl2 b).view.loc (n : Thread nD τ) ↦[(mSl mMl2 b).view.set]{fullShare} ((mSl mMl2 b).view.write (Elt F) fd ((mSl mMl b).view.read (Elt F) fs) Finset.univ) : sProp 𝕄)
      = (mMl2.view.loc (n : Thread nD τ) ↦[slM b]{fullShare} fs) := by
  rw [← mSl_set3 b]
  exact pointsTo_congr fun i hi => by
    rw [View.set, Finset.mem_map] at hi
    obtain ⟨y, -, rfl⟩ := hi
    exact (View.write_emb_of_mem _ _ (Finset.mem_univ y)).trans rfl

/-- The first exchange's sends. -/
theorem wp_sendB1 (b : Fin 4) (l : List Pay) :
    iprop(recs D K ∗ ow c (payO false b :: payM false b :: l) ∗ (mOxs.view.loc (c : Thread nD τ) ↦[slO b]{fullShare} x1 D c)
        ∗ (mMl.view.loc (c : Thread nD τ) ↦[slM b]{fullShare} mlA D c) ∗ land false (xn c) b ∗ toks c 0 b ∗ toks c 1 b
        ∗ ((ow c l ∗ mid c 0 b ∗ mid c 1 b) -∗ Kt ⟨⟩))
      ⊢ WP c (sendB (F := F) 0 1 mOxs (Memref.isWhole_whole _) mOr1 (Memref.isWhole_whole _) mMl1 (xn c) (xn c) b) Kt := by
  unfold sendB
  rw [land_false]
  simp only [Prog.lift, Prog.bind_op, Prog.bind_ret, Prog.pure_eq_ret]
  iintro ⟨#Hrec, HO, HX, HM, HL, Ht0, Ht1, Hk⟩
  icases HL with ⟨⟨%f1, H1⟩, ⟨%f2, H2⟩, #Hr1, #Hr2⟩
  iapply (wp_send_cell D K c (payM false b :: l) false 0 b rfl (xn c) rfl (src := oSl mOxs b) (dst := oSl mOr1 b) (fs := x1 D c) (fd := f1) rfl
    (by rw [oSl_set1]; show _ ⊢ iprop(∃ f, mOxs.view.loc (c : Thread nD τ) ↦[slO b]{fullShare} f); iintro H; iexists _; iexact H)
    (by rw [o_landed1]; show _ ⊢ (mOr1.view.loc (xn c : Thread nD τ) ↦[slO b]{fullShare} x1 D (xn (xn c)) : sProp 𝕄); rw [xn_xn])) $$ [HO HX H1 Ht0]
  · isplitr; · iexact Hrec
    isplitl [HX]; · rw [oSl_set1]; iexact HX
    isplitl [H1]; · rw [oSl_set3]; iexact H1
    isplitl [HO]; · iexact HO
    isplitl [Ht0]; · iexact Ht0
    iexact Hr1
  iintro ⟨Hm0, HO⟩
  iapply (wp_send_cell D K c l false 1 b rfl (xn c) rfl (src := mSl mMl b) (dst := mSl mMl1 b) (fs := mlA D c) (fd := f2) rfl
    (by rw [mSl_set1]; exact .rfl)
    (by rw [m_landed1]; show _ ⊢ (mMl1.view.loc (xn c : Thread nD τ) ↦[slM b]{fullShare} mlA D (xn (xn c)) : sProp 𝕄); rw [xn_xn])) $$ [HO HM H2 Ht1]
  · isplitr; · iexact Hrec
    isplitl [HM]; · rw [mSl_set1]; iexact HM
    isplitl [H2]; · rw [mSl_set2]; iexact H2
    isplitl [HO]; · iexact HO
    isplitl [Ht1]; · iexact Ht1
    iexact Hr2
  iintro ⟨Hm1, HO⟩
  iapply (WP_ret c)
  iapply Hk
  isplitl [HO]; · iexact HO
  isplitl [Hm0]; · iexact Hm0
  iexact Hm1

/-- The second exchange's sends. -/
theorem wp_sendB2 (b : Fin 4) (l : List Pay) :
    iprop(recs D K ∗ ow c (payO true b :: payM true b :: l) ∗ (mOxs2.view.loc (c : Thread nD τ) ↦[slO b]{fullShare} x2 D c)
        ∗ (mMl.view.loc (c : Thread nD τ) ↦[slM b]{fullShare} mlB D c) ∗ land true (yn c) b ∗ toks c 2 b ∗ toks c 3 b
        ∗ ((ow c l ∗ mid c 2 b ∗ mid c 3 b) -∗ Kt ⟨⟩))
      ⊢ WP c (sendB (F := F) 2 3 mOxs2 (Memref.isWhole_whole _) mOr2 (Memref.isWhole_whole _) mMl2 (yn c) (yn c) b) Kt := by
  unfold sendB
  rw [land_true]
  simp only [Prog.lift, Prog.bind_op, Prog.bind_ret, Prog.pure_eq_ret]
  iintro ⟨#Hrec, HO, HX, HM, HL, Ht0, Ht1, Hk⟩
  icases HL with ⟨⟨%f1, H1⟩, ⟨%f2, H2⟩, #Hr1, #Hr2⟩
  iapply (wp_send_cell D K c (payM true b :: l) true 2 b rfl (yn c) rfl (src := oSl mOxs2 b) (dst := oSl mOr2 b) (fs := x2 D c) (fd := f1) rfl
    (by rw [oSl_set2]; show _ ⊢ iprop(∃ f, mOxs2.view.loc (c : Thread nD τ) ↦[slO b]{fullShare} f); iintro H; iexists _; iexact H)
    (by rw [o_landed2]; show _ ⊢ (mOr2.view.loc (yn c : Thread nD τ) ↦[slO b]{fullShare} x2 D (yn (yn c)) : sProp 𝕄); rw [yn_yn])) $$ [HO HX H1 Ht0]
  · isplitr; · iexact Hrec
    isplitl [HX]; · rw [oSl_set2]; iexact HX
    isplitl [H1]; · rw [oSl_set4]; iexact H1
    isplitl [HO]; · iexact HO
    isplitl [Ht0]; · iexact Ht0
    iexact Hr1
  iintro ⟨Hm0, HO⟩
  iapply (wp_send_cell D K c l true 3 b rfl (yn c) rfl (src := mSl mMl b) (dst := mSl mMl2 b) (fs := mlB D c) (fd := f2) rfl
    (by rw [mSl_set1]; exact .rfl)
    (by rw [m_landed2]; show _ ⊢ (mMl2.view.loc (yn c : Thread nD τ) ↦[slM b]{fullShare} mlB D (yn (yn c)) : sProp 𝕄); rw [yn_yn])) $$ [HO HM H2 Ht1]
  · isplitr; · iexact Hrec
    isplitl [HM]; · rw [mSl_set1]; iexact HM
    isplitl [H2]; · rw [mSl_set3]; iexact H2
    isplitl [HO]; · iexact HO
    isplitl [Ht1]; · iexact Ht1
    iexact Hr2
  iintro ⟨Hm1, HO⟩
  iapply (WP_ret c)
  iapply Hk
  isplitl [HO]; · iexact HO
  isplitl [Hm0]; · iexact Hm0
  iexact Hm1

/-- An exchange's four waits. -/
theorem wp_waitB (k0 k1 : Fin 4) (src : Memref sig .tc .vmem S4x8x32x128 .bf16) (hsrc : src.IsWhole) (dst : Memref sig .tc .vmem S4x8x32x128 .bf16) (hdst : dst.IsWhole)
    (mdst : Memref sig .tc .vmem S4x2x8x32x1 .f32) (b : Fin 4) (l : List Pay)
    (h1 : (oSl src b).view.dmaCredit = amtK k0) (h2 : (oSl dst b).view.dmaCredit = amtK k0)
    (h3 : (mSl mMl b).view.dmaCredit = amtK k1) (h4 : (mSl mdst b).view.dmaCredit = amtK k1)
    (hl0 : ∀ a ∈ l, lev (some (true, k0, b)) < lev a.2) (hl1 : ∀ a ∈ l, lev (some (true, k1, b)) < lev a.2) :
    iprop(recs D K ∗ ow c l ∗ mid c k0 b ∗ mid c k1 b
        ∗ ((ow c l ∗ (done c k0 b ∗ done c k1 b) ∗ sendPay D c k0 b ∗ recvPay D c k0 b ∗ sendPay D c k1 b ∗ recvPay D c k1 b) -∗ Kt ⟨⟩))
      ⊢ WP c (waitB (F := F) k0 k1 src hsrc dst hdst mdst b) Kt := by
  unfold waitB mid ends done
  simp only [Prog.lift, Prog.bind_op, Prog.bind_ret, Prog.pure_eq_ret]
  iintro ⟨#Hrec, HO, ⟨⟨Ha, Hb, Hcb⟩, Hca⟩, ⟨⟨Hd, He, Hce⟩, Hcd⟩, Hk⟩
  iapply (wp_wait_cell D K c l (false, k0, b) (sem := sSem k0 b) rfl h1 (fun a ha => Nat.lt_of_le_of_lt (Nat.zero_le _) (hl0 a ha))) $$ [HO Ha Hca]
  · isplitr; · iexact Hrec
    isplitl [Hca]; · iexact Hca
    isplitl [HO]; · iexact HO
    iexact Ha
  iintro ⟨HO, Hza, Hpa⟩
  iapply (wp_wait_cell D K c l (true, k0, b) (sem := rSem k0 b) rfl h2 hl0) $$ [HO Hb Hcb]
  · isplitr; · iexact Hrec
    isplitl [Hcb]; · iexact Hcb
    isplitl [HO]; · iexact HO
    iexact Hb
  iintro ⟨HO, Hzb, Hpb⟩
  iapply (wp_wait_cell D K c l (false, k1, b) (sem := sSem k1 b) rfl h3 (fun a ha => Nat.lt_of_le_of_lt (Nat.zero_le _) (hl0 a ha))) $$ [HO Hd Hcd]
  · isplitr; · iexact Hrec
    isplitl [Hcd]; · iexact Hcd
    isplitl [HO]; · iexact HO
    iexact Hd
  iintro ⟨HO, Hzd, Hpd⟩
  iapply (wp_wait_cell D K c l (true, k1, b) (sem := rSem k1 b) rfl h4 hl1) $$ [HO He Hce]
  · isplitr; · iexact Hrec
    isplitl [Hce]; · iexact Hce
    isplitl [HO]; · iexact HO
    iexact He
  iintro ⟨HO, Hze, Hpe⟩
  ihave Hpa := (Entails.of_eq (show pay D c (some (false, k0, b)) false = sendPay D c k0 b from rfl)) $$ Hpa
  ihave Hpb := (Entails.of_eq (show pay D c (some (true, k0, b)) false = recvPay D c k0 b from rfl)) $$ Hpb
  ihave Hpd := (Entails.of_eq (show pay D c (some (false, k1, b)) false = sendPay D c k1 b from rfl)) $$ Hpd
  ihave Hpe := (Entails.of_eq (show pay D c (some (true, k1, b)) false = recvPay D c k1 b from rfl)) $$ Hpe
  iapply (WP_ret c)
  iapply Hk
  isplitl [HO]; · iexact HO
  isplitl [Hza Hzb Hzd Hze]
  · isplitl [Hza Hzb]
    · isplitl [Hza]; · iexact Hza
      iexact Hzb
    isplitl [Hzd]; · iexact Hzd
    iexact Hze
  isplitl [Hpa]; · iexact Hpa
  isplitl [Hpb]; · iexact Hpb
  isplitl [Hpd]; · iexact Hpd
  iexact Hpe

/-! ## The barrier -/

theorem wp_barrier :
    iprop(recs D K ∗ ow c owed0 ∗ (bigSep Finset.univ fun b => land false c b) ∗ (bigSep Finset.univ fun b => land true c b)
        ∗ dutyTok ER (kcell (xn c, none)) 0 false ∗ dutyTok ER (kcell (yn c, none)) 0 true
        ∗ cred (tallyAt (kcell (c, none)) () 2) ∗ atPos ER (kcell (c, none)) 0 ∅ 0
        ∗ ((ow c owedB ∗ semVal (kcell (c, none)) 0 ∗ (bigSep Finset.univ fun b => land false (xn c) b) ∗ (bigSep Finset.univ fun b => land true (yn c) b)) -∗ Kt ⟨⟩))
      ⊢ WP c (barrier (F := F) (xn c) (yn c)) Kt := by
  unfold barrier ow
  simp only [Prog.lift, Prog.bind_op, Prog.bind_ret, Prog.pure_eq_ret, semSignalWord, semWaitWord]
  iintro ⟨#Hrec, ⟨%W, HO⟩, HL1, HL2, Ht1, Ht2, Hc, Hat, Hk⟩
  ihave #Hi1 := (recs_inv D K (xn c, none)) $$ Hrec
  ihave #Hi2 := (recs_inv D K (yn c, none)) $$ Hrec
  ihave #Hi0 := (recs_inv D K (c, none)) $$ Hrec
  ihave #Hr1 := (recs_reached D K (xn c)) $$ Hrec
  ihave #Hr2 := (recs_reached D K (yn c)) $$ Hrec
  iapply (Rounds.wp_signal 𝒱₀ ER (Rd D) (c : Thread nD τ) none (dst := (xn c : Thread nD τ)) (κ := K (xn c, none)) (d := false) (r := 0)
    (by show false ∈ (Rd D).duties (kcell (xn c, none)) 0; rw [duties_bar]; exact Finset.mem_univ _)
    ((amount_eq D (xn c) none 0 false).trans (by decide)) () (OL c ((true, none) :: owedB)) rfl (W := W)) $$ [HO HL1 Ht1]
  · isplitr; · iexact Hi1
    isplitl [HO]; · iexact HO
    isplitl [Ht1]; · iexact Ht1
    isplitl [HL1]
    · rw [show (Rd D).payload ((xn c : Thread nD τ), .reg barSem) 0 false = bigSep Finset.univ fun b => land false c b from
        (payload_eq D (xn c) none 0 false).trans (show (bigSep Finset.univ fun b => land false (xn (xn c)) b : sProp 𝕄) = _ by rw [xn_xn])]
      iexact HL1
    iexact Hr1
  iintro HO
  iapply (Rounds.wp_signal 𝒱₀ ER (Rd D) (c : Thread nD τ) none (dst := (yn c : Thread nD τ)) (κ := K (yn c, none)) (d := true) (r := 0)
    (by show true ∈ (Rd D).duties (kcell (yn c, none)) 0; rw [duties_bar]; exact Finset.mem_univ _)
    ((amount_eq D (yn c) none 0 true).trans (by decide)) () (OL c owedB) rfl (W := W)) $$ [HO HL2 Ht2]
  · isplitr; · iexact Hi2
    isplitl [HO]; · iexact HO
    isplitl [Ht2]; · iexact Ht2
    isplitl [HL2]
    · rw [show (Rd D).payload ((yn c : Thread nD τ), .reg barSem) 0 true = bigSep Finset.univ fun b => land true c b from
        (payload_eq D (yn c) none 0 true).trans (show (bigSep Finset.univ fun b => land true (yn (yn c)) b : sProp 𝕄) = _ by rw [yn_yn])]
      iexact HL2
    iexact Hr2
  iintro HO
  iapply (Rounds.wp_wait_rest_token 𝒱₀ ER (Rd D) (c : Thread nD τ) none (κ := K (c, none))
      (wpE_semWait_eq 𝒱₀ (c : Thread nD τ) none Set.univ) (Set.mem_univ _) () (O := OL c owedB) (W := W) (R := 0) (m := 0) (T := ∅)
      ((show _ = 2 by decide).trans (expect_bar D c).symm)) $$ [Hc HO Hat]
  · isplitr; · iexact Hi0
    isplitl [Hc]; · iexact Hc
    isplitl [HO]; · iexact HO
    isplitr
    · ihave Hlev := (recs_lev D K) $$ Hrec
      iapply (mayWait_cell c none owedB (by decide)); iexact Hlev
    iexact Hat
  iintro ⟨HO, Hat, -, Hpay⟩
  ihave Hp := (Entails.of_eq (show bigSep ((Rd D).duties ((c : Thread nD τ), .reg barSem) 0 \ ∅) (fun d => (Rd D).payload ((c : Thread nD τ), .reg barSem) 0 d)
      = iprop((bigSep Finset.univ fun b => land false (xn c) b) ∗ (bigSep Finset.univ fun b => land true (yn c) b)) from rest_bar D c)) $$ Hpay
  imod (Rounds.cell_close ER (Rd D) (Set.mem_univ (K (c, none))) (fun h => h) (R := 0 + 1) (duties_later D _)) $$ [Hat] with Hz
  · isplitr; · iexact Hi0
    iexact Hat
  icases Hp with ⟨Hp1, Hp2⟩
  iapply (WP_ret c)
  iapply Hk
  isplitl [HO]; · iexists _; iexact HO
  isplitl [Hz]; · iexact Hz
  isplitl [Hp1]; · iexact Hp1
  iexact Hp2

end Cert.KernelIdeal.Body

end
-- ==== Proof.Stages.lean ====
/- The body at the grid's four points, over a batch's stages: before its heads, after the first exchange's
   sends, after the second's, after its last waits. -/
module

public import proofs.«01_k».proof.Proof.Comm

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (D : Data F) (K : Names) (c : Dev nD) (Kt : PUnit → sProp (MT nD τ sig Unit (Elt F) ℕ UU ℕ))

/-! ## The stages -/

/-- A batch at launch: its scratch at any contents, its copies' tokens. -/
def r0 (b : Fin 4) : sProp 𝕄 :=
  iprop((∃ f, mMl.view.loc (c : Thread nD τ) ↦[slM b]{fullShare} f) ∗ (∃ f, mOun.view.loc (c : Thread nD τ) ↦[slO b]{fullShare} f)
    ∗ (∃ f, mOxs.view.loc (c : Thread nD τ) ↦[slO b]{fullShare} f) ∗ (∃ f, mOxs2.view.loc (c : Thread nD τ) ↦[slO b]{fullShare} f)
    ∗ toks c 0 b ∗ toks c 1 b ∗ toks c 2 b ∗ toks c 3 b)
/-- Before its heads. -/
def s0 (b : Fin 4) : sProp 𝕄 :=
  iprop((mMl.view.loc (c : Thread nD τ) ↦[slM b]{fullShare} mlN D c 0) ∗ (∃ f, mOun.view.loc (c : Thread nD τ) ↦[slO b]{fullShare} f)
    ∗ (∃ f, mOxs.view.loc (c : Thread nD τ) ↦[slO b]{fullShare} f) ∗ (∃ f, mOxs2.view.loc (c : Thread nD τ) ↦[slO b]{fullShare} f)
    ∗ toks c 0 b ∗ toks c 1 b ∗ toks c 2 b ∗ toks c 3 b ∗ land false (xn c) b ∗ land true (yn c) b)
/-- After the first exchange's sends. -/
def s1 (b : Fin 4) : sProp 𝕄 :=
  iprop((mOun.view.loc (c : Thread nD τ) ↦[slO b]{fullShare} oA D c) ∗ (∃ f, mOxs2.view.loc (c : Thread nD τ) ↦[slO b]{fullShare} f)
    ∗ toks c 2 b ∗ toks c 3 b ∗ land true (yn c) b ∗ mid c 0 b ∗ mid c 1 b)
/-- What of a batch lies idle after the first exchange. -/
def rest1 (b : Fin 4) : sProp 𝕄 :=
  iprop((∃ f, mOxs.view.loc (c : Thread nD τ) ↦[slO b]{fullShare} f) ∗ (∃ f, mOr1.view.loc (c : Thread nD τ) ↦[slO b]{fullShare} f)
    ∗ (∃ f, mMl1.view.loc (c : Thread nD τ) ↦[slM b]{fullShare} f) ∗ done c 0 b ∗ done c 1 b)
/-- After the second exchange's sends. -/
def s2 (b : Fin 4) : sProp 𝕄 :=
  iprop((mOun.view.loc (c : Thread nD τ) ↦[slO b]{fullShare} oB D c) ∗ rest1 c b ∗ mid c 2 b ∗ mid c 3 b)
/-- After its last waits. -/
def s3 (b : Fin 4) : sProp 𝕄 :=
  iprop(fin D c b ∗ rest1 c b ∗ (∃ f, mOxs2.view.loc (c : Thread nD τ) ↦[slO b]{fullShare} f) ∗ done c 2 b ∗ done c 3 b)

def idleS (s : Fin 2) : sProp 𝕄 := bigSep Finset.univ fun h => idleH c s h
def flyS (b : Fin 4) (s : Fin 2) : sProp 𝕄 := bigSep Finset.univ fun h => flyH D c b s h
def srcB (fK fV : S4x4096x8x128.Idx → Elt F .f32) : sProp 𝕄 := bigSep Finset.univ fun _ : Fin 8 => srcH c fK fV

/-! ## A batch's steps -/

theorem pair8 (A B : Fin 8 → sProp 𝕄) : iprop((bigSep Finset.univ fun h => A h) ∗ bigSep Finset.univ fun h => B h) ⊢ bigSep Finset.univ fun h => iprop(A h ∗ B h) :=
  Entails.of_eq (bigSep_sep (s := Finset.univ) (Φ := A) (Ψ := B)).symm

theorem wp_starts (b : Fin 4) (s : Fin 2) (v : BitVec 32) (hv : RowOk v) (fK fV : S4x4096x8x128.Idx → Elt F .f32)
    (hk : SrcOk (D.k c) v hv fK) (hvv : SrcOk (D.v c) v hv fV) :
    iprop(idleS c s ∗ srcB c fK fV ∗ (flyS D c b s -∗ Kt ⟨⟩)) ⊢ WP c (each8 (startH (F := F) b s v hv)) Kt := by
  unfold idleS srcB flyS
  iintro ⟨HI, HS, Hk⟩
  iapply (wp_each8 c (startH (F := F) b s v hv) (fun _ => iprop(emp)) (fun h => iprop(idleH c s h ∗ srcH c fK fV)) (fun h => flyH D c b s h)
    (fun h Kt' => by
      iintro ⟨-, ⟨HI, HS⟩, Hk'⟩
      iapply (wp_startH D c Kt' b s v hv h fK fV hk hvv)
      isplitl [HI]; · iexact HI
      isplitl [HS]; · iexact HS
      iintro HF
      iapply Hk'
      isplitr; · iempintro
      iexact HF) Kt)
  isplitr; · iempintro
  isplitl [HI HS]
  · iapply (pair8 (fun h => idleH c s h) (fun _ => srcH c fK fV))
    isplitl [HI]; · iexact HI
    iexact HS
  iintro ⟨-, HF⟩
  iapply Hk; iexact HF

theorem oN_zero (f : S4x8x32x128.Idx → Elt F .f32) : oN D c f 0 = f := by
  funext x; unfold oN; exact if_neg (Nat.not_lt_zero _)
theorem oN_eight (f : S4x8x32x128.Idx → Elt F .f32) : oN D c f 8 = oA D c := by
  funext x; unfold oN oA; exact if_pos (x 1).isLt

theorem wp_heads (b : Fin 4) (s : Fin 2) (v : BitVec 32) (hv : RowOk v) (l : List Pay) (hl : ∀ a ∈ l, 0 < lev a.2) :
    iprop(recs D K ∗ ow c l ∗ (mMl.view.loc (c : Thread nD τ) ↦[slM b]{fullShare} mlN D c 0) ∗ (∃ f, mOun.view.loc (c : Thread nD τ) ↦[slO b]{fullShare} f) ∗ flyS D c b s
        ∗ ((ow c l ∗ (mMl.view.loc (c : Thread nD τ) ↦[slM b]{fullShare} mlA D c) ∗ (mOun.view.loc (c : Thread nD τ) ↦[slO b]{fullShare} oA D c) ∗ idleS c s) -∗ Kt ⟨⟩))
      ⊢ WP c (each8 (headH b s v hv (D.q c b))) Kt := by
  unfold idleS flyS
  iintro ⟨#Hrec, HO, HM, ⟨%f, HU⟩, HF, Hk⟩
  iapply (wp_each8 c (headH b s v hv (D.q c b)) (fun n => iprop(ow c l ∗ (mMl.view.loc (c : Thread nD τ) ↦[slM b]{fullShare} mlN D c n) ∗ (mOun.view.loc (c : Thread nD τ) ↦[slO b]{fullShare} oN D c f n)))
    (fun h => iprop(recs D K ∗ flyH D c b s h)) (fun h => idleH c s h)
    (fun h Kt' => by
      iintro ⟨HI, ⟨Hr, HF⟩, Hk'⟩
      iapply (wp_headH D K c Kt' b s v hv h l hl f)
      isplitl [Hr]; · iexact Hr
      isplitl [HI]; · iexact HI
      isplitl [HF]; · iexact HF
      iexact Hk') Kt)
  isplitl [HO HM HU]
  · isplitl [HO]; · iexact HO
    isplitl [HM]; · iexact HM
    rw [oN_zero]; iexact HU
  isplitl [HF]
  · iapply (pair8 (fun _ => recs D K) (fun h => flyH D c b s h))
    isplitr
    · rw [bigSep8]
      isplitr; · iexact Hrec
      isplitr; · iexact Hrec
      isplitr; · iexact Hrec
      isplitr; · iexact Hrec
      isplitr; · iexact Hrec
      isplitr; · iexact Hrec
      isplitr; · iexact Hrec
      iexact Hrec
    iexact HF
  rw [oN_eight]
  iintro ⟨⟨HO, HM, HU⟩, HI⟩
  iapply Hk
  isplitl [HO]; · iexact HO
  isplitl [HM]; · iexact HM
  isplitl [HU]; · iexact HU
  iexact HI

/-- A batch's heads, then the first exchange's sends. -/
theorem wp_batch (b : Fin 4) (s : Fin 2) (v : BitVec 32) (hv : RowOk v) (l : List Pay) (hl : ∀ a ∈ payO false b :: payM false b :: l, 0 < lev a.2) :
    iprop(recs D K ∗ ow c (payO false b :: payM false b :: l) ∗ s0 D c b ∗ flyS D c b s ∗ ((ow c l ∗ s1 D c b ∗ idleS c s) -∗ Kt ⟨⟩))
      ⊢ WP c (each8 (headH b s v hv (D.q c b))) (fun _ => WP c (send1 (F := F) (xn c) (xn c) b) Kt) := by
  unfold s0 s1
  rw [show send1 (F := F) (xn c) (xn c) b = (round1 b >>= fun _ => sendB 0 1 mOxs (Memref.isWhole_whole _) mOr1 (Memref.isWhole_whole _) mMl1 (xn c) (xn c) b) from rfl, WP_bind]
  iintro ⟨#Hrec, HO, ⟨HM, HU, HX, HX2, Ht0, Ht1, Ht2, Ht3, HL, HL2⟩, HF, Hk⟩
  iapply (wp_heads D K c _ b s v hv _ hl)
  isplitr; · iexact Hrec
  isplitl [HO]; · iexact HO
  isplitl [HM]; · iexact HM
  isplitl [HU]; · iexact HU
  isplitl [HF]; · iexact HF
  iintro ⟨HO, HM, HU, HI⟩
  iapply (wp_round1 D c _ b)
  isplitl [HU]; · iexact HU
  isplitl [HX]; · iexact HX
  iintro ⟨HU, HX⟩
  iapply (wp_sendB1 D K c Kt b l)
  isplitr; · iexact Hrec
  isplitl [HO]; · iexact HO
  isplitl [HX]; · iexact HX
  isplitl [HM]; · iexact HM
  isplitl [HL]; · iexact HL
  isplitl [Ht0]; · iexact Ht0
  isplitl [Ht1]; · iexact Ht1
  iintro ⟨HO, Hm0, Hm1⟩
  iapply Hk
  isplitl [HO]; · iexact HO
  isplitr [HI]
  · isplitl [HU]; · iexact HU
    isplitl [HX2]; · iexact HX2
    isplitl [Ht2]; · iexact Ht2
    isplitl [Ht3]; · iexact Ht3
    isplitl [HL2]; · iexact HL2
    isplitl [Hm0]; · iexact Hm0
    iexact Hm1
  iexact HI

theorem wp_handle1 (b : Fin 4) (l : List Pay) (hl : ∀ a ∈ payO true b :: payM true b :: l, lev (some (true, 0, b)) < lev a.2) :
    iprop(recs D K ∗ ow c (payO true b :: payM true b :: l) ∗ s1 D c b ∗ ((ow c l ∗ s2 D c b) -∗ Kt ⟨⟩))
      ⊢ WP c (handle1 (F := F) (yn c) (yn c) b) Kt := by
  unfold handle1 s1 s2 rest1
  rw [WP_bind]
  iintro ⟨#Hrec, HO, ⟨HU, HX2, Ht2, Ht3, HL2, Hm0, Hm1⟩, Hk⟩
  iapply (wp_waitB D K c _ 0 1 mOxs (Memref.isWhole_whole _) mOr1 (Memref.isWhole_whole _) mMl1 b _ rfl rfl rfl rfl hl hl)
  isplitr; · iexact Hrec
  isplitl [HO]; · iexact HO
  isplitl [Hm0]; · iexact Hm0
  isplitl [Hm1]; · iexact Hm1
  iintro ⟨HO, ⟨Hd0, Hd1⟩, HX, HR, HM, HM1⟩
  rw [WP_bind]
  unfold sendPay recvPay
  iapply (wp_merge1 D c _ b)
  isplitl [HM]; · iexact HM
  isplitl [HM1]; · iexact HM1
  isplitl [HU]; · iexact HU
  isplitl [HR]; · iexact HR
  isplitl [HX2]; · iexact HX2
  iintro ⟨HM, HM1, HU, HR, HX2⟩
  iapply (wp_sendB2 D K c Kt b l)
  isplitr; · iexact Hrec
  isplitl [HO]; · iexact HO
  isplitl [HX2]; · iexact HX2
  isplitl [HM]; · iexact HM
  isplitl [HL2]; · iexact HL2
  isplitl [Ht2]; · iexact Ht2
  isplitl [Ht3]; · iexact Ht3
  iintro ⟨HO, Hm2, Hm3⟩
  iapply Hk
  isplitl [HO]; · iexact HO
  isplitl [HU]; · iexact HU
  isplitl [HX HR HM1 Hd0 Hd1]
  · isplitl [HX]; · iexact HX
    isplitl [HR]; · iexists _; iexact HR
    isplitl [HM1]; · iexists _; iexact HM1
    isplitl [Hd0]; · iexact Hd0
    iexact Hd1
  isplitl [Hm2]; · iexact Hm2
  iexact Hm3

theorem wp_wait2 (b : Fin 4) :
    iprop(recs D K ∗ ow c owed4 ∗ s2 D c b ∗ ((ow c owed4 ∗ s3 D c b) -∗ Kt ⟨⟩)) ⊢ WP c (wait2 (F := F) b) Kt := by
  unfold wait2 s2 s3 fin
  iintro ⟨#Hrec, HO, ⟨HU, HR1, Hm2, Hm3⟩, Hk⟩
  iapply (wp_waitB D K c _ 2 3 mOxs2 (Memref.isWhole_whole _) mOr2 (Memref.isWhole_whole _) mMl2 b _ rfl rfl rfl rfl
    (fun a ha => absurd ha List.not_mem_nil) (fun a ha => absurd ha List.not_mem_nil))
  isplitr; · iexact Hrec
  isplitl [HO]; · iexact HO
  isplitl [Hm2]; · iexact Hm2
  isplitl [Hm3]; · iexact Hm3
  unfold sendPay recvPay
  iintro ⟨HO, ⟨Hd2, Hd3⟩, HX2, HR2, HM, HM2⟩
  iapply Hk
  isplitl [HO]; · iexact HO
  isplitl [HU HM HM2 HR2]
  · isplitl [HM]; · iexact HM
    isplitl [HM2]; · iexact HM2
    isplitl [HU]; · iexact HU
    iexact HR2
  isplitl [HR1]; · iexact HR1
  isplitl [HX2]; · iexact HX2
  isplitl [Hd2]; · iexact Hd2
  iexact Hd3

theorem wp_finals (b : Fin 4) (n n' : ℕ) (hn : n = b.val * 8) (hn' : n' = b.val * 8 + 8) (f : Buf (Elt F) (mOut.view.loc (c : Thread nD τ))) :
    iprop(s3 D c b ∗ (mOut.view.loc (c : Thread nD τ) ↦[Finset.univ]{fullShare} resN D c f n)
        ∗ ((s3 D c b ∗ (mOut.view.loc (c : Thread nD τ) ↦[Finset.univ]{fullShare} resN D c f n')) -∗ Kt ⟨⟩))
      ⊢ WP c (finalB mOut b) Kt := by
  unfold s3
  iintro ⟨⟨HF, HR⟩, H, Hk⟩
  iapply (wp_finalB D c Kt b n n' hn hn' f)
  isplitl [HF]; · iexact HF
  isplitl [H]; · iexact H
  iintro ⟨HF, H⟩
  iapply Hk
  isplitr [H]
  · isplitl [HF]; · iexact HF
    iexact HR
  iexact H

/-! ## Single steps -/

theorem wp_dev (Kd : Dev nD → sProp (MT nD τ sig Unit (Elt F) ℕ UU ℕ)) : Kd c ⊢ WP c (Prog.lift .deviceId) Kd := by
  unfold WP Prog.lift
  rw [wp_deviceId, wp_ret]
  iintro H; imodintro; iexact H
theorem wp_asm {P : Prop} {d : Decidable P} (h : P) (Kh : PLift P → sProp (MT nD τ sig Unit (Elt F) ℕ UU ℕ)) : Kh ⟨h⟩ ⊢ WP c (Prog.lift (TpuEff.assume P d)) Kh := by
  unfold WP Prog.lift
  rw [wp_assume_of _ _ _ _ h, wp_ret]
  iintro H; imodintro; iexact H

/-- The table: its one word is `w`. -/
def tab (w : BitVec 32) : sProp 𝕄 := iprop(∃ q f, ⌜f = fun _ => w⌝ ∗ (mTab.view.loc (c : Thread nD τ) ↦[Finset.univ]{q} f))

theorem wp_word (w : BitVec 32) (Kw : BitVec 32 → sProp (MT nD τ sig Unit (Elt F) ℕ UU ℕ)) :
    iprop(tab c w ∗ (tab c w -∗ Kw w)) ⊢ WP c (word (F := F)) Kw := by
  unfold tab word smemLoad smemLoadElt
  iintro ⟨⟨%q, %f, %hf, H⟩, Hk⟩
  subst hf
  iapply (wp_load_as c (m := mTab) (Finset.subset_univ _) (x := fun _ => w) rfl) $$ H; iintro H
  iapply (WP_ret c)
  iapply Hk
  iexists q; iexists _
  isplitr; · (ipureintro; rfl)
  iexact H

theorem wp_loadQ (arg3 : Memref sig .tc .vmem S1x32x8x128 .f32) {q : PosShare TreeShare} (f : Buf (Elt F) (arg3.view.loc (c : Thread nD τ)))
    (x : Vec F S1x32x8x128 .f32) (hx : arg3.view.readAt (Elt F) (Rect.unit (s := S1x32x8x128) ![0, 0, 0, 0] S1x32x8x128.size inb_S1x32x8x128_S1x32x8x128_0_0_0_0).toLoadRect f = x)
    (Kq : Vec F S1x32x8x128 .f32 → sProp (MT nD τ sig Unit (Elt F) ℕ UU ℕ)) :
    iprop((arg3.view.loc (c : Thread nD τ) ↦[Finset.univ]{q} f) ∗ ((arg3.view.loc (c : Thread nD τ) ↦[Finset.univ]{q} f) -∗ Kq x)) ⊢ WP c (loadQ arg3) Kq := by
  unfold loadQ Prog.lift
  iintro ⟨H, Hk⟩
  iapply (wp_load_as c (m := arg3) (Finset.subset_univ _) hx) $$ H; iintro H
  iapply (WP_ret c)
  iapply Hk; iexact H

/-! ## The invariant between points -/

/-- What the device holds before the first point, -/
def P0 (w : BitVec 32) (fK fV : S4x4096x8x128.Idx → Elt F .f32) : sProp 𝕄 :=
  iprop((bigSep Finset.univ fun b => land false c b) ∗ (bigSep Finset.univ fun b => land true c b)
    ∗ dutyTok ER (kcell (xn c, none)) 0 false ∗ dutyTok ER (kcell (yn c, none)) 0 true
    ∗ cred (tallyAt (kcell (c, none)) () 2) ∗ atPos ER (kcell (c, none)) 0 ∅ 0
    ∗ (bigSep Finset.univ fun b => r0 c b) ∗ idleS c 0 ∗ idleS c 1
    ∗ (bigSep Finset.univ fun _ : Fin 4 => srcB c fK fV) ∗ tab c w)
/-- after it, -/
def P1 (w : BitVec 32) (fK fV : S4x4096x8x128.Idx → Elt F .f32) : sProp 𝕄 :=
  iprop(semVal (kcell (c, none)) 0 ∗ s1 D c 0 ∗ s0 D c 1 ∗ s0 D c 2 ∗ s0 D c 3 ∗ idleS c 0 ∗ flyS D c 1 1 ∗ srcB c fK fV ∗ srcB c fK fV ∗ tab c w)
/-- after the second, -/
def P2 (w : BitVec 32) (fK fV : S4x4096x8x128.Idx → Elt F .f32) : sProp 𝕄 :=
  iprop(semVal (kcell (c, none)) 0 ∗ s2 D c 0 ∗ s1 D c 1 ∗ s0 D c 2 ∗ s0 D c 3 ∗ idleS c 1 ∗ flyS D c 2 0 ∗ srcB c fK fV ∗ tab c w)
/-- after the third, -/
def P3 (w : BitVec 32) : sProp 𝕄 :=
  iprop(semVal (kcell (c, none)) 0 ∗ s2 D c 0 ∗ s2 D c 1 ∗ s1 D c 2 ∗ s0 D c 3 ∗ idleS c 0 ∗ flyS D c 3 1 ∗ tab c w)
/-- and at the end. -/
def P4 (w : BitVec 32) : sProp 𝕄 :=
  iprop(semVal (kcell (c, none)) 0 ∗ s3 D c 0 ∗ s3 D c 1 ∗ s3 D c 2 ∗ s3 D c 3 ∗ idleS c 0 ∗ idleS c 1 ∗ tab c w)

theorem rowOk_of {w : BitVec 32} (hw : w = 0#32 ∨ w = 1#32) : RowOk w := by
  rcases hw with rfl | rfl <;> decide

/-- The table's word of a device, what memory holds of its keys and values. -/
structure Reads (w : BitVec 32) (fK fV : S4x4096x8x128.Idx → Elt F .f32) : Prop where
  hw : w = 0#32 ∨ w = 1#32
  hk : SrcOk (D.k c) w (rowOk_of hw) fK
  hv : SrcOk (D.v c) w (rowOk_of hw) fV

theorem chk1_0 {w : BitVec 32} (hw : w = 0#32 ∨ w = 1#32) : k0_chk1 (grid0.coords t0_0) w := by
  rcases hw with rfl | rfl <;> decide
theorem chk2_of {w : BitVec 32} (hw : w = 0#32 ∨ w = 1#32) (t : Fin grid0.N) : k0_chk2 (grid0.coords t) w := by
  rcases fin_N0 t with rfl | rfl | rfl | rfl <;> rcases hw with rfl | rfl <;> decide
theorem chk3_of {w : BitVec 32} (hw : w = 0#32 ∨ w = 1#32) (t : Fin grid0.N) : k0_chk3 (grid0.coords t) w := by
  rcases fin_N0 t with rfl | rfl | rfl | rfl <;> rcases hw with rfl | rfl <;> decide

end Cert.KernelIdeal.Body

end
-- ==== Proof.Fund.lean ====
/- The protocol's launch: what the launch element turns into, dealt to the devices. The barriers' cells start
   open, the copies' cells start unopened, for their counters exist only while the kernel runs; a device gets
   the rights to open its own copies' cells, the tokens of the payments it will make, and the credit of what
   it will wait for. -/
module

public import proofs.«01_k».proof.Proof.Stages

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation BodyObligationLoose cellOf)

variable {F : FTy → Type} [FloatOps F] [Named F]

local notation "𝕄" => MT nD τ sig Unit (Elt F) ℕ UU ℕ

variable (D : Data F)

/-! ## The credit -/

/-- A family over a part of an index type. -/
theorem bigSep_comap {I J : Type} [Fintype I] [DecidableEq I] [Fintype J] (f : J → I) (hf : Function.Injective f) (Φ : I → sProp 𝕄) :
    bigSep Finset.univ Φ ⊢ bigSep Finset.univ (fun j => Φ (f j)) := by
  have h : bigSep (Finset.univ.map ⟨f, hf⟩) Φ = bigSep Finset.univ (fun j => Φ (f j)) := by rw [bigSep_map]; rfl
  exact h ▸ bigSep_subset (Finset.subset_univ _)

theorem OL_kcell (d c : Dev nD) (i : CI) (l : List Pay) :
    OL d l (kcell (c, i)) () = (l.map fun a => if peer a.1 d = c ∧ a.2 = i then amt a.2 else 0).sum := by
  induction l with
  | nil => rfl
  | cons a l ih =>
    unfold OL
    rw [Pi.add_apply, Finsupp.add_apply, ih, tallyAt_apply, List.map_cons, List.sum_cons, Nat.add_comm]
    congr 1
    refine if_congr ⟨fun h => ?_, fun h => ⟨?_, rfl⟩⟩ rfl rfl
    · have := kcell_inj h.1
      exact ⟨(congrArg Prod.fst this).symm, (congrArg Prod.snd this).symm⟩
    · show kcell (c, i) = kcell (peer a.1 d, a.2)
      rw [h.1, h.2]

/-- What all the devices together owe one cell. -/
theorem owed_sum (c : Dev nD) (i : CI) (l : List Pay) :
    (∑ d : Dev nD, OL d l (kcell (c, i)) ()) = l.countP (fun a => decide (a.2 = i)) * amt i := by
  rw [Finset.sum_congr rfl fun d _ => OL_kcell d c i l]
  induction l with
  | nil => simp
  | cons a l ih =>
    simp only [List.map_cons, List.sum_cons, Finset.sum_add_distrib]
    rw [ih, List.countP_cons, Nat.add_mul, Nat.add_comm]
    congr 1
    rw [Finset.sum_eq_single (peer a.1 c)]
    · rw [peer_peer]
      by_cases h : a.2 = i
      · simp [h]
      · simp [h]
    · intro d _ hd
      rw [if_neg]
      rintro ⟨h, -⟩
      exact hd (by rw [← h, peer_peer])
    · exact fun h => absurd (Finset.mem_univ _) h

def O₀ (c : Dev nD) : CellTallies nD τ sig Unit := OL c owed0

/-- The cells a device waits on for others' payments. -/
def inI : Unit ⊕ (Fin 4 × Fin 4) → CI
  | .inl _ => none
  | .inr (b, k) => some (true, k, b)
theorem inI_inj : Function.Injective inI := by unfold Function.Injective; decide

def creds (c : Dev nD) : sProp 𝕄 :=
  iprop(cred (tallyAt (kcell (c, none)) () 2)
    ∗ bigSep Finset.univ fun b : Fin 4 => bigSep Finset.univ fun k : Fin 4 => cred (tallyAt (kcell (c, some (true, k, b))) () (amtK k)))

theorem tally_eq (c : Dev nD) (i : CI) (n : ℕ) (h : (owed0.countP fun a => decide (a.2 = i)) * amt i = n) :
    (tallyOn (kcell (c, i)) (launchCredit (Pipeline.owing O₀) 0 (kcell (c, i))) : CellTallies nD τ sig Unit) = tallyAt (kcell (c, i)) () n := by
  unfold tallyAt
  refine congrArg _ (Finsupp.ext fun u => ?_)
  rw [Pipeline.launchCredit_owing, Finsupp.single_apply, if_pos rfl, ← h]
  exact owed_sum c i owed0

theorem count_bar : (owed0.countP fun a => decide (a.2 = none)) = 2 := by decide
theorem count_in : ∀ k b : Fin 4, (owed0.countP fun a => decide (a.2 = some (true, k, b))) = 1 := by decide

theorem launchCred_creds (c : Dev nD) : (Pipeline.launchCred O₀ c : sProp 𝕄) ⊢ creds c := by
  unfold Pipeline.launchCred creds
  refine (bigSep_comap (fun j => csem (inI j)) (csem_inj.comp inI_inj) _).trans ?_
  rw [BI.bigSep_univ_sum, bigSep_univ_prod]
  refine BI.sep_mono ?_ (bigSep_mono fun b _ => bigSep_mono fun k _ => ?_)
  · refine (bigSep_elim (Finset.mem_univ ())).trans (Entails.of_eq (congrArg cred ?_))
    exact tally_eq c none 2 (by rw [count_bar]; rfl)
  · refine Entails.of_eq (congrArg cred ?_)
    exact tally_eq c (some (true, k, b)) (amtK k) (by rw [count_in]; exact Nat.one_mul _)

/-! ## The launch element -/

/-- The copies' cells, batch by batch. -/
def cpI (x : Fin 4 × Fin 4 × Bool) : CI := some (x.2.2, x.2.1, x.1)
def barKey (c : Dev nD) : GSem nD τ sig := kcell (c, none)
def copyKey (j : Dev nD × Fin 4 × Fin 4 × Bool) : GSem nD τ sig := kcell (j.1, cpI j.2)
theorem barKey_inj : Function.Injective barKey := fun c c' h => congrArg Prod.fst (kcell_inj h)
theorem copyKey_inj : Function.Injective copyKey := by
  rintro ⟨c, b, k, e⟩ ⟨c', b', k', e'⟩ h
  have h1 := kcell_inj h
  have h2 : c = c' := congrArg Prod.fst h1
  have h3 := Option.some.inj (congrArg Prod.snd h1)
  have h4 : e = e' := congrArg (fun x => x.1) h3
  have h5 : k = k' := congrArg (fun x => x.2.1) h3
  have h6 : b = b' := congrArg (fun x => x.2.2) h3
  rw [h2, h4, h5, h6]

def bars : Finset (GSem nD τ sig) := Finset.univ.map ⟨barKey, barKey_inj⟩
def copies : Finset (GSem nD τ sig) := Finset.univ.map ⟨copyKey, copyKey_inj⟩
theorem bars_copies : Disjoint bars copies := by
  refine Finset.disjoint_left.mpr fun g hg hg' => ?_
  obtain ⟨c, -, hc⟩ := Finset.mem_map.mp hg
  obtain ⟨j, -, hj⟩ := Finset.mem_map.mp hg'
  have h := kcell_inj (hc.trans hj.symm)
  exact absurd (congrArg Prod.snd h) (by simp [cpI])

/-- The payments a device will make: the two signals, and for each copy of its own the two ends. -/
def payKey (j : Dev nD × (Bool ⊕ (Fin 4 × Fin 4 × Bool))) : GSem nD τ sig × ℕ × Bool :=
  match j with
  | (c, .inl d) => (kcell (peer d c, none), 0, d)
  | (c, .inr (b, k, e)) => (kcell (if e then peer (side k) c else c, some (e, k, b)), 0, false)
theorem peer_inj (e : Bool) : Function.Injective (peer e) := fun c c' h => by rw [← peer_peer e c, h, peer_peer]
theorem payKey_inj : Function.Injective payKey := by
  rintro ⟨c, d | ⟨b, k, e⟩⟩ ⟨c', d' | ⟨b', k', e'⟩⟩ h
  · have hd : d = d' := congrArg (fun x => x.2.2) h
    subst hd
    have h1 := congrArg Prod.fst (kcell_inj (congrArg (fun x => x.1) h))
    rw [peer_inj d h1]
  · have h1 := congrArg Prod.snd (kcell_inj (congrArg (fun x => x.1) h))
    exact absurd h1 (by simp)
  · have h1 := congrArg Prod.snd (kcell_inj (congrArg (fun x => x.1) h))
    exact absurd h1 (by simp)
  · have h0 := kcell_inj (congrArg (fun x => x.1) h)
    have h1 := congrArg Prod.fst h0
    have h3 := Option.some.inj (congrArg Prod.snd h0)
    have h4 : e = e' := congrArg (fun x => x.1) h3
    have h5 : k = k' := congrArg (fun x => x.2.1) h3
    have h6 : b = b' := congrArg (fun x => x.2.2) h3
    subst h4 h5 h6
    have h7 : c = c' := by
      cases e
      · exact h1
      · exact peer_inj _ h1
    rw [h7]
def pays : Finset (GSem nD τ sig × ℕ × Bool) := Finset.univ.map ⟨payKey, payKey_inj⟩

def seed : UB := launchOf bars copies pays

/-- One copy's rights and tokens before its cells are open. -/
def raw (c : Dev nD) (k b : Fin 4) : sProp 𝕄 :=
  iprop((openTok ER (kcell (c, some (false, k, b))) ∗ openTok ER (kcell (c, some (true, k, b))))
    ∗ (dutyTok ER (kcell (c, some (false, k, b))) 0 false ∗ dutyTok ER (kcell (peer (side k) c, some (true, k, b))) 0 false))
def raw' (c : Dev nD) (k b : Fin 4) : sProp 𝕄 :=
  iprop(raw c k b ∗ cred (tallyAt (kcell (c, some (true, k, b))) () (amtK k)))

/-- A device's part of the protocol at the barrier. -/
def barTok (c : Dev nD) : sProp 𝕄 :=
  iprop(dutyTok ER (kcell (xn c, none)) 0 false ∗ dutyTok ER (kcell (yn c, none)) 0 true)

def start (c : Dev nD) : sProp 𝕄 :=
  iprop(∃ K : Names, recs D K ∗ (barTok c ∗ cred (tallyAt (kcell (c, none)) () 2) ∗ atPos ER (kcell (c, none)) 0 ∅ 0)
    ∗ bigSep Finset.univ fun b : Fin 4 => bigSep Finset.univ fun k : Fin 4 => raw' c k b)

theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

theorem all_cells : bars ∪ copies = Finset.univ.map ⟨kcell, kcell_inj⟩ := by
  ext g
  constructor
  · intro h
    rcases Finset.mem_union.mp h with h | h
    · obtain ⟨c, -, hc⟩ := Finset.mem_map.mp h
      exact Finset.mem_map.mpr ⟨(c, none), Finset.mem_univ _, hc⟩
    · obtain ⟨j, -, hc⟩ := Finset.mem_map.mp h
      exact Finset.mem_map.mpr ⟨(j.1, cpI j.2), Finset.mem_univ _, hc⟩
  · intro h
    obtain ⟨⟨c, i⟩, -, hc⟩ := Finset.mem_map.mp h
    match i, hc with
    | none, hc => exact Finset.mem_union_left _ (Finset.mem_map.mpr ⟨c, Finset.mem_univ _, hc⟩)
    | some (e, k, b), hc => exact Finset.mem_union_right _ (Finset.mem_map.mpr ⟨(c, b, k, e), Finset.mem_univ _, hc⟩)

/-- What the launch deals a device, its credit apart. -/
def deal (c : Dev nD) : sProp 𝕄 :=
  iprop(barTok c ∗ atPos ER (kcell (c, none)) 0 ∅ 0 ∗ bigSep Finset.univ fun b : Fin 4 => bigSep Finset.univ fun k : Fin 4 => raw c k b)

theorem opens_eq : bigSep copies (fun g => (openTok ER g : sProp 𝕄))
    = bigSep Finset.univ fun c : Dev nD => bigSep Finset.univ fun b : Fin 4 => bigSep Finset.univ fun k : Fin 4 =>
      iprop(openTok ER (kcell (c, some (false, k, b))) ∗ openTok ER (kcell (c, some (true, k, b)))) := by
  unfold copies
  rw [bigSep_map, bigSep_univ_prod]
  refine bigSep_congr fun c _ => ?_
  rw [bigSep_univ_prod]
  refine bigSep_congr fun b _ => ?_
  rw [bigSep_univ_prod]
  exact bigSep_congr fun k _ => bigSep_bool _

theorem pays_eq : bigSep pays (fun x => (dutyTok ER x.1 x.2.1 x.2.2 : sProp 𝕄))
    = bigSep Finset.univ fun c : Dev nD => iprop(barTok c ∗ bigSep Finset.univ fun b : Fin 4 => bigSep Finset.univ fun k : Fin 4 =>
      iprop(dutyTok ER (kcell (c, some (false, k, b))) 0 false ∗ dutyTok ER (kcell (peer (side k) c, some (true, k, b))) 0 false)) := by
  unfold pays
  rw [bigSep_map, bigSep_univ_prod]
  refine bigSep_congr fun c _ => ?_
  rw [BI.bigSep_univ_sum]
  refine congr (congrArg _ ?_) ?_
  · rw [bigSep_bool]; rfl
  · rw [bigSep_univ_prod]
    refine bigSep_congr fun b _ => ?_
    rw [bigSep_univ_prod]
    exact bigSep_congr fun k _ => bigSep_bool _

/-- The launch: from the barriers' counters at zero and the launch element, the shared records and every device's part. -/
theorem fund :
    iprop((bigSep Finset.univ fun c : Dev nD => semVal (kcell (c, none)) 0) ∗ BI.own (ER seed) ∗ levAts L lv)
      ⊢ (|={Set.univ}=> ∃ K : Names, recs D K ∗ bigSep Finset.univ fun c : Dev nD => deal c : sProp 𝕄) := by
  have hb (Φ : GSem nD τ sig → sProp 𝕄) : bigSep bars Φ = bigSep Finset.univ fun c : Dev nD => Φ (kcell (c, none)) := by
    unfold bars; rw [bigSep_map]; rfl
  iintro ⟨Hv, Hu, Hl⟩
  ihave Hv := (Entails.of_eq (hb fun g => semVal g 0).symm) $$ Hv
  imod (fund_launch ER (Rd D) bars_copies (fun _ _ h => h) pays (avoid := ∅) (Es := Set.univ)) $$ [Hv Hu] with ⟨%κ, -, Hi, Hr, Ha, Ho, Ht⟩
  · isplitl [Hv]; · iexact Hv
    iexact Hu
  imodintro
  iexists fun ci => κ (kcell ci)
  ihave Hi := (Entails.of_eq (show bigSep (bars ∪ copies) (fun g => cellInv ER (Rd D) (κ g) g)
      = bigSep Finset.univ fun ci => cellInv ER (Rd D) (κ (kcell ci)) (kcell ci) from by rw [all_cells, bigSep_map]; rfl)) $$ Hi
  ihave Hr := (Entails.of_eq (hb fun g => reached ER g 0)) $$ Hr
  ihave Ha := (Entails.of_eq (hb fun g => atPos ER g 0 ∅ 0)) $$ Ha
  ihave Ho := (Entails.of_eq opens_eq) $$ Ho
  ihave Ht := (Entails.of_eq pays_eq) $$ Ht
  isplitl [Hi Hr Hl]
  · unfold recs
    isplitl [Hi]; · iexact Hi
    isplitl [Hr]; · iexact Hr
    iexact Hl
  unfold deal raw
  simp only [bigSep_sep']
  icases Ht with ⟨Hbt, Htk⟩
  isplitl [Hbt]; · iexact Hbt
  isplitl [Ha]; · iexact Ha
  isplitl [Ho]; · iexact Ho
  iexact Htk

/-- A device's start from its part and its credit. -/
theorem start_of (K : Names) (c : Dev nD) : iprop(recs D K ∗ deal c ∗ creds c) ⊢ start D c := by
  unfold start deal creds raw'
  iintro ⟨HR, ⟨Hb, Ha, Hr⟩, Hc, Hcs⟩
  iexists K
  isplitl [HR]; · iexact HR
  isplitl [Hb Ha Hc]
  · isplitl [Hb]; · iexact Hb
    isplitl [Hc] <;> iassumption
  simp only [bigSep_sep']
  isplitl [Hr] <;> iassumption

/-- Every device's start. -/
theorem starts :
    iprop((bigSep Finset.univ fun c : Dev nD => semVal (kcell (c, none)) 0) ∗ BI.own (ER seed) ∗ levAts L lv
        ∗ bigSep Finset.univ fun c : Dev nD => creds c)
      ⊢ (|={Set.univ}=> bigSep Finset.univ fun c : Dev nD => start D c : sProp 𝕄) := by
  iintro ⟨Hv, Hu, Hl, Hc⟩
  imod (fund D) $$ [Hv Hu Hl] with ⟨%K, HR, Hd⟩
  · isplitl [Hv]; · iexact Hv
    isplitl [Hu] <;> iassumption
  imodintro
  iapply (bigSep_with_persistent (R := recs D K) (S := Finset.univ) (Φ := fun c : Dev nD => iprop(deal c ∗ creds c)) (Ψ := fun c => start D c)
    fun c _ => start_of D K c)
  isplitl [HR]; · iexact HR
  rw [bigSep_sep']
  isplitl [Hd] <;> iassumption

/-! ## Opening the copies' cells -/

/-- One copy's two cells opened with their counters at zero. -/
theorem raw_open (K : Names) (c : Dev nD) (k b : Fin 4) :
    iprop(recs D K ∗ raw' c k b ∗ done c k b) ⊢ (|={Set.univ}=> (toks c k b ∗ reached ER (kcell (c, some (true, k, b))) 0) : sProp 𝕄) := by
  unfold raw' raw done toks ends
  iintro ⟨#HR, ⟨⟨⟨Ho1, Ho2⟩, Ht1, Ht2⟩, Hc⟩, Hv1, Hv2⟩
  imod (cell_open ER (Rd D) (κ := K (c, some (false, k, b))) (Set.mem_univ _)) $$ [Ho1 Hv1] with ⟨Ha1, Hr1⟩
  · isplitr; · iapply (recs_inv D K (c, some (false, k, b))); iexact HR
    isplitl [Ho1] <;> iassumption
  imod (cell_open ER (Rd D) (κ := K (c, some (true, k, b))) (Set.mem_univ _)) $$ [Ho2 Hv2] with ⟨Ha2, Hr2⟩
  · isplitr; · iapply (recs_inv D K (c, some (true, k, b))); iexact HR
    isplitl [Ho2] <;> iassumption
  imodintro
  isplitr [Hr2]
  · isplitl [Ha1 Ha2 Hc]
    · isplitl [Ha1]; · iexact Ha1
      isplitl [Ha2] <;> iassumption
    isplitl [Hr1]; · iexact Hr1
    isplitl [Ht1] <;> iassumption
  iexact Hr2

theorem raws_open (K : Names) (c : Dev nD) :
    iprop(recs D K ∗ (bigSep Finset.univ fun b : Fin 4 => bigSep Finset.univ fun k : Fin 4 => raw' c k b)
        ∗ (bigSep Finset.univ fun b : Fin 4 => bigSep Finset.univ fun k : Fin 4 => done c k b))
      ⊢ (|={Set.univ}=> bigSep Finset.univ fun b : Fin 4 => bigSep Finset.univ fun k : Fin 4 =>
        iprop(toks c k b ∗ reached ER (kcell (c, some (true, k, b))) 0) : sProp 𝕄) := by
  have h1 (b : Fin 4) : iprop(recs D K ∗ (bigSep Finset.univ fun k : Fin 4 => raw' c k b) ∗ bigSep Finset.univ fun k : Fin 4 => done c k b)
      ⊢ (|={Set.univ}=> bigSep Finset.univ fun k : Fin 4 => iprop(toks c k b ∗ reached ER (kcell (c, some (true, k, b))) 0) : sProp 𝕄) := by
    rw [← bigSep_sep']
    exact BI.BIBase.Entails.trans (bigSep_with_persistent fun k _ => raw_open D K c k b) (bigSep_fupd _ _)
  rw [← bigSep_sep']
  exact BI.BIBase.Entails.trans (bigSep_with_persistent fun b _ => h1 b) (bigSep_fupd _ _)

end Cert.KernelIdeal.Body

end
-- ==== Proof.ProgEq.lean ====
/- At each of the grid's four points the printed body is the straight line of its pieces. -/
module

public import proofs.«01_k».proof.Proof.Prog

@[expose] public section

noncomputable section

namespace Cert.KernelIdeal.Body

open Idealize.ShloMosaic Idealize.ShloMosaic.TcCoe Idealize.SL.Sem Cert.KernelIdeal.Gen

variable {F : FTy → Type} [FloatOps F] [Named F]

theorem body0 (arg3 : Memref sig .tc .vmem S1x32x8x128 .f32) (h3 : arg3.IsWhole)
    (arg6 : Memref sig .tc .vmem S4x32x8x128 .f32) (h6 : arg6.IsWhole) :
    bodyAt (F := F) t0_0 arg3 h3 arg6 h6 = kbody0 arg3 arg6 := by chain_rfl
theorem body1 (arg3 : Memref sig .tc .vmem S1x32x8x128 .f32) (h3 : arg3.IsWhole)
    (arg6 : Memref sig .tc .vmem S4x32x8x128 .f32) (h6 : arg6.IsWhole) :
    bodyAt (F := F) t0_1 arg3 h3 arg6 h6 = kbody1 arg3 arg6 := by chain_rfl
theorem body2 (arg3 : Memref sig .tc .vmem S1x32x8x128 .f32) (h3 : arg3.IsWhole)
    (arg6 : Memref sig .tc .vmem S4x32x8x128 .f32) (h6 : arg6.IsWhole) :
    bodyAt (F := F) t0_2 arg3 h3 arg6 h6 = kbody2 arg3 arg6 := by chain_rfl
theorem body3 (arg3 : Memref sig .tc .vmem S1x32x8x128 .f32) (h3 : arg3.IsWhole)
    (arg6 : Memref sig .tc .vmem S4x32x8x128 .f32) (h6 : arg6.IsWhole) :
    bodyAt (F := F) t0_3 arg3 h3 arg6 h6 = kbody3 arg3 arg6 := by chain_rfl

end Cert.KernelIdeal.Body

end
-- ==== Proof.Body.lean ====
/- The body at each of the grid's four points: what it takes and what it leaves. -/
module

public import proofs.«01_k».proof.Proof.Stages

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (D : Data F) (K : Names) (c : Dev nD) (Kt : PUnit → sProp (MT nD τ sig Unit (Elt F) ℕ UU ℕ))

/-- What a point's body keeps of the staged block of Q. -/
abbrev QAt (arg3 : Memref sig .tc .vmem S1x32x8x128 .f32) (f : Buf (Elt F) (arg3.view.loc (c : Thread nD τ))) (b : Fin 4) : Prop :=
  k0_pay89 (arg3.view.readAt (Elt F) (Rect.unit (s := S1x32x8x128) ![0, 0, 0, 0] S1x32x8x128.size inb_S1x32x8x128_S1x32x8x128_0_0_0_0).toLoadRect f) = D.q c b

variable (arg3 : Memref sig .tc .vmem S1x32x8x128 .f32) {q3 : PosShare TreeShare} (f3 : Buf (Elt F) (arg3.view.loc (c : Thread nD τ)))
  {w : BitVec 32} {fK fV : S4x4096x8x128.Idx → Elt F .f32} (R : Reads D c w fK fV)

theorem r0_s0 (b : Fin 4) :
    iprop(r0 c b ∗ land false (xn c) b ∗ land true (yn c) b ∗ (s0 D c b -∗ Kt ⟨⟩)) ⊢ WP c (initB (F := F) b) Kt := by
  unfold r0 s0
  iintro ⟨⟨HM, HU, HX, HX2, Ht⟩, HL, HL2, Hk⟩
  iapply (wp_initB D c Kt b)
  isplitl [HM]; · iexact HM
  iintro HM
  iapply Hk
  isplitl [HM]; · iexact HM
  isplitl [HU]; · iexact HU
  isplitl [HX]; · iexact HX
  isplitl [HX2]; · iexact HX2
  icases Ht with ⟨Ht0, Ht1, Ht2, Ht3⟩
  isplitl [Ht0]; · iexact Ht0
  isplitl [Ht1]; · iexact Ht1
  isplitl [Ht2]; · iexact Ht2
  isplitl [Ht3]; · iexact Ht3
  isplitl [HL]; · iexact HL
  iexact HL2

include R

/-- The next batch's copies, started behind a check of the table's word. -/
theorem wp_next {P : BitVec 32 → Prop} (dP : ∀ v, Decidable (P v)) (hP : ∀ v, P v → RowOk v) (h : P w) (b : Fin 4) (s : Fin 2)
    (k : PUnit → Prg F PUnit) :
    iprop(tab c w ∗ idleS c s ∗ srcB c fK fV ∗ ((tab c w ∗ flyS D c b s) -∗ WP c (k ⟨⟩) Kt))
      ⊢ WP c (word >>= fun v => Prog.lift (TpuEff.assume (P v) (dP v)) >>= fun hw => each8 (startH b s v (hP v hw.down)) >>= k) Kt := by
  rw [WP_bind]
  iintro ⟨HT, HI, HS, Hk⟩
  iapply (wp_word c w)
  isplitl [HT]; · iexact HT
  iintro HT
  rw [WP_bind]
  iapply (wp_asm c h)
  rw [WP_bind]
  iapply (wp_starts D c _ b s w _ fK fV R.hk R.hv)
  isplitl [HI]; · iexact HI
  isplitl [HS]; · iexact HS
  iintro HF
  iapply Hk
  isplitl [HT]; · iexact HT
  iexact HF

/-- A batch behind its check: its block of Q loaded, its heads and the first exchange's sends. -/
theorem wp_turn {P : BitVec 32 → Prop} (dP : ∀ v, Decidable (P v)) (hP : ∀ v, P v → RowOk v) (h : P w) (b : Fin 4) (s : Fin 2)
    (hq : QAt D c arg3 f3 b) (l : List Pay) (hl : ∀ a ∈ payO false b :: payM false b :: l, 0 < lev a.2) (k : PUnit → Prg F PUnit) :
    iprop(recs D K ∗ ow c (payO false b :: payM false b :: l) ∗ tab c w ∗ (arg3.view.loc (c : Thread nD τ) ↦[Finset.univ]{q3} f3) ∗ s0 D c b ∗ flyS D c b s
        ∗ ((ow c l ∗ tab c w ∗ (arg3.view.loc (c : Thread nD τ) ↦[Finset.univ]{q3} f3) ∗ s1 D c b ∗ idleS c s) -∗ WP c (k ⟨⟩) Kt))
      ⊢ WP c (word >>= fun v => Prog.lift (TpuEff.assume (P v) (dP v)) >>= fun hw => loadQ arg3 >>= fun q =>
          each8 (headH b s v (hP v hw.down) (k0_pay89 q)) >>= fun _ => send1 (xn c) (xn c) b >>= k) Kt := by
  rw [WP_bind]
  iintro ⟨#Hrec, HO, HT, HQ, H0, HF, Hk⟩
  iapply (wp_word c w)
  isplitl [HT]; · iexact HT
  iintro HT
  rw [WP_bind]
  iapply (wp_asm c h)
  rw [WP_bind]
  iapply (wp_loadQ c arg3 f3 _ rfl)
  isplitl [HQ]; · iexact HQ
  iintro HQ
  rw [hq, WP_bind]
  simp only [WP_bind c (send1 (F := F) (xn c) (xn c) b)]
  iapply (wp_batch D K c (fun a => WP c (k a) Kt) b s w _ l hl)
  isplitr; · iexact Hrec
  isplitl [HO]; · iexact HO
  isplitl [H0]; · iexact H0
  isplitl [HF]; · iexact HF
  iintro ⟨HO, H1, HI⟩
  iapply Hk
  isplitl [HO]; · iexact HO
  isplitl [HT]; · iexact HT
  isplitl [HQ]; · iexact HQ
  isplitl [H1]; · iexact H1
  iexact HI

theorem wp_body0 (hq : QAt D c arg3 f3 0) (arg6 : Memref sig .tc .vmem S4x32x8x128 .f32) :
    iprop(recs D K ∗ ow c owed0 ∗ P0 c w fK fV ∗ (arg3.view.loc (c : Thread nD τ) ↦[Finset.univ]{q3} f3)
        ∗ ((ow c owed1 ∗ P1 D c w fK fV ∗ (arg3.view.loc (c : Thread nD τ) ↦[Finset.univ]{q3} f3)) -∗ Kt ⟨⟩))
      ⊢ WP c (kbody0 arg3 arg6) Kt := by
  unfold kbody0 P0 P1
  rw [bigSep4 (fun b => r0 c b), bigSep4 (fun _ => srcB c fK fV), WP_bind]
  iintro ⟨#Hrec, HO, ⟨HL1, HL2, Hd1, Hd2, Hc, Hat, ⟨HR0, HR1, HR2, HR3⟩, HI0, HI1, ⟨HS0, HS1, HS2, HS3⟩, HT⟩, HQ, Hk⟩
  iapply (wp_dev c)
  rw [WP_bind]
  iapply (wp_barrier D K c)
  isplitr; · iexact Hrec
  isplitl [HO]; · iexact HO
  isplitl [HL1]; · iexact HL1
  isplitl [HL2]; · iexact HL2
  isplitl [Hd1]; · iexact Hd1
  isplitl [Hd2]; · iexact Hd2
  isplitl [Hc]; · iexact Hc
  isplitl [Hat]; · iexact Hat
  rw [bigSep4 (fun b => land false (xn c) b), bigSep4 (fun b => land true (yn c) b)]
  iintro ⟨HO, HB, ⟨HA0, HA1, HA2, HA3⟩, ⟨HC0, HC1, HC2, HC3⟩⟩
  rw [WP_bind]
  iapply (r0_s0 D c _ 0)
  isplitl [HR0]; · iexact HR0
  isplitl [HA0]; · iexact HA0
  isplitl [HC0]; · iexact HC0
  iintro H0
  rw [WP_bind]
  iapply (r0_s0 D c _ 1)
  isplitl [HR1]; · iexact HR1
  isplitl [HA1]; · iexact HA1
  isplitl [HC1]; · iexact HC1
  iintro H1
  rw [WP_bind]
  iapply (r0_s0 D c _ 2)
  isplitl [HR2]; · iexact HR2
  isplitl [HA2]; · iexact HA2
  isplitl [HC2]; · iexact HC2
  iintro H2
  rw [WP_bind]
  iapply (r0_s0 D c _ 3)
  isplitl [HR3]; · iexact HR3
  isplitl [HA3]; · iexact HA3
  isplitl [HC3]; · iexact HC3
  iintro H3
  iapply (wp_next D c Kt R (fun v => k0_chk1.dec (grid0.coords t0_0) v) (fun v => rowOk1) (chk1_0 R.hw) 0 0)
  isplitl [HT]; · iexact HT
  isplitl [HI0]; · iexact HI0
  isplitl [HS0]; · iexact HS0
  iintro ⟨HT, HF0⟩
  iapply (wp_next D c Kt R (fun v => k0_chk2.dec (grid0.coords t0_0) v) (fun v => rowOk2_0) (chk2_of R.hw t0_0) 1 1)
  isplitl [HT]; · iexact HT
  isplitl [HI1]; · iexact HI1
  isplitl [HS1]; · iexact HS1
  iintro ⟨HT, HF1⟩
  iapply (wp_turn D K c Kt arg3 f3 R (fun v => k0_chk3.dec (grid0.coords t0_0) v) (fun v => rowOk3_0) (chk3_of R.hw t0_0) 0 0 hq owed1 (by decide) Prog.ret)
  isplitr; · iexact Hrec
  isplitl [HO]; · iexact HO
  isplitl [HT]; · iexact HT
  isplitl [HQ]; · iexact HQ
  isplitl [H0]; · iexact H0
  isplitl [HF0]; · iexact HF0
  iintro ⟨HO, HT, HQ, H0, HI0⟩
  iapply (WP_ret c)
  iapply Hk
  isplitl [HO]; · iexact HO
  isplitr [HQ]
  · isplitl [HB]; · iexact HB
    isplitl [H0]; · iexact H0
    isplitl [H1]; · iexact H1
    isplitl [H2]; · iexact H2
    isplitl [H3]; · iexact H3
    isplitl [HI0]; · iexact HI0
    isplitl [HF1]; · iexact HF1
    isplitl [HS2]; · iexact HS2
    isplitl [HS3]; · iexact HS3
    iexact HT
  iexact HQ

theorem wp_body1 (hq : QAt D c arg3 f3 1) (arg6 : Memref sig .tc .vmem S4x32x8x128 .f32) :
    iprop(recs D K ∗ ow c owed1 ∗ P1 D c w fK fV ∗ (arg3.view.loc (c : Thread nD τ) ↦[Finset.univ]{q3} f3)
        ∗ ((ow c owed2 ∗ P2 D c w fK fV ∗ (arg3.view.loc (c : Thread nD τ) ↦[Finset.univ]{q3} f3)) -∗ Kt ⟨⟩))
      ⊢ WP c (kbody1 arg3 arg6) Kt := by
  unfold kbody1 P1 P2
  rw [WP_bind]
  iintro ⟨#Hrec, HO, ⟨HB, H0, H1, H2, H3, HI0, HF1, HS2, HS3, HT⟩, HQ, Hk⟩
  iapply (wp_dev c)
  iapply (wp_next D c Kt R (fun v => k0_chk2.dec (grid0.coords t0_1) v) (fun v => rowOk2_1) (chk2_of R.hw t0_1) 2 0)
  isplitl [HT]; · iexact HT
  isplitl [HI0]; · iexact HI0
  isplitl [HS2]; · iexact HS2
  iintro ⟨HT, HF2⟩
  iapply (wp_turn D K c Kt arg3 f3 R (fun v => k0_chk3.dec (grid0.coords t0_1) v) (fun v => rowOk3_1) (chk3_of R.hw t0_1) 1 1 hq
    (payO true 0 :: payM true 0 :: owed2) (by decide))
  isplitr; · iexact Hrec
  isplitl [HO]; · iexact HO
  isplitl [HT]; · iexact HT
  isplitl [HQ]; · iexact HQ
  isplitl [H1]; · iexact H1
  isplitl [HF1]; · iexact HF1
  iintro ⟨HO, HT, HQ, H1, HI1⟩
  iapply (wp_handle1 D K c Kt 0 owed2 (by decide))
  isplitr; · iexact Hrec
  isplitl [HO]; · iexact HO
  isplitl [H0]; · iexact H0
  iintro ⟨HO, H0⟩
  iapply Hk
  isplitl [HO]; · iexact HO
  isplitr [HQ]
  · isplitl [HB]; · iexact HB
    isplitl [H0]; · iexact H0
    isplitl [H1]; · iexact H1
    isplitl [H2]; · iexact H2
    isplitl [H3]; · iexact H3
    isplitl [HI1]; · iexact HI1
    isplitl [HF2]; · iexact HF2
    isplitl [HS3]; · iexact HS3
    iexact HT
  iexact HQ

theorem wp_body2 (hq : QAt D c arg3 f3 2) (arg6 : Memref sig .tc .vmem S4x32x8x128 .f32) :
    iprop(recs D K ∗ ow c owed2 ∗ P2 D c w fK fV ∗ (arg3.view.loc (c : Thread nD τ) ↦[Finset.univ]{q3} f3)
        ∗ ((ow c owed3 ∗ P3 D c w ∗ (arg3.view.loc (c : Thread nD τ) ↦[Finset.univ]{q3} f3)) -∗ Kt ⟨⟩))
      ⊢ WP c (kbody2 arg3 arg6) Kt := by
  unfold kbody2 P2 P3
  rw [WP_bind]
  iintro ⟨#Hrec, HO, ⟨HB, H0, H1, H2, H3, HI1, HF2, HS3, HT⟩, HQ, Hk⟩
  iapply (wp_dev c)
  iapply (wp_next D c Kt R (fun v => k0_chk2.dec (grid0.coords t0_2) v) (fun v => rowOk2_2) (chk2_of R.hw t0_2) 3 1)
  isplitl [HT]; · iexact HT
  isplitl [HI1]; · iexact HI1
  isplitl [HS3]; · iexact HS3
  iintro ⟨HT, HF3⟩
  iapply (wp_turn D K c Kt arg3 f3 R (fun v => k0_chk3.dec (grid0.coords t0_2) v) (fun v => rowOk3_2) (chk3_of R.hw t0_2) 2 0 hq
    (payO true 1 :: payM true 1 :: owed3) (by decide))
  isplitr; · iexact Hrec
  isplitl [HO]; · iexact HO
  isplitl [HT]; · iexact HT
  isplitl [HQ]; · iexact HQ
  isplitl [H2]; · iexact H2
  isplitl [HF2]; · iexact HF2
  iintro ⟨HO, HT, HQ, H2, HI0⟩
  iapply (wp_handle1 D K c Kt 1 owed3 (by decide))
  isplitr; · iexact Hrec
  isplitl [HO]; · iexact HO
  isplitl [H1]; · iexact H1
  iintro ⟨HO, H1⟩
  iapply Hk
  isplitl [HO]; · iexact HO
  isplitr [HQ]
  · isplitl [HB]; · iexact HB
    isplitl [H0]; · iexact H0
    isplitl [H1]; · iexact H1
    isplitl [H2]; · iexact H2
    isplitl [H3]; · iexact H3
    isplitl [HI0]; · iexact HI0
    isplitl [HF3]; · iexact HF3
    iexact HT
  iexact HQ

omit R in
theorem resN_zero (f : S4x32x8x128.Idx → Elt F .f32) : resN D c f 0 = f := by
  funext x; unfold resN; exact if_neg (Nat.not_lt_zero _)
omit R in
theorem resN_all (f : S4x32x8x128.Idx → Elt F .f32) : resN D c f 32 = res D c := by
  funext x; unfold resN
  have h0 : (x 0).val < 4 := (x 0).isLt
  have h2 : (x 2).val < 8 := (x 2).isLt
  exact if_pos (by omega)

theorem wp_body3 (hq : QAt D c arg3 f3 3) :
    iprop(recs D K ∗ ow c owed3 ∗ P3 D c w ∗ (arg3.view.loc (c : Thread nD τ) ↦[Finset.univ]{q3} f3) ∗ (∃ f, mOut.view.loc (c : Thread nD τ) ↦[Finset.univ]{fullShare} f)
        ∗ ((ow c owed4 ∗ P4 D c w ∗ (arg3.view.loc (c : Thread nD τ) ↦[Finset.univ]{q3} f3) ∗ (mOut.view.loc (c : Thread nD τ) ↦[Finset.univ]{fullShare} res D c)) -∗ Kt ⟨⟩))
      ⊢ WP c (kbody3 arg3 mOut) Kt := by
  unfold kbody3 P3 P4
  rw [WP_bind]
  iintro ⟨#Hrec, HO, ⟨HB, H0, H1, H2, H3, HI0, HF3, HT⟩, HQ, ⟨%f, HU⟩, Hk⟩
  iapply (wp_dev c)
  iapply (wp_turn D K c Kt arg3 f3 R (fun v => k0_chk3.dec (grid0.coords t0_3) v) (fun v => rowOk3_3) (chk3_of R.hw t0_3) 3 1 hq
    (payO true 2 :: payM true 2 :: payO true 3 :: payM true 3 :: owed4) (by decide))
  isplitr; · iexact Hrec
  isplitl [HO]; · iexact HO
  isplitl [HT]; · iexact HT
  isplitl [HQ]; · iexact HQ
  isplitl [H3]; · iexact H3
  isplitl [HF3]; · iexact HF3
  iintro ⟨HO, HT, HQ, H3, HI1⟩
  rw [WP_bind]
  iapply (wp_handle1 D K c _ 2 (payO true 3 :: payM true 3 :: owed4) (by decide))
  isplitr; · iexact Hrec
  isplitl [HO]; · iexact HO
  isplitl [H2]; · iexact H2
  iintro ⟨HO, H2⟩
  rw [WP_bind]
  iapply (wp_handle1 D K c _ 3 owed4 (by decide))
  isplitr; · iexact Hrec
  isplitl [HO]; · iexact HO
  isplitl [H3]; · iexact H3
  iintro ⟨HO, H3⟩
  rw [WP_bind]
  iapply (wp_wait2 D K c _ 0)
  isplitr; · iexact Hrec
  isplitl [HO]; · iexact HO
  isplitl [H0]; · iexact H0
  iintro ⟨HO, H0⟩
  rw [WP_bind]
  iapply (wp_wait2 D K c _ 1)
  isplitr; · iexact Hrec
  isplitl [HO]; · iexact HO
  isplitl [H1]; · iexact H1
  iintro ⟨HO, H1⟩
  rw [WP_bind]
  iapply (wp_wait2 D K c _ 2)
  isplitr; · iexact Hrec
  isplitl [HO]; · iexact HO
  isplitl [H2]; · iexact H2
  iintro ⟨HO, H2⟩
  rw [WP_bind]
  iapply (wp_wait2 D K c _ 3)
  isplitr; · iexact Hrec
  isplitl [HO]; · iexact HO
  isplitl [H3]; · iexact H3
  iintro ⟨HO, H3⟩
  ihave HU := (Entails.of_eq (show (mOut.view.loc (c : Thread nD τ) ↦[Finset.univ]{fullShare} f) = (mOut.view.loc (c : Thread nD τ) ↦[Finset.univ]{fullShare} resN D c f 0) from
    congrArg (fun g => mOut.view.loc (c : Thread nD τ) ↦[Finset.univ]{fullShare} g) (resN_zero D c f).symm)) $$ HU
  rw [WP_bind]
  iapply (wp_finals D c _ 0 0 8 rfl rfl f)
  isplitl [H0]; · iexact H0
  isplitl [HU]; · iexact HU
  iintro ⟨H0, HU⟩
  rw [WP_bind]
  iapply (wp_finals D c _ 1 8 16 rfl rfl f)
  isplitl [H1]; · iexact H1
  isplitl [HU]; · iexact HU
  iintro ⟨H1, HU⟩
  rw [WP_bind]
  iapply (wp_finals D c _ 2 16 24 rfl rfl f)
  isplitl [H2]; · iexact H2
  isplitl [HU]; · iexact HU
  iintro ⟨H2, HU⟩
  iapply (wp_finals D c _ 3 24 32 rfl rfl f)
  isplitl [H3]; · iexact H3
  isplitl [HU]; · iexact HU
  iintro ⟨H3, HU⟩
  ihave HU := (Entails.of_eq (show (mOut.view.loc (c : Thread nD τ) ↦[Finset.univ]{fullShare} resN D c f 32) = (mOut.view.loc (c : Thread nD τ) ↦[Finset.univ]{fullShare} res D c) from
    congrArg (fun g => mOut.view.loc (c : Thread nD τ) ↦[Finset.univ]{fullShare} g) (resN_all D c f))) $$ HU
  iapply Hk
  isplitl [HO]; · iexact HO
  isplitr [HQ HU]
  · isplitl [HB]; · iexact HB
    isplitl [H0]; · iexact H0
    isplitl [H1]; · iexact H1
    isplitl [H2]; · iexact H2
    isplitl [H3]; · iexact H3
    isplitl [HI0]; · iexact HI0
    isplitl [HI1]; · iexact HI1
    iexact HT
  isplitl [HQ]; · iexact HQ
  iexact HU

end Cert.KernelIdeal.Body

end
-- ==== Proof.Dats.lean ====
/- The pipeline's proof data on each device: the queries' blocks as they are fetched, the keys and values the
   device reads (its half of the rows, chosen by the table's word), what the body leaves, what it holds and
   what it owes between points; and the body obligation at the four points. -/
module

public import proofs.«01_k».proof.Proof.ProgEq
public import proofs.«01_k».proof.Proof.Body
public import proofs.«01_k».proof.Proof.Gen.KernelIdeal.Regions

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation BodyObligationLoose cellOf)
variable {F : FTy → Type} [FloatOps F] [Named F]
local notation "𝕄" => MT nD τ sig Unit (Elt F) ℕ UU ℕ

variable (m : (ℓ : Loc nD τ sig) → Buf (Elt F) ℓ)

/-! ## What the devices' memories hold -/

/-- Which half of its rows a device reads: its place along the first axis. -/
def tw (c : Dev nD) : BitVec 32 := BitVec.ofNat 32 (c.val / 2)
theorem tw_cases (c : Dev nD) : tw c = 0#32 ∨ tw c = 1#32 := by
  have h : c.val < 4 := c.isLt
  unfold tw
  rcases (by omega : c.val / 2 = 0 ∨ c.val / 2 = 1) with e | e <;> rw [e]
  · exact Or.inl rfl
  · exact Or.inr rfl
theorem tw_row (c : Dev nD) : RowOk (tw c) := rowOk_of (tw_cases c)

def qm (c : Dev nD) : S4x32x8x128.Idx → Elt F .f32 := m ((c : Thread nD τ).loc main_arg0)
def km (c : Dev nD) : S4x4096x8x128.Idx → Elt F .f32 := m ((c : Thread nD τ).loc main_arg1)
def vm (c : Dev nD) : S4x4096x8x128.Idx → Elt F .f32 := m ((c : Thread nD τ).loc main_arg2)

/-- Batch `b`'s queries as they are fetched. -/
def qblk (c : Dev nD) (b : Fin 4) : Vec F S1x32x8x128 .f32 := fun y => qm m c (ix4 b (y 1) (y 2) (y 3))
/-- A head's rows of a batch, of the half the device reads. -/
def rowsOf (c : Dev nD) (f : S4x4096x8x128.Idx → Elt F .f32) (b : Fin 4) (h : Fin 8) : Vec F S1x1x2048x128 .f32 := fun y =>
  f (ix4 b ⟨row (tw c) + (y 2).val, Nat.lt_of_lt_of_le (Nat.add_lt_add_left (show (y 2).val < 2048 from (y 2).isLt) _) (tw_row c)⟩ h (y 3))

def data : Data F where
  q c b := k0_pay89 (qblk m c b)
  k c := rowsOf c (km m c)
  v c := rowsOf c (vm m c)

theorem reads (c : Dev nD) : Reads (data m) c (tw c) (km m c) (vm m c) where
  hw := tw_cases c
  hk := fun _ _ _ _ => rfl
  hv := fun _ _ _ _ => rfl

/-! ## The host stretch's word -/

theorem word_eq (c : Dev nD) (y : S_.Idx) :
    Host.remui (Host.divui (constantI S_ 32 (Dev.word c)) (constantI S_ 32 2#32)) (constantI S_ 32 2#32) y = tw c := by
  show IntOp.remui .host (IntOp.divui .host (Dev.word c) 2#32) 2#32 = _
  revert c; decide

set_option backward.isDefEq.respectTransparency.types false in
theorem V1_v5 (c : Dev nD) : V1 m c (Proc.devRef .tc main_v5) = (fun _ => tw c : S1.Idx → BitVec 32) := by
  show StableHlo.after (hostOps0 c) (V0 m c) (Proc.devRef .tc main_v5) = _
  after_results
  funext i
  exact word_eq c _

/-! ## The proof data -/

/-- The table's contents on each device. -/
def adm (c : Dev nD) (_ : Fin 1) : (pcfg0 (F := F)).Adm := ⟨fun k => V1 m c (Proc.devRef .tc (pre0.ref k)), trivial⟩

def owedN : ℕ → List Pay
  | 0 => owed0
  | 1 => owed1
  | 2 => owed2
  | 3 => owed3
  | _ => owed4

/-- What a device holds between points. -/
def PN (c : Dev nD) : ℕ → sProp 𝕄
  | 0 => P0 c (tw c) (km m c) (vm m c)
  | 1 => P1 (data m) c (tw c) (km m c) (vm m c)
  | 2 => P2 (data m) c (tw c) (km m c) (vm m c)
  | 3 => P3 (data m) c (tw c)
  | _ => P4 (data m) c (tw c)

def dats (_ : Fin 1) (c : Dev nD) : Dat τ (Elt F) Unit ℕ UU ℕ (Pipeline.pinD (pcfgs (F := F)) (adm m) c 0) c where
  A w := match w with
    | 0 => m ((c : Thread nD τ).loc main_arg0)
    | 1 => m ((c : Thread nD τ).loc main_v6)
  after w t := match w with
    | 0 => qblk m c ⟨t.val, t.isLt⟩
    | 1 => res (data m) c
  Φ t := iprop(∃ K, recs (data m) K ∗ PN m c t.val)
  q _ := fullShare
  owed t := OL c (owedN t.val)

end Cert.KernelIdeal.Body

end
-- ==== Proof.Oblig.lean ====
module

public import proofs.«01_k».proof.Proof.Dats

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation BodyObligationLoose cellOf)
variable {F : FTy → Type} [FloatOps F] [Named F]
local notation "𝕄" => MT nD τ sig Unit (Elt F) ℕ UU ℕ

variable (m : (ℓ : Loc nD τ sig) → Buf (Elt F) ℓ)

/-! ## The queries' staging buffers -/

theorem stage_set (s : Fin 2) : (stage0_0 s).view.set = Finset.univ := by
  fin_cases s <;> exact View.set_whole _
theorem zero4 : (![0, 0, 0, 0] : Fin 4 → ℕ) = fun _ => 0 := by decide
theorem stage_read (s : Fin 2) (f : (stage0_0 s).view.ty.Contents (Elt F)) :
    (stage0_0 s).view.readAt (Elt F) (Rect.unit ![0,0,0,0] S1x32x8x128.size inb_S1x32x8x128_S1x32x8x128_0_0_0_0).toLoadRect f
      = (stage0_0 s).view.read (Elt F) f := by
  fin_cases s
  · exact Memref.readAt_unit_zero (Elt F) cc0_stg0_0 zero4 _ f
  · exact Memref.readAt_unit_zero (Elt F) cc0_stg0_1 zero4 _ f

theorem idx_eq : ∀ t : Fin grid0.N, cc0_transform_0 (grid0.coords t) = ![t.val, 0, 0, 0] := by decide

/-- A block of queries is fetched at every point. -/
theorem fetches (c : Dev nD) (t : Fin grid0.N) : ((Pipeline.pinD (pcfgs (F := F)) (adm m) c 0).win 0).fetch t = true := by
  have hne : ∀ t t' : Fin grid0.N, t.val ≠ t'.val → ((Pipeline.pinD (pcfgs (F := F)) (adm m) c 0).win 0).index t
      ≠ ((Pipeline.pinD (pcfgs (F := F)) (adm m) c 0).win 0).index t' := fun t t' h e =>
    h (by
      have e' : cc0_transform_0 (grid0.coords t) = cc0_transform_0 (grid0.coords t') := e
      rw [idx_eq, idx_eq] at e'
      exact congrFun e' 0)
  have key : t.val = 0 ∨ ∃ _ : 0 < t.val, ((Pipeline.pinD (pcfgs (F := F)) (adm m) c 0).win 0).index t
      ≠ ((Pipeline.pinD (pcfgs (F := F)) (adm m) c 0).win 0).index ⟨t.val - 1, Nat.lt_of_le_of_lt (Nat.sub_le _ _) t.isLt⟩ := by
    by_cases h : t.val = 0
    · exact .inl h
    · exact .inr ⟨Nat.pos_of_ne_zero h, hne _ _ (by show t.val ≠ t.val - 1; omega)⟩
  simp only [Pipeline.Window.fetch, Bool.and_eq_true, Bool.not_eq_true', Bool.or_eq_true, decide_eq_true_eq]
  exact ⟨rfl, key⟩

theorem before0 (c : Dev nD) (t : Fin grid0.N) (d) : (dats m 0 c).before 0 t d = qblk m c ⟨t.val, t.isLt⟩ := by
  unfold Dat.before
  rw [if_pos (fetches m c t)]
  refine funext fun (y : S1x32x8x128.Idx) => ?_
  show qm m c _ = qm m c _
  congr 1
  refine funext fun (a : Fin 4) => ?_
  apply Fin.ext
  have hi := idx_eq t
  show cc0_transform_0 (grid0.coords t) a * S1x32x8x128.size a + 1 * (y a).val = _
  rw [hi]
  have h0 : (y 0).val < 1 := (y 0).isLt
  fin_cases a
  · show t.val * 1 + 1 * (y 0).val = t.val; omega
  · show 0 * 32 + 1 * (y 1).val = (y 1).val; omega
  · show 0 * 8 + 1 * (y 2).val = (y 2).val; omega
  · show 0 * 128 + 1 * (y 3).val = (y 3).val; omega

theorem readsQ (c : Dev nD) (s : Fin 2) (t : Fin grid0.N) (f : (stage0_0 s).view.ty.Contents (Elt F))
    (h : (stage0_0 s).view.read (Elt F) f = qblk m c ⟨t.val, t.isLt⟩) : QAt (data m) c (stage0_0 s) f ⟨t.val, t.isLt⟩ := by
  unfold QAt
  rw [stage_read, h]
  rfl

/-! ## What a device owes, as the pipeline holds it -/

theorem owesAt_intro {cfg : Pipeline.Cfg sig Λ₀} {c : Dev nD} (dat : Dat τ (Elt F) Unit ℕ UU ℕ cfg c) (t : Fin (cfg.N + 1))
    (l : List Pay) (h0 : dat.owed t = OL c l) (hr : dat.recorded t = Set.univ) :
    (ow c l : sProp 𝕄) ⊢ (dat.owesAt () t : sProp 𝕄) := by
  unfold Dat.owesAt Pipeline.owesWithin Dat.bound ow; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (l : List Pay) (h0 : dat.owed t = OL c l) :
    (dat.owesAt () t : sProp 𝕄) ⊢ (ow c l : sProp 𝕄) := by
  unfold Dat.owesAt Pipeline.owesWithin ow; rw [h0]
  iintro ⟨%W, -, HO⟩; iexists W; iexact HO

theorem ownsQ_out (c : Dev nD) (s : Fin 2) (X : Vec F S1x32x8x128 .f32) :
    (owns (c : Thread nD τ) (stage0_0 s) fullShare X : sProp 𝕄)
      ⊢ iprop(∃ f, ⌜(stage0_0 s).view.read (Elt F) f = X⌝ ∗ ((stage0_0 s).view.loc (c : Thread nD τ) ↦[Finset.univ]{fullShare} f)) := by
  unfold owns; rw [stage_set]
theorem ownsQ_in (c : Dev nD) (s : Fin 2) (X : Vec F S1x32x8x128 .f32) (f : (stage0_0 s).view.ty.Contents (Elt F))
    (h : (stage0_0 s).view.read (Elt F) f = X) :
    ((stage0_0 s).view.loc (c : Thread nD τ) ↦[Finset.univ]{fullShare} f : sProp 𝕄) ⊢ owns (c : Thread nD τ) (stage0_0 s) fullShare X := by
  unfold owns; rw [stage_set]
  iintro H; iexists f; isplitr
  · ipureintro; exact h
  iexact H
theorem ownsO_out (c : Dev nD) (X : Vec F S4x32x8x128 .f32) :
    (owns (c : Thread nD τ) mOut fullShare X : sProp 𝕄) ⊢ iprop(∃ f, mOut.view.loc (c : Thread nD τ) ↦[Finset.univ]{fullShare} f) := by
  rw [owns_whole_eq]
  iintro ⟨%f, -, H⟩; iexists f; iexact H
theorem ownsO_in (c : Dev nD) (X : Vec F S4x32x8x128 .f32) :
    (mOut.view.loc (c : Thread nD τ) ↦[Finset.univ]{fullShare} X : sProp 𝕄) ⊢ owns (c : Thread nD τ) mOut fullShare X := by
  rw [owns_whole_eq]
  iintro H; iexists X; isplitr
  · ipureintro; rfl
  iexact H

/-! ## The body obligation -/

local notation "ℙ" => Pipeline.pinD (pcfgs (F := F)) (adm m)

theorem idle_lt : ∀ t : Fin grid0.N, t.val < 3 → idle0 1 (grid0.coords t) = true := by decide
theorem idle_3 : idle0 1 (grid0.coords t0_3) = false := by decide
theorem idx1_eq : ∀ t : Fin grid0.N, cc0_transform_3 (grid0.coords t) = fun _ => 0 := by decide
/-- The result is written back after the last point only. -/
theorem flush_lt (c : Dev nD) (t : Fin grid0.N) (h : t.val < 3) : ((ℙ c 0).win 1).flush t = false := by
  have hN : grid0.N = 4 := N_0
  have e : ∀ t t' : Fin grid0.N, ((ℙ c 0).win 1).index t = ((ℙ c 0).win 1).index t' := fun t t' => by
    show cc0_transform_3 (grid0.coords t) = cc0_transform_3 (grid0.coords t')
    rw [idx1_eq, idx1_eq]
  have h1 : ¬ (t.val + 1 = grid0.N) := by omega
  have h2 : ¬ ∃ h : t.val + 1 < grid0.N, ((ℙ c 0).win 1).index ⟨t.val + 1, h⟩ ≠ ((ℙ c 0).win 1).index t := fun ⟨h, e'⟩ => e' (e _ _)
  unfold Pipeline.Window.flush
  rw [decide_eq_false h1, decide_eq_false h2]
  rfl

theorem leaves_idle {cfg : Pipeline.Cfg sig Λ₀} {c : Dev nD} (dat : Dat τ (Elt F) Unit ℕ UU ℕ cfg c) (w : Fin cfg.W) (t : Fin cfg.N)
    (h1 : cfg.idle w (cfg.grid.coords t) = true) (h2 : (cfg.win w).flush t = false) :
    (dat.leaves w t : sProp 𝕄) = iprop(∃ d, owns (c : Thread nD τ) ((cfg.win w).stage (cfg.slots t w)) fullShare (dat.before w t d)) := by
  unfold Dat.leaves
  simp only [h1, h2]
theorem leaves_done {cfg : Pipeline.Cfg sig Λ₀} {c : Dev nD} (dat : Dat τ (Elt F) Unit ℕ UU ℕ cfg c) (w : Fin cfg.W) (t : Fin cfg.N)
    (h1 : cfg.idle w (cfg.grid.coords t) = false) (h2 : cfg.loose w = false) :
    (dat.leaves w t : sProp 𝕄) = owns (c : Thread nD τ) ((cfg.win w).stage (cfg.slots t w)) fullShare (dat.after w t) := by
  unfold Dat.leaves
  simp only [h1, h2]
theorem idle_at (c : Dev nD) (t : Fin grid0.N) : (ℙ c 0).idle 1 ((ℙ c 0).grid.coords t) = idle0 1 (grid0.coords t) := rfl
theorem leaves_lt (c : Dev nD) (t : Fin grid0.N) (h : t.val < 3) :
    ((dats m 0 c).leaves 1 t : sProp 𝕄)
      = iprop(∃ d, owns (c : Thread nD τ) (((ℙ c 0).win 1).stage ((ℙ c 0).slots t 1)) fullShare ((dats m 0 c).before 1 t d)) :=
  leaves_idle (dats m 0 c) 1 t ((idle_at m c t).trans (idle_lt t h)) (flush_lt m c t h)
theorem leaves_3 (c : Dev nD) :
    ((dats m 0 c).leaves 1 t0_3 : sProp 𝕄)
      = owns (c : Thread nD τ) (stage0_1 ((ℙ c 0).slots t0_3 1)) fullShare (res (data m) c) :=
  leaves_done (dats m 0 c) 1 t0_3 ((idle_at m c t0_3).trans idle_3) rfl
theorem leaves_q (c : Dev nD) (t : Fin grid0.N) :
    ((dats m 0 c).leaves 0 t : sProp 𝕄)
      = owns (c : Thread nD τ) (((ℙ c 0).win 0).stage ((ℙ c 0).slots t 0)) fullShare (qblk m c ⟨t.val, t.isLt⟩) :=
  leaves_done (dats m 0 c) 0 t rfl rfl

/-- A point's body, from the run of its text `kb`, the result's buffer passed by. -/
theorem point (c : Dev nD) (σ : (w : Fin 2) → Fin (spec0 w).nbuf) (t : Fin grid0.N) (n : ℕ) (hn : n = t.val + 1)
    (kb : Memref sig .tc .vmem S1x32x8x128 .f32 → Memref sig .tc .vmem S4x32x8x128 .f32 → Prg F PUnit)
    (he : ∀ arg3 h3 arg6 h6, bodyAt (F := F) t arg3 h3 arg6 h6 = kb arg3 arg6) (O O' : sProp 𝕄)
    (hrun : ∀ (K : Names) (f3 : Buf (Elt F) ((stage0_0 (σ 0)).view.loc (c : Thread nD τ))) (Kt : PUnit → sProp 𝕄),
      QAt (data m) c (stage0_0 (σ 0)) f3 ⟨t.val, t.isLt⟩ →
      iprop(recs (data m) K ∗ ow c (owedN t.val) ∗ PN m c t.val ∗ ((stage0_0 (σ 0)).view.loc (c : Thread nD τ) ↦[Finset.univ]{fullShare} f3) ∗ O
        ∗ ((ow c (owedN n) ∗ PN m c n ∗ ((stage0_0 (σ 0)).view.loc (c : Thread nD τ) ↦[Finset.univ]{fullShare} f3) ∗ O') -∗ Kt ⟨⟩))
      ⊢ WP c (kb (stage0_0 (σ 0)) (stage0_1 (σ 1))) Kt) :
    iprop((dats m 0 c).Φ t.castSucc ∗ (dats m 0 c).owesAt () t.castSucc
        ∗ (∃ d, owns (c : Thread nD τ) (stage0_0 (σ 0)) fullShare ((dats m 0 c).before 0 t d)) ∗ O)
      ⊢ wp frame (wpE (defs₀ (F := F)) 𝒱₀ (c : Thread nD τ) none) Set.univ (bodyAt t (stage0_0 (σ 0)) (hstage0_0 _) (stage0_1 (σ 1)) (hstage0_1 _)) fun _ =>
          iprop((dats m 0 c).Φ t.succ ∗ (dats m 0 c).owesAt () t.succ ∗ owns (c : Thread nD τ) (stage0_0 (σ 0)) fullShare (qblk m c ⟨t.val, t.isLt⟩) ∗ O') := by
  subst hn
  rw [he]
  rw [show (dats m 0 c).Φ t.castSucc = iprop(∃ K, recs (data m) K ∗ PN m c t.val) from rfl,
    show (dats m 0 c).Φ t.succ = iprop(∃ K, recs (data m) K ∗ PN m c (t.val + 1)) from rfl]
  iintro ⟨⟨%K, #Hr, HP⟩, HO, ⟨%d, HQ⟩, HU⟩
  rw [before0]
  ihave HQ := (ownsQ_out c (σ 0) _) $$ HQ
  icases HQ with ⟨%f, %hf, HQ⟩
  ihave HO := (owesAt_elim (dats m 0 c) t.castSucc (owedN t.val) rfl) $$ HO
  iapply (hrun K f _ (readsQ m c (σ 0) t f hf))
  isplitr; · iexact Hr
  isplitl [HO]; · iexact HO
  isplitl [HP]; · iexact HP
  isplitl [HQ]; · iexact HQ
  isplitl [HU]; · iexact HU
  iintro ⟨HO, HP, HQ, HU⟩
  isplitl [HP]
  · iexists K; isplitr; · iexact Hr
    iexact HP
  isplitl [HO]; · iapply (owesAt_intro (dats m 0 c) t.succ (owedN (t.val + 1)) rfl rfl); iexact HO
  isplitl [HQ]; · iapply (ownsQ_in c (σ 0) _ f hf); iexact HQ
  iexact HU

theorem pass (c : Dev nD) (p : Prg F PUnit) (A B C Q A' B' : sProp 𝕄) (O : sProp 𝕄) (Kt : PUnit → sProp 𝕄)
    (h : ∀ Kt' : PUnit → sProp 𝕄, iprop(A ∗ B ∗ C ∗ Q ∗ ((A' ∗ B' ∗ Q) -∗ Kt' ⟨⟩)) ⊢ WP c p Kt') :
    iprop(A ∗ B ∗ C ∗ Q ∗ O ∗ ((A' ∗ B' ∗ Q ∗ O) -∗ Kt ⟨⟩)) ⊢ WP c p Kt := by
  iintro ⟨HA, HB, HC, HQ, HO, Hk⟩
  iapply (h Kt)
  isplitl [HA]; · iexact HA
  isplitl [HB]; · iexact HB
  isplitl [HC]; · iexact HC
  isplitl [HQ]; · iexact HQ
  iintro ⟨HA, HB, HQ⟩
  iapply Hk
  isplitl [HA]; · iexact HA
  isplitl [HB]; · iexact HB
  isplitl [HQ]; · iexact HQ
  iexact HO

/-- The obligation with its two windows spelt out. -/
theorem oblig_of (c : Dev nD) (t : Fin grid0.N)
    (h : iprop((dats m 0 c).Φ t.castSucc ∗ (dats m 0 c).owesAt () t.castSucc
        ∗ (∃ d, owns (c : Thread nD τ) (stage0_0 ((ℙ c 0).slots t 0)) fullShare ((dats m 0 c).before 0 t d))
        ∗ (∃ d, owns (c : Thread nD τ) (stage0_1 ((ℙ c 0).slots t 1)) fullShare ((dats m 0 c).before 1 t d)))
      ⊢ wp frame (wpE (defs₀ (F := F)) 𝒱₀ (c : Thread nD τ) none) Set.univ
        (bodyAt t (stage0_0 ((ℙ c 0).slots t 0)) (hstage0_0 _) (stage0_1 ((ℙ c 0).slots t 1)) (hstage0_1 _)) fun _ =>
          iprop((dats m 0 c).Φ t.succ ∗ (dats m 0 c).owesAt () t.succ ∗ (dats m 0 c).leaves 0 t ∗ (dats m 0 c).leaves 1 t)) :
    iprop((dats m 0 c).Φ t.castSucc ∗ (dats m 0 c).owesAt () t.castSucc
        ∗ bigSep Finset.univ fun w : Fin 2 => iprop(∃ d, owns (c : Thread nD τ) (((ℙ c 0).win w).stage ((ℙ c 0).slots t w)) fullShare ((dats m 0 c).before w t d)))
      ⊢ wp frame (wpE (defs₀ (F := F)) 𝒱₀ (c : Thread nD τ) none) Set.univ (defs₀ .tc (ℙ c 0).body ((ℙ c 0).bodyArgs t ((ℙ c 0).slots t))) fun _ =>
          iprop((dats m 0 c).Φ t.succ ∗ (dats m 0 c).owesAt () t.succ ∗ bigSep Finset.univ fun w : Fin 2 => (dats m 0 c).leaves w t) := by
  rw [bigSep_W0, bigSep_W0]
  exact h

theorem stage1 : ∀ s : Fin 1, stage0_1 s = mOut := fun s => by fin_cases s; rfl

/-- The last point, which fills the result's buffer. -/
theorem last3 (c : Dev nD) (K : Names) (s : Fin 2) (s1 : Fin 1) (B : (d : Vec F S4x32x8x128 .f32) → Vec F S4x32x8x128 .f32)
    (f3 : Buf (Elt F) ((stage0_0 s).view.loc (c : Thread nD τ))) (Kt : PUnit → sProp 𝕄) (hq : QAt (data m) c (stage0_0 s) f3 3) :
    iprop(recs (data m) K ∗ ow c owed3 ∗ P3 (data m) c (tw c) ∗ ((stage0_0 s).view.loc (c : Thread nD τ) ↦[Finset.univ]{fullShare} f3)
        ∗ (∃ d, owns (c : Thread nD τ) (stage0_1 s1) fullShare (B d))
        ∗ ((ow c owed4 ∗ P4 (data m) c (tw c) ∗ ((stage0_0 s).view.loc (c : Thread nD τ) ↦[Finset.univ]{fullShare} f3)
            ∗ owns (c : Thread nD τ) (stage0_1 s1) fullShare (res (data m) c)) -∗ Kt ⟨⟩))
      ⊢ WP c (kbody3 (stage0_0 s) (stage0_1 s1)) Kt := by
  rw [stage1 s1]
  iintro ⟨Hr, HO, HP, HQ, ⟨%d, HU⟩, Hk⟩
  ihave HU := (ownsO_out c (B d)) $$ HU
  iapply (wp_body3 (data m) K c Kt _ f3 (reads m c) hq)
  isplitl [Hr]; · iexact Hr
  isplitl [HO]; · iexact HO
  isplitl [HP]; · iexact HP
  isplitl [HQ]; · iexact HQ
  isplitl [HU]; · iexact HU
  iintro ⟨HO, HP, HQ, HU⟩
  iapply Hk
  isplitl [HO]; · iexact HO
  isplitl [HP]; · iexact HP
  isplitl [HQ]; · iexact HQ
  iapply (ownsO_in c (res (data m) c)); iexact HU

theorem point3 (c : Dev nD) (σ : (w : Fin 2) → Fin (spec0 w).nbuf) :
    iprop((dats m 0 c).Φ t0_3.castSucc ∗ (dats m 0 c).owesAt () t0_3.castSucc
        ∗ (∃ d, owns (c : Thread nD τ) (stage0_0 (σ 0)) fullShare ((dats m 0 c).before 0 t0_3 d))
        ∗ (∃ d, owns (c : Thread nD τ) (stage0_1 (σ 1)) fullShare ((dats m 0 c).before 1 t0_3 d)))
      ⊢ wp frame (wpE (defs₀ (F := F)) 𝒱₀ (c : Thread nD τ) none) Set.univ (bodyAt t0_3 (stage0_0 (σ 0)) (hstage0_0 _) (stage0_1 (σ 1)) (hstage0_1 _)) fun _ =>
          iprop((dats m 0 c).Φ t0_3.succ ∗ (dats m 0 c).owesAt () t0_3.succ ∗ owns (c : Thread nD τ) (stage0_0 (σ 0)) fullShare (qblk m c ⟨t0_3.val, t0_3.isLt⟩)
            ∗ owns (c : Thread nD τ) (stage0_1 (σ 1)) fullShare (res (data m) c)) := by
  refine point m c σ t0_3 4 rfl kbody3 body3 _ _ ?_
  intro K f3 Kt hq
  exact last3 m c K (σ 0) (σ 1) _ f3 Kt hq

theorem oblig (c : Dev nD) : BodyObligationLoose (dats m 0 c) defs₀ 𝒱₀ () Set.univ := fun t => by
  refine oblig_of m c t ?_
  have R := reads m c
  rw [leaves_q]
  rcases fin_N0 t with rfl | rfl | rfl | rfl
  · rw [leaves_lt m c t0_0 (by decide)]
    exact point m c ((ℙ c 0).slots t0_0) t0_0 1 rfl kbody0 body0 _ _ fun K f3 Kt hq =>
      pass c _ _ _ _ _ _ _ _ Kt fun Kt => wp_body0 (data m) K c Kt _ f3 R hq _
  · rw [leaves_lt m c t0_1 (by decide)]
    exact point m c ((ℙ c 0).slots t0_1) t0_1 2 rfl kbody1 body1 _ _ fun K f3 Kt hq =>
      pass c _ _ _ _ _ _ _ _ Kt fun Kt => wp_body1 (data m) K c Kt _ f3 R hq _
  · rw [leaves_lt m c t0_2 (by decide)]
    exact point m c ((ℙ c 0).slots t0_2) t0_2 3 rfl kbody2 body2 _ _ fun K f3 Kt hq =>
      pass c _ _ _ _ _ _ _ _ Kt fun Kt => wp_body2 (data m) K c Kt _ f3 R hq _
  · rw [leaves_3]
    generalize (ℙ c 0).slots t0_3 = σ
    have H := point3 m c σ
    refine BI.BIBase.Entails.trans (BI.BIBase.Entails.trans ?_ H) ?_
    · exact .rfl
    · refine Entails.of_eq ?_
      congr 1

end Cert.KernelIdeal.Body

end
-- ==== Proof.Entry.lean ====
/- Into the kernel and out of it: its scratch buffers cut into slabs and joined again, its semaphores sorted
   into those of the local copies and those of the exchanges, its key and value blocks into one share per copy. -/
module

public import Idealize.ShloMosaic.Lib.Ring
public import proofs.«01_k».proof.Proof.Fund
public import proofs.«01_k».proof.Proof.Oblig

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation BodyObligationLoose cellOf)

variable {F : FTy → Type} [FloatOps F] [Named F]

local notation "𝕄" => MT nD τ sig Unit (Elt F) ℕ UU ℕ

variable (D : Data F) (c : Dev nD)

theorem bigSep_two (Φ : Fin 2 → sProp 𝕄) : bigSep Finset.univ Φ = iprop(Φ 0 ∗ Φ 1) := by
  rw [BI.bigSep_fin_two]; rfl

/-! ## The semaphores -/

abbrev OwnK : Type := (Fin 2 × Fin 8 × Fin 2) ⊕ (Fin 4 × Fin 4 × Bool)
def osem : OwnK → SemLoc sig
  | .inl (s, h, k) => .dma (kvSem k s h)
  | .inr x => csem (cpI x)

theorem osem_facts :  Pipeline.OwnSemFacts spec0 osem := by decide

def kvSems : sProp 𝕄 :=
  bigSep Finset.univ fun s : Fin 2 => bigSep Finset.univ fun h : Fin 8 =>
    iprop(semVal ((c : Thread nD τ), .dma (kvSem 0 s h)) 0 ∗ semVal ((c : Thread nD τ), .dma (kvSem 1 s h)) 0)
def dones : sProp 𝕄 := bigSep Finset.univ fun b : Fin 4 => bigSep Finset.univ fun k : Fin 4 => done c k b

theorem ownSems0_eq : (Pipeline.ownSems0 osem c : sProp 𝕄) = iprop(kvSems c ∗ dones c) := by
  unfold Pipeline.ownSems0
  rw [BI.bigSep_univ_sum]
  refine congr (congrArg _ ?_) ?_
  · unfold kvSems
    rw [bigSep_univ_prod]
    refine bigSep_congr fun s _ => ?_
    rw [bigSep_univ_prod]
    exact bigSep_congr fun h _ => bigSep_two _
  · unfold dones
    rw [bigSep_univ_prod]
    refine bigSep_congr fun b _ => ?_
    rw [bigSep_univ_prod]
    exact bigSep_congr fun k _ => bigSep_bool _

/-! ## The slabs -/

/-- A buffer at some contents is its pieces, each at some contents. -/
theorem split_ex {ℓ : Loc nD τ sig} {B : Type} [Fintype B] (I : B → Finset (Idx ℓ)) (hd : ∀ b b', b ≠ b' → Disjoint (I b) (I b'))
    (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H := (Entails.of_eq (Ring.pointsTo_blocks I hd hc f)) $$ H
  have h (b : B) : (ℓ ↦[I b]{fullShare} f : sProp 𝕄) ⊢ iprop(∃ f : Buf (Elt F) ℓ, ℓ ↦[I b]{fullShare} f) := by
    iintro H; iexists f; iexact H
  iapply (show (bigSep Finset.univ fun b => (ℓ ↦[I b]{fullShare} f : sProp 𝕄)) ⊢ _ from bigSep_mono fun b _ => h b)
  iexact H

/-- The eight slabs of one batch, in the order of the buffers. -/
def slabs (b : Fin 4) : sProp 𝕄 :=
  iprop((∃ f, mOun.view.loc (c : Thread nD τ) ↦[slO b]{fullShare} f) ∗ (∃ f, mOxs.view.loc (c : Thread nD τ) ↦[slO b]{fullShare} f)
    ∗ (∃ f, mOxs2.view.loc (c : Thread nD τ) ↦[slO b]{fullShare} f) ∗ (∃ f, mOr1.view.loc (c : Thread nD τ) ↦[slO b]{fullShare} f)
    ∗ (∃ f, mOr2.view.loc (c : Thread nD τ) ↦[slO b]{fullShare} f) ∗ (∃ f, mMl.view.loc (c : Thread nD τ) ↦[slM b]{fullShare} f)
    ∗ (∃ f, mMl1.view.loc (c : Thread nD τ) ↦[slM b]{fullShare} f) ∗ (∃ f, mMl2.view.loc (c : Thread nD τ) ↦[slM b]{fullShare} f))
def kvSlabs (p : Fin 2 × Fin 8) : sProp 𝕄 :=
  iprop((∃ f, mKB.view.loc (c : Thread nD τ) ↦[slKB p]{fullShare} f) ∗ (∃ f, mVB.view.loc (c : Thread nD τ) ↦[slKB p]{fullShare} f))

theorem rest_split : (Pipeline.scopedRest (Ix := Unit) (Name := ℕ) (U := UU) (Lvl := ℕ) (Val := Elt F) spec0 c : sProp 𝕄)
    ⊢ iprop((bigSep Finset.univ fun p => kvSlabs c p) ∗ bigSep Finset.univ fun b => slabs c b) := by
  rw [scopedRest0_eq]
  unfold slabs kvSlabs
  simp only [bigSep_sep']
  iintro ⟨H0, H1, H2, H3, H4, H5, H6, H7, H8, H9⟩
  isplitl [H0 H1]
  · isplitl [H0]; · iapply (split_ex (ℓ := mKB.view.loc (c : Thread nD τ)) slKB slKB_disj slKB_cover); iexact H0
    iapply (split_ex (ℓ := mVB.view.loc (c : Thread nD τ)) slKB slKB_disj slKB_cover); iexact H1
  isplitl [H2]; · iapply (split_ex (ℓ := mOun.view.loc (c : Thread nD τ)) slO slO_disj slO_cover); iexact H2
  isplitl [H3]; · iapply (split_ex (ℓ := mOxs.view.loc (c : Thread nD τ)) slO slO_disj slO_cover); iexact H3
  isplitl [H4]; · iapply (split_ex (ℓ := mOxs2.view.loc (c : Thread nD τ)) slO slO_disj slO_cover); iexact H4
  isplitl [H5]; · iapply (split_ex (ℓ := mOr1.view.loc (c : Thread nD τ)) slO slO_disj slO_cover); iexact H5
  isplitl [H6]; · iapply (split_ex (ℓ := mOr2.view.loc (c : Thread nD τ)) slO slO_disj slO_cover); iexact H6
  isplitl [H7]; · iapply (split_ex (ℓ := mMl.view.loc (c : Thread nD τ)) slM slM_disj slM_cover); iexact H7
  isplitl [H8]; · iapply (split_ex (ℓ := mMl1.view.loc (c : Thread nD τ)) slM slM_disj slM_cover); iexact H8
  iapply (split_ex (ℓ := mMl2.view.loc (c : Thread nD τ)) slM slM_disj slM_cover); iexact H9

theorem rest_join : iprop((bigSep Finset.univ fun p => kvSlabs c p) ∗ bigSep Finset.univ fun b => slabs c b)
    ⊢ (Pipeline.scopedRest (Ix := Unit) (Name := ℕ) (U := UU) (Lvl := ℕ) (Val := Elt F) spec0 c : sProp 𝕄) := by
  rw [scopedRest0_eq]
  unfold slabs kvSlabs
  simp only [bigSep_sep']
  iintro ⟨⟨H0, H1⟩, H2, H3, H4, H5, H6, H7, H8, H9⟩
  isplitl [H0]; · iapply (Ring.pointsTo_blocks_join_exists (ℓ := mKB.view.loc (c : Thread nD τ)) slKB slKB_disj slKB_cover (fun _ => default)); iexact H0
  isplitl [H1]; · iapply (Ring.pointsTo_blocks_join_exists (ℓ := mVB.view.loc (c : Thread nD τ)) slKB slKB_disj slKB_cover (fun _ => default)); iexact H1
  isplitl [H2]; · iapply (Ring.pointsTo_blocks_join_exists (ℓ := mOun.view.loc (c : Thread nD τ)) slO slO_disj slO_cover (fun _ => default)); iexact H2
  isplitl [H3]; · iapply (Ring.pointsTo_blocks_join_exists (ℓ := mOxs.view.loc (c : Thread nD τ)) slO slO_disj slO_cover (fun _ => default)); iexact H3
  isplitl [H4]; · iapply (Ring.pointsTo_blocks_join_exists (ℓ := mOxs2.view.loc (c : Thread nD τ)) slO slO_disj slO_cover (fun _ => default)); iexact H4
  isplitl [H5]; · iapply (Ring.pointsTo_blocks_join_exists (ℓ := mOr1.view.loc (c : Thread nD τ)) slO slO_disj slO_cover (fun _ => default)); iexact H5
  isplitl [H6]; · iapply (Ring.pointsTo_blocks_join_exists (ℓ := mOr2.view.loc (c : Thread nD τ)) slO slO_disj slO_cover (fun _ => default)); iexact H6
  isplitl [H7]; · iapply (Ring.pointsTo_blocks_join_exists (ℓ := mMl.view.loc (c : Thread nD τ)) slM slM_disj slM_cover (fun _ => default)); iexact H7
  isplitl [H8]; · iapply (Ring.pointsTo_blocks_join_exists (ℓ := mMl1.view.loc (c : Thread nD τ)) slM slM_disj slM_cover (fun _ => default)); iexact H8
  iapply (Ring.pointsTo_blocks_join_exists (ℓ := mMl2.view.loc (c : Thread nD τ)) slM slM_disj slM_cover (fun _ => default)); iexact H9

/-! ## Into the body -/

/-- One batch: its slabs, its open copies. -/
theorem batch_in (b : Fin 4) :
    iprop(slabs c b ∗ bigSep Finset.univ fun k : Fin 4 => iprop(toks c k b ∗ reached ER (kcell (c, some (true, k, b))) 0))
      ⊢ (iprop(land false c b ∗ land true c b ∗ r0 c b) : sProp 𝕄) := by
  rw [bigSep4]
  unfold slabs land r0
  simp only [if_true, Bool.false_eq_true, if_false]
  iintro ⟨⟨H2, H3, H4, H5, H6, H7, H8, H9⟩, ⟨T0, R0⟩, ⟨T1, R1⟩, ⟨T2, R2⟩, T3, R3⟩
  isplitl [H5 H8 R0 R1]
  · isplitl [H5]; · iexact H5
    isplitl [H8]; · iexact H8
    isplitl [R0] <;> iassumption
  isplitl [H6 H9 R2 R3]
  · isplitl [H6]; · iexact H6
    isplitl [H9]; · iexact H9
    isplitl [R2] <;> iassumption
  isplitl [H7]; · iexact H7
  isplitl [H2]; · iexact H2
  isplitl [H3]; · iexact H3
  isplitl [H4]; · iexact H4
  isplitl [T0]; · iexact T0
  isplitl [T1]; · iexact T1
  isplitl [T2] <;> iassumption

/-- One staging slot of the keys and values, -/
theorem slot_in (s : Fin 2) (h : Fin 8) :
    iprop(kvSlabs c (s, h) ∗ semVal ((c : Thread nD τ), .dma (kvSem 0 s h)) 0 ∗ semVal ((c : Thread nD τ), .dma (kvSem 1 s h)) 0)
      ⊢ (idleH c s h : sProp 𝕄) := by
  unfold idleH kvSlabs
  iintro ⟨⟨H1, H2⟩, H3, H4⟩
  isplitl [H1]; · iexact H1
  isplitl [H2]; · iexact H2
  isplitl [H3] <;> iassumption
theorem slot_out (s : Fin 2) (h : Fin 8) :
    (idleH c s h : sProp 𝕄)
      ⊢ iprop(kvSlabs c (s, h) ∗ semVal ((c : Thread nD τ), .dma (kvSem 0 s h)) 0 ∗ semVal ((c : Thread nD τ), .dma (kvSem 1 s h)) 0) := by
  unfold idleH kvSlabs
  iintro ⟨H1, H2, H3, H4⟩
  isplitl [H1 H2]; · isplitl [H1] <;> iassumption
  isplitl [H3] <;> iassumption
/-- and all of them. -/
theorem slots_in : iprop((bigSep Finset.univ fun p => kvSlabs c p) ∗ kvSems c) ⊢ (iprop(idleS c 0 ∗ idleS c 1) : sProp 𝕄) := by
  have h : iprop((bigSep Finset.univ fun p => kvSlabs c p) ∗ kvSems c) ⊢ (bigSep Finset.univ fun s : Fin 2 => idleS c s : sProp 𝕄) := by
    unfold kvSems
    rw [bigSep_univ_prod, ← bigSep_sep']
    refine bigSep_mono fun s _ => ?_
    unfold idleS
    rw [← bigSep_sep']
    exact bigSep_mono fun h _ => slot_in c s h
  rw [bigSep_two] at h
  exact h
theorem slots_out : (iprop(idleS c 0 ∗ idleS c 1) : sProp 𝕄) ⊢ iprop((bigSep Finset.univ fun p => kvSlabs c p) ∗ kvSems c) := by
  have h : (bigSep Finset.univ fun s : Fin 2 => idleS c s : sProp 𝕄) ⊢ iprop((bigSep Finset.univ fun p => kvSlabs c p) ∗ kvSems c) := by
    unfold kvSems
    rw [bigSep_univ_prod, ← bigSep_sep']
    refine bigSep_mono fun s _ => ?_
    unfold idleS
    rw [← bigSep_sep']
    exact bigSep_mono fun h _ => slot_out c s h
  rw [bigSep_two] at h
  exact h

/-- What enters the body beside the scratch buffers and the table. -/
def opened (fK fV : S4x4096x8x128.Idx → Elt F .f32) : sProp 𝕄 :=
  iprop((barTok c ∗ cred (tallyAt (kcell (c, none)) () 2) ∗ atPos ER (kcell (c, none)) 0 ∅ 0)
    ∗ (bigSep Finset.univ fun b : Fin 4 => bigSep Finset.univ fun k : Fin 4 => iprop(toks c k b ∗ reached ER (kcell (c, some (true, k, b))) 0))
    ∗ kvSems c ∗ bigSep Finset.univ fun _ : Fin 4 => srcB c fK fV)

theorem body_in (w : BitVec 32) (fK fV : S4x4096x8x128.Idx → Elt F .f32) :
    iprop(opened c fK fV ∗ tab c w ∗ Pipeline.scopedRest (Ix := Unit) (Name := ℕ) (U := UU) (Lvl := ℕ) (Val := Elt F) spec0 c)
      ⊢ P0 c w fK fV := by
  unfold opened P0 barTok
  iintro ⟨⟨⟨⟨Ht1, Ht2⟩, Hc, Ha⟩, Hcp, Hkv, Hs⟩, Ht, Hrest⟩
  ihave Hrest := (rest_split c) $$ Hrest
  icases Hrest with ⟨Hks, Hsl⟩
  ihave Hidle := (slots_in c) $$ [Hks Hkv]
  · isplitl [Hks] <;> iassumption
  icases Hidle with ⟨Hi0, Hi1⟩
  ihave Hb := (show iprop((bigSep Finset.univ fun b => slabs c b)
      ∗ bigSep Finset.univ fun b : Fin 4 => bigSep Finset.univ fun k : Fin 4 => iprop(toks c k b ∗ reached ER (kcell (c, some (true, k, b))) 0))
      ⊢ iprop((bigSep Finset.univ fun b => land false c b) ∗ (bigSep Finset.univ fun b => land true c b) ∗ (bigSep Finset.univ fun b => r0 c b)) from by
    rw [← bigSep_sep', ← bigSep_sep', ← bigSep_sep']
    exact bigSep_mono fun b _ => batch_in c b) $$ [Hsl Hcp]
  · isplitl [Hsl] <;> iassumption
  icases Hb with ⟨Hl0, Hl1, Hr⟩
  isplitl [Hl0]; · iexact Hl0
  isplitl [Hl1]; · iexact Hl1
  isplitl [Ht1]; · iexact Ht1
  isplitl [Ht2]; · iexact Ht2
  isplitl [Hc]; · iexact Hc
  isplitl [Ha]; · iexact Ha
  isplitl [Hr]; · iexact Hr
  isplitl [Hi0]; · iexact Hi0
  isplitl [Hi1]; · iexact Hi1
  isplitl [Hs] <;> iassumption

/-! ## Out of the body -/

theorem batch_out (b : Fin 4) : s3 D c b ⊢ iprop(slabs c b ∗ bigSep Finset.univ fun k : Fin 4 => done c k b) := by
  rw [bigSep4]
  unfold s3 fin rest1 slabs
  iintro ⟨⟨Hml, Hml2, Hun, Hr2⟩, ⟨Hxs, Hr1, Hml1, Hd0, Hd1⟩, Hxs2, Hd2, Hd3⟩
  isplitr [Hd0 Hd1 Hd2 Hd3]
  · isplitl [Hun]; · iexists _; iexact Hun
    isplitl [Hxs]; · iexact Hxs
    isplitl [Hxs2]; · iexact Hxs2
    isplitl [Hr1]; · iexact Hr1
    isplitl [Hr2]; · iexists _; iexact Hr2
    isplitl [Hml]; · iexists _; iexact Hml
    isplitl [Hml1]; · iexact Hml1
    iexists _; iexact Hml2
  isplitl [Hd0]; · iexact Hd0
  isplitl [Hd1]; · iexact Hd1
  isplitl [Hd2] <;> iassumption

theorem body_out (w : BitVec 32) :
    P4 D c w ⊢ iprop(semVal (kcell (c, none)) 0 ∗ Pipeline.ownSems0 osem c
      ∗ Pipeline.scopedRest (Ix := Unit) (Name := ℕ) (U := UU) (Lvl := ℕ) (Val := Elt F) spec0 c) := by
  rw [ownSems0_eq]
  unfold P4
  iintro ⟨Hv, H0, H1, H2, H3, Hi0, Hi1, -⟩
  isplitl [Hv]; · iexact Hv
  ihave Hb := (show iprop(s3 D c 0 ∗ s3 D c 1 ∗ s3 D c 2 ∗ s3 D c 3) ⊢ iprop((bigSep Finset.univ fun b => slabs c b) ∗ dones c) from by
    rw [← bigSep4 (fun b => s3 D c b)]; unfold dones; rw [← bigSep_sep']
    exact bigSep_mono fun b _ => batch_out D c b) $$ [H0 H1 H2 H3]
  · isplitl [H0]; · iexact H0
    isplitl [H1]; · iexact H1
    isplitl [H2] <;> iassumption
  icases Hb with ⟨Hsl, Hd⟩
  ihave Hi := (slots_out c) $$ [Hi0 Hi1]
  · isplitl [Hi0] <;> iassumption
  icases Hi with ⟨Hks, Hkv⟩
  isplitl [Hkv Hd]
  · isplitl [Hkv] <;> iassumption
  iapply (rest_join c)
  isplitl [Hks] <;> iassumption

/-! ## The keys and values, one share per copy -/

theorem shares {ℓ : Loc nD τ sig} (f : Buf (Elt F) ℓ) :
    (ℓ ↦{fullShare} f : sProp 𝕄) ⊢ iprop((∃ q, ℓ ↦{q} f) ∗ bigSep Finset.univ fun _ : Fin 4 => bigSep Finset.univ fun _ : Fin 8 => iprop(∃ q, ℓ ↦{q} f)) := by
  refine (pointsTo_toks_split fullShare (4 * 8)).trans ?_
  rw [bigSep_univ_equiv (finProdFinEquiv : Fin 4 × Fin 8 ≃ Fin (4 * 8)), bigSep_univ_prod]
  have h (q : PosShare TreeShare) : (ℓ ↦{q} f : sProp 𝕄) ⊢ iprop(∃ q, ℓ ↦{q} f) := by
    iintro H; iexists q; iexact H
  exact BI.sep_mono (h _) (bigSep_mono fun _ _ => bigSep_mono fun _ _ => h _)

theorem srcs_in (fK fV : S4x4096x8x128.Idx → Elt F .f32) :
    iprop((mK.view.loc (c : Thread nD τ) ↦{fullShare} fK) ∗ (mV.view.loc (c : Thread nD τ) ↦{fullShare} fV))
      ⊢ (iprop(((∃ q, mK.view.loc (c : Thread nD τ) ↦{q} fK) ∗ (∃ q, mV.view.loc (c : Thread nD τ) ↦{q} fV))
        ∗ bigSep Finset.univ fun _ : Fin 4 => srcB c fK fV) : sProp 𝕄) := by
  iintro ⟨HK, HV⟩
  ihave HK := (shares (ℓ := mK.view.loc (c : Thread nD τ)) fK) $$ HK
  ihave HV := (shares (ℓ := mV.view.loc (c : Thread nD τ)) fV) $$ HV
  icases HK with ⟨HK, HKs⟩
  icases HV with ⟨HV, HVs⟩
  isplitl [HK HV]
  · isplitl [HK] <;> iassumption
  unfold srcB srcH
  simp only [bigSep_sep']
  isplitl [HKs] <;> iassumption

end Cert.KernelIdeal.Body

end
-- ==== Proof.Run.lean ====
/- The whole run. Each device's @main is its host operations and the kernel's region; from any memory with every
   counter at zero, every execution ends, with the arguments untouched, the result at the blended quotient
   `res` on every device, and every counter at zero. -/
module

public import Idealize.ShloMosaic.Lib.Pipeline.ValueKit.Geometry
public import proofs.«01_k».proof.Proof.Entry
public import proofs.«01_k».proof.Proof.Gen.KernelIdeal.Regions

@[expose] public section

noncomputable section

namespace Cert.KernelIdeal.Body

open Idealize.ShloMosaic Idealize.ShloMosaic.TcCoe Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation BodyObligationLoose cellOf)

variable {F : FTy → Type} [FloatOps F] [Named F]

local notation "𝕄" => MT nD τ sig Unit (Elt F) ℕ UU ℕ

variable (m : (ℓ : Loc nD τ sig) → Buf (Elt F) ℓ)

/-! ## The arrays -/

theorem arrays_eq (c : Dev nD) (A : (w : Fin 2) → Buf (Elt F) (((Pipeline.pinD (pcfgs (F := F)) (adm m) c 0).win w).arr.view.loc (c : Thread nD τ))) :
    ((dats m 0 c).arrays A : sProp 𝕄)
      = iprop(((c : Thread nD τ).loc main_arg0 ↦{fullShare} A 0) ∗ ((c : Thread nD τ).loc main_v6 ↦{fullShare} A 1)) := by
  unfold Dat.arrays
  refine (bigSep_W0 _).trans ?_
  have h0 : (Memref.whole main_arg0 : Memref sig .tc .hbm S4x32x8x128 .f32).view.set = Finset.univ := View.set_whole _
  have h1 : (Memref.whole main_v6 : Memref sig .tc .hbm S4x32x8x128 .f32).view.set = Finset.univ := View.set_whole _
  show iprop(((c : Thread nD τ).loc main_arg0 ↦[(Memref.whole main_arg0 : Memref sig .tc .hbm S4x32x8x128 .f32).view.set]{fullShare} A 0)
    ∗ ((c : Thread nD τ).loc main_v6 ↦[(Memref.whole main_v6 : Memref sig .tc .hbm S4x32x8x128 .f32).view.set]{fullShare} A 1)) = _
  rw [h0, h1]

theorem arr0 (c : Dev nD) (t : ℕ) : (dats m 0 c).arrAt (0 : Fin 2) t = qm m c := (dats m 0 c).arrAt_in (0 : Fin 2) rfl t
theorem whole1 (c : Dev nD) : ((Pipeline.pinD (pcfgs (F := F)) (adm m) c 0).win (1 : Fin 2)).WholeAt t0_3 := by
  refine ⟨rfl, fun t ht => ?_, fun a => ⟨?_, ?_⟩⟩
  · by_contra hne
    have hN : grid0.N = 4 := N_0
    have h4 : t.val < 4 := hN ▸ t.isLt
    have h3 : t.val ≠ 3 := fun h => hne (Fin.ext h)
    exact absurd ((flush_lt m c t (by omega)).symm.trans ht) (by decide)
  · exact congrFun (idx1_eq t0_3) a
  · fin_cases a <;> rfl
theorem arr1 (c : Dev nD) : (dats m 0 c).arrAt (1 : Fin 2) (Pipeline.pinD (pcfgs (F := F)) (adm m) c 0).N = res (data m) c :=
  (dats m 0 c).arrAt_eq_of_after_last (1 : Fin 2) t0_3 (whole1 m c) (res (data m) c) (fun j => rfl) (Memref.isWhole_whole _)

/-! ## The host buffers the kernel reads and writes -/

abbrev pt (c : Dev nD) (r : Ref sig .tc) (f : Buf (Elt F) ((c : Thread nD τ).loc r)) : sProp 𝕄 := ((c : Thread nD τ).loc r) ↦{fullShare} f

def five : Finset (DevRef τ sig) :=
  {Proc.devRef .tc main_arg0, Proc.devRef .tc main_arg1, Proc.devRef .tc main_arg2, Proc.devRef .tc main_v5, Proc.devRef .tc main_v6}

theorem held_five (c : Dev nD) (W : Valuation τ sig (Elt F)) :
    (StableHlo.held (c : Thread nD τ) (Pipeline.ucRefs τ sig) W : sProp 𝕄)
      ⊢ iprop(pt c main_arg0 (W main_arg0) ∗ pt c main_arg1 (W main_arg1) ∗ pt c main_arg2 (W main_arg2)
        ∗ pt c main_v5 (W main_v5) ∗ pt c main_v6 (W main_v6)) := by
  unfold StableHlo.held
  refine BI.BIBase.Entails.trans (bigSep_subset (t := five) fun b hb => ?_) (Entails.of_eq ?_)
  · unfold five at hb
    simp only [Finset.mem_insert, Finset.mem_singleton] at hb
    rcases hb with rfl | rfl | rfl | rfl | rfl <;> exact Finset.mem_filter.mpr ⟨StableHlo.devRef_mem_tcRefs _, by decide⟩
  · rw [bigSep_eq_bigSepL_of_eq [Proc.devRef .tc main_arg0, Proc.devRef .tc main_arg1, Proc.devRef .tc main_arg2, Proc.devRef .tc main_v5, Proc.devRef .tc main_v6]
      (by decide) (by decide)]
    rfl

/-- What a device starts its region with, beside its buffers. -/
def E0 (c : Dev nD) : sProp 𝕄 := iprop(start (data m) c ∗ owes (c : Thread nD τ) (O₀ c) ∅)

/-- What the region leaves of the keys and values. -/
def left (c : Dev nD) : sProp 𝕄 :=
  iprop((∃ q, mK.view.loc (c : Thread nD τ) ↦{q} km m c) ∗ (∃ q, mV.view.loc (c : Thread nD τ) ↦{q} vm m c))

/-- What a device ends with. -/
def end' (c : Dev nD) : sProp 𝕄 :=
  iprop((pt c main_arg0 (qm m c) ∗ pt c main_v6 (res (data m) c)) ∗ left m c ∗ semVal (kcell (c, none)) 0)

theorem prefHeld_eq (c : Dev nD) :
    (Pipeline.prefHeld (Ix := Unit) (Name := ℕ) (U := UU) (Lvl := ℕ) (Val := Elt F) (pcfgs (F := F) 0).pre c (fun _ => fullShare) (adm m c 0).1 : sProp 𝕄)
      = pt c main_v5 (V1 m c (Proc.devRef .tc main_v5)) := by
  unfold Pipeline.prefHeld
  exact bigSep_univ_eq_bigSepL [(0 : Fin 1)] (by decide) (by decide) _

theorem pref_tab (c : Dev nD) :
    (pt c main_v5 (V1 m c (Proc.devRef .tc main_v5)) : sProp 𝕄) ⊢ tab c (tw c) := by
  unfold tab
  rw [V1_v5]
  iintro H
  iexists fullShare; iexists _
  isplitr; · (ipureintro; rfl)
  iexact H

/-! ## The region -/

theorem entry (c : Dev nD) :
    iprop((StableHlo.held (c : Thread nD τ) (Pipeline.ucRefs τ sig) (V1 m c) ∗ E0 m c) ∗ Pipeline.ownSems0 osem c ∗ levAts L lv)
      ⊢ (|={Set.univ}=> iprop((dats m 0 c).arrays ((dats m 0 c).arrAt · 0)
        ∗ Pipeline.prefHeld (pcfgs (F := F) 0).pre c (fun _ => fullShare) (adm m c 0).1
        ∗ (dats m 0 c).owesAt () 0 ∗ (∃ K, recs (data m) K ∗ opened c (km m c) (vm m c)) ∗ left m c) : sProp 𝕄) := by
  rw [arrays_eq, prefHeld_eq, ownSems0_eq]
  unfold E0 start dones
  iintro ⟨⟨Hh, ⟨%K, #HR, Hb, Hraw⟩, HO⟩, ⟨Hkv, Hd⟩, -⟩
  imod (raws_open (data m) K c) $$ [Hraw Hd] with Hcp
  · isplitr; · iexact HR
    isplitl [Hraw] <;> iassumption
  ihave Hh := (held_five c (V1 m c)) $$ Hh
  icases Hh with ⟨H0, H1, H2, H5, H6⟩
  ihave Hs := (srcs_in c (km m c) (vm m c)) $$ [H1 H2]
  · isplitl [H1]
    · ihave H1 := (Entails.of_eq (show pt c main_arg1 (V1 m c main_arg1) = (mK.view.loc (c : Thread nD τ) ↦{fullShare} km m c : sProp 𝕄) from
        congrArg (fun f => (pt c main_arg1 f : sProp 𝕄)) (V1_of m c main_arg1 (by decide)))) $$ H1
      iexact H1
    · ihave H2 := (Entails.of_eq (show pt c main_arg2 (V1 m c main_arg2) = (mV.view.loc (c : Thread nD τ) ↦{fullShare} vm m c : sProp 𝕄) from
        congrArg (fun f => (pt c main_arg2 f : sProp 𝕄)) (V1_of m c main_arg2 (by decide)))) $$ H2
      iexact H2
  icases Hs with ⟨Hl, Hs⟩
  ihave HO := (owesAt_intro (dats m 0 c) 0 owed0 rfl rfl) $$ [HO]
  · unfold ow; iexists ∅; iexact HO
  imodintro
  isplitl [H0 H6]
  · isplitl [H0]
    · ihave H0 := (Entails.of_eq (show pt c main_arg0 (V1 m c main_arg0) = (pt c main_arg0 (qm m c) : sProp 𝕄) from
        congrArg (fun f => (pt c main_arg0 f : sProp 𝕄)) (V1_of m c main_arg0 (by decide)))) $$ H0
      iexact H0
    · ihave H6 := (Entails.of_eq (show pt c main_v6 (V1 m c main_v6) = (pt c main_v6 (m ((c : Thread nD τ).loc main_v6)) : sProp 𝕄) from
        congrArg (fun f => (pt c main_v6 f : sProp 𝕄)) (V1_of m c main_v6 (by decide)))) $$ H6
      iexact H6
  isplitl [H5]; · iexact H5
  isplitl [HO]; · iexact HO
  isplitr [Hl]
  · iexists K
    isplitr; · iexact HR
    unfold opened
    isplitl [Hb]; · iexact Hb
    isplitl [Hcp]; · iexact Hcp
    isplitl [Hkv] <;> iassumption
  · unfold left; iexact Hl

theorem inside (c : Dev nD) :
    iprop((∃ K, recs (data m) K ∗ opened c (km m c) (vm m c))
        ∗ Pipeline.prefHeld (pcfgs (F := F) 0).pre c (fun _ => fullShare) (adm m c 0).1
        ∗ Pipeline.scopedRest (pcfgs (F := F) 0).spec c)
      ⊢ ((dats m 0 c).Φ 0 : sProp 𝕄) := by
  rw [prefHeld_eq]
  have h : iprop(∃ K, recs (data m) K ∗ P0 c (tw c) (km m c) (vm m c)) ⊢ ((dats m 0 c).Φ 0 : sProp 𝕄) := .rfl
  refine BI.BIBase.Entails.trans ?_ h
  iintro ⟨⟨%K, HR, Ho⟩, Ht, Hr⟩
  ihave Ht := (pref_tab m c) $$ Ht
  iexists K
  isplitl [HR]; · iexact HR
  iapply (body_in c (tw c) (km m c) (vm m c))
  isplitl [Ho]; · iexact Ho
  isplitl [Ht] <;> iassumption

theorem outside (c : Dev nD) :
    ((dats m 0 c).Φ (Fin.last (Pipeline.pinD (pcfgs (F := F)) (adm m) c 0).N) : sProp 𝕄)
      ⊢ iprop(semVal (kcell (c, none)) 0 ∗ Pipeline.ownSems0 osem c ∗ Pipeline.scopedRest (pcfgs (F := F) 0).spec c) := by
  have h : ((dats m 0 c).Φ (Fin.last (Pipeline.pinD (pcfgs (F := F)) (adm m) c 0).N) : sProp 𝕄)
      ⊢ iprop(∃ K, recs (data m) K ∗ P4 (data m) c (tw c)) := by
    show (iprop(∃ K, recs (data m) K ∗ PN m c grid0.N) : sProp 𝕄) ⊢ _
    rw [show grid0.N = 4 from N_0]
    exact .rfl
  refine BI.BIBase.Entails.trans h ?_
  iintro ⟨%K, -, H⟩
  iapply (body_out (data m) c (tw c)); iexact H

theorem exit (c : Dev nD) :
    iprop((dats m 0 c).arrays ((dats m 0 c).arrAt · (Pipeline.pinD (pcfgs (F := F)) (adm m) c 0).N)
        ∗ (dats m 0 c).owesAt () (Fin.last (Pipeline.pinD (pcfgs (F := F)) (adm m) c 0).N) ∗ semVal (kcell (c, none)) 0 ∗ left m c)
      ⊢ (|={Set.univ}=> iprop(end' m c ∗ ∃ W, owes (c : Thread nD τ) (0 : CellTallies nD τ sig Unit) W) : sProp 𝕄) := by
  rw [arrays_eq]
  iintro ⟨⟨H0, H6⟩, HO, Hv, Hl⟩
  imodintro
  isplitr [HO]
  · unfold end'
    isplitl [H0 H6]
    · isplitl [H0]
      · ihave H0 := (Entails.of_eq (congrArg (fun f => (pt c main_arg0 f : sProp 𝕄)) (arr0 m c _))) $$ H0
        iexact H0
      · ihave H6 := (Entails.of_eq (congrArg (fun f => (pt c main_v6 f : sProp 𝕄)) (arr1 m c))) $$ H6
        iexact H6
    isplitl [Hl] <;> iassumption
  · ihave HO := (owesAt_elim (dats m 0 c) _ owed4 (by
      show OL c (owedN grid0.N) = OL c owed4
      rw [show grid0.N = 4 from N_0]; rfl)) $$ HO
    unfold ow; iexact HO

theorem waits (c : Dev nD) : (levAts L lv : sProp 𝕄) ⊢ Pipeline.PerCore.cellsWaits (Pipeline.pinD (pcfgs (F := F)) (adm m)) (dats m) () 0 c := by
  have hl : ∀ n : ℕ, ∀ a ∈ owedN n, 0 < lev a.2 := by
    intro n
    match n with
    | 0 => decide
    | 1 => decide
    | 2 => decide
    | 3 => decide
    | _ + 4 => exact fun a h => absurd h List.not_mem_nil
  have hs : ∀ (w : Fin 2) (s : Fin (spec0 w).nbuf) (i : CI), csem i ≠ .dma ((spec0 w).sem s) := by decide
  exact Pipeline.PerCore.cellsWaits_intro _ (dats m) () 0 c fun w s t => mayWait_other c _ (fun i => hs w s i) _ (hl t.val)

/-- The kernel's region. -/
def region : Pipeline.PerCore.RegionSeg (pcfgs (F := F)) (adm m) (dats m) () defs₀ 𝒱₀ L lv 0 where
  win := winFacts0.to₀
  block_pos := block_pos0
  stage_whole := stage_whole0
  K := OwnK
  osem := osem
  ho := osem_facts
  hbody := oblig m
  hwaits := waits m
  pre c := iprop(StableHlo.held (c : Thread nD τ) (Pipeline.ucRefs τ sig) (V1 m c) ∗ E0 m c)
  post c := iprop(end' m c ∗ ∃ W, owes (c : Thread nD τ) (0 : CellTallies nD τ sig Unit) W)
  X c := iprop(∃ K, recs (data m) K ∗ opened c (km m c) (vm m c))
  Y c := semVal (kcell (c, none)) 0
  Z c := left m c
  hentry := entry m
  hin := inside m
  hout := outside m
  hexit := exit m

def segs (c : Dev nD) : List (Pipeline.PerCore.Seg (pcfgs (F := F)) (adm m) (dats m) () defs₀ 𝒱₀ L lv) :=
  [.host (seg0 m 𝒱₀ L lv (fun _ => E0 m) c), .region (region m)]

theorem cells_inj : Function.Injective (Pipeline.PerCore.cellOf (nD := nD) (τ := τ) (Pipeline.pinD (pcfgs (F := F)) (adm m))) := by
  refine Pipeline.PerCore.cellOf_injective _ (fun c p => ?_) (fun c p p' h => absurd (Subsingleton.elim p p') h)
  obtain rfl : p = 0 := Subsingleton.elim _ _
  exact (by decide : Pipeline.SpecSemsDistinct spec0)

/-! ## The launch -/

def G (c : Dev nD) : sProp 𝕄 := if c = 0 then BI.own (ER seed) else iprop(emp)

def u₀ : UU := (initOf (Pipeline.PerCore.cells (Pipeline.pinD (pcfgs (F := F)) (adm m)) (cells_inj m))
  (Pipeline.PerCore.launchToks (Pipeline.pinD (pcfgs (F := F)) (adm m)) (cells_inj m)), (seed, 1))

theorem launch_own : (ownU (u₀ m) : sProp 𝕄)
    ⊢ (|={Set.univ}=> iprop(BI.own (EP (initOf (Pipeline.PerCore.cells (Pipeline.pinD (pcfgs (F := F)) (adm m)) (cells_inj m))
      (Pipeline.PerCore.launchToks (Pipeline.pinD (pcfgs (F := F)) (adm m)) (cells_inj m)))) ∗ bigSep Finset.univ G) : sProp 𝕄) := by
  have hG : (BI.own (ER seed) : sProp 𝕄) ⊢ bigSep Finset.univ G := by
    have h0 : (G (F := F) 0) = (BI.own (ER seed) : sProp 𝕄) := if_pos rfl
    have h1 : ∀ c : Dev nD, c ≠ 0 → (G (F := F) c) = (iprop(emp) : sProp 𝕄) := fun c h => if_neg h
    rw [bigSep4 (G (F := F)), h0, h1 1 (by decide), h1 2 (by decide), h1 3 (by decide)]
    iintro H
    isplitl [H]; · iexact H
    isplitr; · iempintro
    isplitr; · iempintro
    iempintro
  unfold u₀
  iintro Hu
  ihave H := (ownU_pair _ _) $$ Hu
  icases H with ⟨HP, HX⟩
  ihave HX := (own_pair_emb embR seed (1 : Counters)) $$ HX
  icases HX with ⟨HX, -⟩
  ihave HG := hG $$ HX
  imodintro
  isplitl [HP]; · iexact HP
  iexact HG

theorem sems_bar (c : Dev nD) : (unscopedSems0 c : sProp 𝕄) = semVal (kcell (c, none)) 0 := by
  unfold unscopedSems0
  rw [bigSep_eq_bigSepL_of_eq [SemLoc.reg barSem] (by decide) (by decide)]; rfl

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E0 m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((StableHlo.held (c : Thread nD τ) (Pipeline.ucRefs τ sig) (V0 m c) ∗ owes (c : Thread nD τ) (O₀ c) ∅)
          ∗ semVal (kcell (c, none)) 0 ∗ creds c ∗ G c) : sProp 𝕄) := by
    rw [sems_bar, ← Pipeline.unscopedBufs_held (Ix := Unit) (Name := ℕ) (U := UU) (Lvl := ℕ) c (V0 m c)]
    iintro ⟨Hh, Hv, HO, Hc, -, HG⟩
    isplitl [Hh HO]
    · isplitl [Hh]; · iexact Hh
      iexact HO
    isplitl [Hv]; · iexact Hv
    isplitl [Hc]; · (iapply (launchCred_creds c); iexact Hc)
    iexact HG
  have hG : (bigSep Finset.univ G : sProp 𝕄) ⊢ BI.own (ER seed) := by
    refine BI.BIBase.Entails.trans (bigSep_elim (Finset.mem_univ (0 : Dev nD))) (Entails.of_eq ?_)
    exact if_pos rfl
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(((bigSep Finset.univ fun c : Dev nD => StableHlo.held (c : Thread nD τ) (Pipeline.ucRefs τ sig) (V0 m c))
            ∗ bigSep Finset.univ fun c : Dev nD => owes (c : Thread nD τ) (O₀ c) ∅)
          ∗ (bigSep Finset.univ fun c : Dev nD => semVal (kcell (c, none)) 0) ∗ (bigSep Finset.univ fun c : Dev nD => creds c) ∗ bigSep Finset.univ G) : sProp 𝕄) := by
    simp only [← bigSep_sep']
    exact bigSep_mono fun c _ => hcore c
  iintro ⟨H, Hla⟩
  ihave H := hall $$ H
  icases H with ⟨⟨Hh, HO⟩, Hv, Hc, HG⟩
  ihave HG := hG $$ HG
  imod (starts (data m)) $$ [Hv Hc HG Hla] with Hs
  · isplitl [Hv]; · iexact Hv
    isplitl [HG]; · iexact HG
    isplitl [Hla] <;> iassumption
  imodintro
  unfold E0
  simp only [bigSep_sep']
  isplitl [Hh]; · iexact Hh
  isplitl [Hs] <;> iassumption

set_option backward.isDefEq.respectTransparency.types false in
/-- THE RUN. -/
theorem run_main (ρ : Dev nD → PrngReg) :
    θ_run defs (onTc (τ := τ) (main (F := F))) ⟨m, fun _ => 0, ρ⟩ (fun r =>
      (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v6) = res (data m) c)
      ∧ r.2.sem = fun _ => 0) :=
  Pipeline.PerCore.θ_run_regions_kit_sems (pcfgs (F := F)) (adm m) (dats m) () (cells_inj m) EP defs₀ 𝒱₀ L lv m ρ main (segs m)
    (fun c Q => by
      rewrite [main_chain c, Pipeline.PerCore.Seg.run_eq_chain,
        show (segs m c).map Pipeline.PerCore.Seg.prog = [StableHlo.seq (hostOps0 c), Prog.lift (.customCall (Pipeline.entry 0) ())] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := O₀) (hL := L_of_ne) (G := G) (u₀ := u₀ m) (hu₀ := launch_own m)
    (T₀ := fun c => iprop(StableHlo.held (c : Thread nD τ) (Pipeline.ucRefs τ sig) (V0 m c) ∗ E0 m c)) (Tₙ := end' m)
    (hch := fun c => ⟨.rfl, .rfl, .rfl⟩)
    (hinit := init m ρ)
    (QY := fun c s => ((s.mem ((c : Thread nD τ).loc main_arg0) = qm m c ∧ s.mem ((c : Thread nD τ).loc main_arg1) = km m c
        ∧ s.mem ((c : Thread nD τ).loc main_arg2) = vm m c) ∧ s.mem ((c : Thread nD τ).loc main_v6) = res (data m) c)
      ∧ s.sem (kcell (c, none)) = 0)
    (hfin := fun c s' => by
      unfold end' left
      iintro ⟨⟨⟨H0, H6⟩, ⟨⟨%q1, H1⟩, %q2, H2⟩, Hv⟩, HSI⟩
      icombine HSI H0 gives %h0
      icombine HSI H6 gives %h6
      icombine HSI H1 gives %h1
      icombine HSI H2 gives %h2
      icombine HSI Hv gives %hv
      imodintro
      isplitr
      · ipureintro
        exact ⟨⟨⟨Buf.eq_of_forall_mem_univ h0, Buf.eq_of_forall_mem_univ h1, Buf.eq_of_forall_mem_univ h2⟩, Buf.eq_of_forall_mem_univ h6⟩, hv⟩
      iexact HSI)
    (hQ := fun s h hs => ⟨fun c => (h c).1, sem_eq_zero hs fun c sm hsm => by
      obtain rfl : sm = .reg barSem := by revert sm; decide
      exact (h c).2⟩)

end Cert.KernelIdeal.Body

end
-- ==== Proof.KernelFrame.lean ====
/- The printed kernel's frame. Its text is the idealized one's but for the named constant, which at the bits is
   the literal it names; so its run is the idealized program's, read at the bits. -/
module

public import proofs.«01_k».proof.Defs
public import proofs.«01_k».proof.Proof.Run
public import proofs.«01_k».proof.Proof.Gen.Kernel

@[expose] public section

noncomputable section

namespace Cert.KernelIdeal.Body

open Idealize.ShloMosaic Idealize.ShloMosaic.TcCoe Idealize.SL.Sem Cert.KernelIdeal.Gen

/-- A named constant at the bits: its literal. -/
@[reducible] def namedBits : Named Bits where
  named _ _ {φ} bits := Scalar.ofBits φ bits

theorem sig_eq : Cert.Kernel.sig = Cert.KernelIdeal.sig := rfl

theorem tau_eq : Cert.Kernel.τ = Cert.KernelIdeal.τ := rfl

theorem lam_eq : Cert.Kernel.Λ₀ = Cert.KernelIdeal.Λ₀ := rfl

theorem grid_eq : Cert.Kernel.grid0 = Cert.KernelIdeal.grid0 := rfl

section
attribute [local instance] namedBits

theorem pcfgs_eq : Cert.Kernel.pcfgs (F := Bits) = Cert.KernelIdeal.pcfgs (F := Bits) := rfl

theorem main_eq : Cert.Kernel.main (F := Bits) = Cert.KernelIdeal.main (F := Bits) := rfl

/-- The printed kernel's body as its region calls it. -/
abbrev kernelBodyAt (t : Fin Cert.Kernel.grid0.N) (arg3 : Memref Cert.Kernel.sig .tc .vmem Cert.Kernel.S1x32x8x128 .f32) (h3 : arg3.IsWhole)
    (arg6 : Memref Cert.Kernel.sig .tc .vmem Cert.Kernel.S4x32x8x128 .f32) (h6 : arg6.IsWhole) :=
  Cert.Kernel.cc0_body (F := Bits) (Cert.Kernel.grid0.coords t) (Memref.whole Cert.Kernel.main_v5) (Memref.isWhole_whole _) arg3 h3
    (Memref.whole Cert.Kernel.main_arg1) (Memref.isWhole_whole _) (Memref.whole Cert.Kernel.main_arg2) (Memref.isWhole_whole _) arg6 h6
    (Memref.whole Cert.Kernel.cc0_scratch0) (Memref.isWhole_whole _) (Memref.whole Cert.Kernel.cc0_scratch1) (Memref.isWhole_whole _)
    (Memref.whole Cert.Kernel.cc0_scratch2) (Memref.isWhole_whole _) (Memref.whole Cert.Kernel.cc0_scratch3) (Memref.isWhole_whole _)
    (Memref.whole Cert.Kernel.cc0_scratch4) (Memref.isWhole_whole _) (Memref.whole Cert.Kernel.cc0_scratch5) (Memref.isWhole_whole _)
    (Memref.whole Cert.Kernel.cc0_scratch6) (Memref.isWhole_whole _) (Memref.whole Cert.Kernel.cc0_scratch7) (Memref.isWhole_whole _)
    (Memref.whole Cert.Kernel.cc0_scratch8) (Memref.isWhole_whole _) (Memref.whole Cert.Kernel.cc0_scratch9) (Memref.isWhole_whole _)
    Cert.Kernel.cc0_scratch10 Cert.Kernel.cc0_scratch11 Cert.Kernel.cc0_scratch12

theorem kernel_body0 (arg3 : Memref Cert.Kernel.sig .tc .vmem Cert.Kernel.S1x32x8x128 .f32) (h3 : arg3.IsWhole)
    (arg6 : Memref Cert.Kernel.sig .tc .vmem Cert.Kernel.S4x32x8x128 .f32) (h6 : arg6.IsWhole) :
    kernelBodyAt t0_0 arg3 h3 arg6 h6 = kbody0 (F := Bits) arg3 arg6 := by chain_rfl

theorem kernel_body1 (arg3 : Memref Cert.Kernel.sig .tc .vmem Cert.Kernel.S1x32x8x128 .f32) (h3 : arg3.IsWhole)
    (arg6 : Memref Cert.Kernel.sig .tc .vmem Cert.Kernel.S4x32x8x128 .f32) (h6 : arg6.IsWhole) :
    kernelBodyAt t0_1 arg3 h3 arg6 h6 = kbody1 (F := Bits) arg3 arg6 := by chain_rfl

theorem kernel_body2 (arg3 : Memref Cert.Kernel.sig .tc .vmem Cert.Kernel.S1x32x8x128 .f32) (h3 : arg3.IsWhole)
    (arg6 : Memref Cert.Kernel.sig .tc .vmem Cert.Kernel.S4x32x8x128 .f32) (h6 : arg6.IsWhole) :
    kernelBodyAt t0_2 arg3 h3 arg6 h6 = kbody2 (F := Bits) arg3 arg6 := by chain_rfl

theorem kernel_body3 (arg3 : Memref Cert.Kernel.sig .tc .vmem Cert.Kernel.S1x32x8x128 .f32) (h3 : arg3.IsWhole)
    (arg6 : Memref Cert.Kernel.sig .tc .vmem Cert.Kernel.S4x32x8x128 .f32) (h6 : arg6.IsWhole) :
    kernelBodyAt t0_3 arg3 h3 arg6 h6 = kbody3 (F := Bits) arg3 arg6 := by chain_rfl

/-- At each grid point the two programs' bodies are one program. -/
theorem kernel_body : ∀ (t : Fin Cert.Kernel.grid0.N) (arg3 : Memref Cert.Kernel.sig .tc .vmem Cert.Kernel.S1x32x8x128 .f32) (h3 : arg3.IsWhole)
    (arg6 : Memref Cert.Kernel.sig .tc .vmem Cert.Kernel.S4x32x8x128 .f32) (h6 : arg6.IsWhole),
    kernelBodyAt t arg3 h3 arg6 h6 = bodyAt (F := Bits) t arg3 h3 arg6 h6
  | ⟨0, _⟩, a, ha, b, hb => (kernel_body0 a ha b hb).trans (body0 a ha b hb).symm
  | ⟨1, _⟩, a, ha, b, hb => (kernel_body1 a ha b hb).trans (body1 a ha b hb).symm
  | ⟨2, _⟩, a, ha, b, hb => (kernel_body2 a ha b hb).trans (body2 a ha b hb).symm
  | ⟨3, _⟩, a, ha, b, hb => (kernel_body3 a ha b hb).trans (body3 a ha b hb).symm
  | ⟨n + 4, h⟩, _, _, _, _ => absurd h (Nat.not_lt.2 (Nat.le_add_left 4 n))

theorem defs0_eq : Cert.Kernel.defs₀ (F := Bits) = Cert.KernelIdeal.defs₀ (F := Bits) := by
  refine congrArg Defs.onTc ?_
  funext l x
  match l, x with
  | 0, (t, s) => exact kernel_body t _ _ _ _
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs0_eq

/-- The printed kernel's frame. -/
theorem frame_kernel : Cert.quiescent_Kernel := by
  intro m ρ _
  have h := (θ_run (Cert.KernelIdeal.defs (F := Bits)) _ _).mono (fun r h => (⟨fun c => (h.1 c).1, h.2⟩ :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0))
    (run_main (F := Bits) m ρ)
  rw [← defs_eq, ← main_eq] at h
  exact h

end

end Cert.KernelIdeal.Body

end
-- ==== Proof.Frames.lean ====
/- The idealized kernel's frames, the reference's, and what the one named constant stands for. -/
module

public import proofs.«01_k».proof.Proof.KernelFrame
public import proofs.«01_k».proof.Proof.Gen.ReferenceIdeal.Run

@[expose] public section

noncomputable section

namespace Cert.KernelIdeal.Body

open Idealize.ShloMosaic Idealize.ShloMosaic.TcCoe Idealize.SL.Sem

theorem frame_ideal : Cert.quiescent_KernelIdeal := fun m ρ _ =>
  (θ_run defs _ _).mono (fun _ h => ⟨fun c => (h.1 c).1, h.2⟩) (run_main (F := Ideal) m ρ)

theorem frame_ideal_pre [Cert.Pre_finite_qk_KernelIdeal.Facts] : Cert.quiescent_KernelIdeal_pre_finite_qk_KernelIdeal := fun m ρ _ =>
  frame_ideal m ρ trivial

theorem frame_ref : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

theorem frame_ref_pre [Cert.Pre_finite_qk_ReferenceIdeal.Facts] : Cert.quiescent_ReferenceIdeal_pre_finite_qk_ReferenceIdeal := fun m ρ _ =>
  frame_ref m ρ trivial

theorem preserves : Cert.preserves_Kernel_KernelIdeal :=
  IdealRules.named_const.statement Cert.KernelIdeal.κ "s2" .f32 0x3E0293EE#32 (((11863283 / 134217728) * (Real.log 2)⁻¹ : ℝ) : EReal) rfl

end Cert.KernelIdeal.Body

end
-- ==== Proof.Softmax.lean ====
/- Softmax in parts, over the extended reals: a part keeps the largest score, the sum of the powers of two of the
   scores under it and the sum of the values so weighted; parts merge, and the last quotient is the softmax's mean. -/
module

public import Idealize.ShloMosaic.PureOps.Ideal.Laws

@[expose] public section

noncomputable section

namespace Cert.KernelIdeal.Softmax

open Idealize.ShloMosaic

/-! ## Real numbers among the extended ones -/

theorem coe_sum {ι : Type} (S : Finset ι) (f : ι → ℝ) : ((∑ i ∈ S, f i : ℝ) : EReal) = ∑ i ∈ S, (f i : EReal) :=
  map_sum (⟨⟨fun r : ℝ => (r : EReal), EReal.coe_zero⟩, EReal.coe_add⟩ : ℝ →+ EReal) f S

theorem mul_sum {ι : Type} (S : Finset ι) (r : ℝ) (hr : 0 ≤ r) (f : ι → EReal) : (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (EReal.coe_nonneg.mpr hr) (EReal.coe_ne_top r), ih]

theorem exp2_sub (a b : ℝ) : Ideal.exp2 ((a : EReal) - (b : EReal)) = ((Real.rpow 2 (a - b) : ℝ) : EReal) := by
  rw [← EReal.coe_sub]; rfl
theorem exp_sub (a b : ℝ) : Ideal.exp ((a : EReal) - (b : EReal)) = ((Real.exp (a - b) : ℝ) : EReal) := by
  rw [← EReal.coe_sub]; rfl
theorem exp2_bot_sub (b : ℝ) : Ideal.exp2 ((⊥ : EReal) - (b : EReal)) = 0 := by
  rw [EReal.bot_sub]; rfl

theorem coe_max (a b : ℝ) : max (a : EReal) (b : EReal) = ((max a b : ℝ) : EReal) :=
  ((EReal.coe_strictMono.monotone).map_max).symm

/-- The largest of finitely many numbers, at least one, is a number. -/
theorem fold_max_real {ι : Type} (S : Finset ι) (f : ι → ℝ) (hS : S.Nonempty) :
    ∃ M : ℝ, S.fold max (⊥ : EReal) (fun i => (f i : EReal)) = (M : EReal) := by
  classical
  induction hS using Finset.Nonempty.cons_induction with
  | singleton a => exact ⟨f a, by rw [Finset.fold_singleton]; exact max_eq_left bot_le⟩
  | cons a S ha hS ih =>
    obtain ⟨M, hM⟩ := ih
    exact ⟨max (f a) M, by rw [Finset.fold_cons, hM, coe_max]⟩

/-- A number by a positive number. -/
theorem div_pos (x : EReal) (L : ℝ) (hL : 0 < L) : Ideal.div x (L : EReal) = ((L⁻¹ : ℝ) : EReal) * x := by
  unfold Ideal.div
  rw [if_neg (by exact_mod_cast hL.ne'), EReal.mul_comm, EReal.coe_inv]

/-! ## Parts -/

variable {n : ℕ} (f : Fin 4 → Fin n → ℝ) (V : Fin 4 → Fin n → EReal)

def wt (M : ℝ) (c : Fin 4) (j : Fin n) : ℝ := Real.rpow 2 (f c j - M)

theorem wt_pos (M : ℝ) (c : Fin 4) (j : Fin n) : 0 < wt f M c j := Real.rpow_pos_of_pos two_pos _
theorem wt_shift (M M' : ℝ) (c : Fin 4) (j : Fin n) : wt f M' c j = Real.rpow 2 (M - M') * wt f M c j := by
  unfold wt
  refine (congrArg (Real.rpow 2) (by ring : f c j - M' = (M - M') + (f c j - M))).trans ?_
  exact Real.rpow_add two_pos _ _

/-- What is kept of the blocks `S`: the largest score `m`, the weights' sum `l`, the weighted sum `o`. -/
def Part (S : Finset (Fin 4)) (m l o : EReal) : Prop :=
  ∃ M : ℝ, m = (M : EReal) ∧ l = ((∑ c ∈ S, ∑ j, wt f M c j : ℝ) : EReal) ∧ o = ∑ c ∈ S, ∑ j, ((wt f M c j : ℝ) : EReal) * V c j

/-- One block's part, from its scores. -/
theorem part_one (c : Fin 4) (m l o : EReal) (hn : 0 < n)
    (hm : m = max ⊥ (Finset.univ.fold max (⊥ : EReal) fun j => (f c j : EReal)))
    (hl : l = 0 * Ideal.exp2 (⊥ - m) + ∑ j, Ideal.exp2 ((f c j : EReal) - m))
    (ho : o = ∑ j, Ideal.exp2 ((f c j : EReal) - m) * V c j) : Part f V {c} m l o := by
  obtain ⟨M, hM⟩ := fold_max_real Finset.univ (f c) ⟨⟨0, hn⟩, Finset.mem_univ _⟩
  rw [hM, max_eq_right bot_le] at hm
  subst hm
  refine ⟨M, rfl, ?_, ?_⟩
  · rw [hl, zero_mul, zero_add, Finset.sum_singleton, coe_sum]
    exact Finset.sum_congr rfl fun j _ => exp2_sub _ _
  · rw [ho, Finset.sum_singleton]
    exact Finset.sum_congr rfl fun j _ => by rw [exp2_sub]; rfl

theorem part_l_shift (S : Finset (Fin 4)) (M M' : ℝ) :
    ((∑ c ∈ S, ∑ j, wt f M c j : ℝ) : EReal) * ((Real.rpow 2 (M - M') : ℝ) : EReal) = ((∑ c ∈ S, ∑ j, wt f M' c j : ℝ) : EReal) := by
  rw [← EReal.coe_mul]
  refine congrArg _ ?_
  rw [Finset.sum_mul]
  refine Finset.sum_congr rfl fun c _ => ?_
  rw [Finset.sum_mul]
  exact Finset.sum_congr rfl fun j _ => by rw [wt_shift f M M', mul_comm]
theorem part_o_shift (S : Finset (Fin 4)) (M M' : ℝ) :
    (∑ c ∈ S, ∑ j, ((wt f M c j : ℝ) : EReal) * V c j) * ((Real.rpow 2 (M - M') : ℝ) : EReal) = ∑ c ∈ S, ∑ j, ((wt f M' c j : ℝ) : EReal) * V c j := by
  have h : 0 ≤ Real.rpow 2 (M - M') := (Real.rpow_pos_of_pos two_pos _).le
  rw [EReal.mul_comm, mul_sum _ _ h]
  refine Finset.sum_congr rfl fun c _ => ?_
  rw [mul_sum _ _ h]
  exact Finset.sum_congr rfl fun j _ => by rw [wt_shift f M M', EReal.coe_mul, mul_assoc]

/-- Two parts of disjoint blocks merge. -/
theorem part_merge (S T : Finset (Fin 4)) (hd : Disjoint S T) (m l o m' l' o' : EReal) (h : Part f V S m l o) (h' : Part f V T m' l' o') :
    Part f V (S ∪ T) (max m m') (l * Ideal.exp2 (m - max m m') + l' * Ideal.exp2 (m' - max m m'))
      (o * Ideal.exp2 (m - max m m') + o' * Ideal.exp2 (m' - max m m')) := by
  obtain ⟨M, rfl, rfl, rfl⟩ := h
  obtain ⟨M', rfl, rfl, rfl⟩ := h'
  refine ⟨max M M', coe_max _ _, ?_, ?_⟩
  · rw [coe_max, exp2_sub, exp2_sub, part_l_shift, part_l_shift, ← EReal.coe_add, Finset.sum_union hd]
  · rw [coe_max, exp2_sub, exp2_sub, part_o_shift, part_o_shift, Finset.sum_union hd]

/-! ## The quotient -/

/-- The softmax's mean does not depend on the number taken off the scores. -/
theorem part_div (m l o : EReal) (hn : 0 < n) (h : Part f V Finset.univ m l o) (x : Fin 4 → Fin n → ℝ) (hx : ∀ c j, x c j = f c j * Real.log 2) (N : ℝ) :
    Ideal.div o l = ∑ c, ∑ j, ((Real.exp (x c j - N) / ∑ c, ∑ j, Real.exp (x c j - N) : ℝ) : EReal) * V c j := by
  obtain ⟨M, rfl, rfl, rfl⟩ := h
  have hne : (Finset.univ : Finset (Fin n)).Nonempty := ⟨⟨0, hn⟩, Finset.mem_univ _⟩
  have hw : ∀ c j, wt f M c j = Real.exp (N - M * Real.log 2) * Real.exp (x c j - N) := fun c j => by
    rw [← Real.exp_add, hx]
    exact (Real.rpow_def_of_pos two_pos _).trans (congrArg Real.exp (by ring))
  have hL : (0 : ℝ) < ∑ c, ∑ j, wt f M c j :=
    Finset.sum_pos (fun c _ => Finset.sum_pos (fun j _ => wt_pos f M c j) hne) Finset.univ_nonempty
  have hX : (0 : ℝ) < ∑ c, ∑ j, Real.exp (x c j - N) :=
    Finset.sum_pos (fun c _ => Finset.sum_pos (fun j _ => Real.exp_pos _) hne) Finset.univ_nonempty
  have hs : (∑ c, ∑ j, wt f M c j) = Real.exp (N - M * Real.log 2) * ∑ c, ∑ j, Real.exp (x c j - N) := by
    rw [Finset.mul_sum]
    refine Finset.sum_congr rfl fun c _ => ?_
    rw [Finset.mul_sum]
    exact Finset.sum_congr rfl fun j _ => hw c j
  rw [div_pos _ _ hL, mul_sum _ _ (inv_nonneg.mpr hL.le)]
  refine Finset.sum_congr rfl fun c _ => ?_
  rw [mul_sum _ _ (inv_nonneg.mpr hL.le)]
  refine Finset.sum_congr rfl fun j _ => ?_
  rw [← mul_assoc, ← EReal.coe_mul]
  refine congrArg (fun r : ℝ => (r : EReal) * V c j) ?_
  rw [hs, hw]
  have he := (Real.exp_pos (N - M * Real.log 2)).ne'
  field_simp

end Cert.KernelIdeal.Softmax

end
-- ==== Proof.Values.lean ====
/- What the body computes, over the extended reals, read one element at a time. -/
module

public import proofs.«01_k».proof.Proof.Dats
public import proofs.«01_k».proof.Proof.Softmax
public import Idealize.ShloMosaic.Lib.Pointwise

@[expose] public section

noncomputable section

namespace Cert.KernelIdeal.Body

open Idealize.ShloMosaic Idealize.ShloMosaic.TcCoe Cert.KernelIdeal.Gen

/-- The scale the kernel's scores carry: the reference's, over log 2. -/
def scale2 : EReal := (((11863283 / 134217728) * (Real.log 2)⁻¹ : ℝ) : EReal)

theorem ofBits_ninf : Ideal.ofBits .f32 0xFF800000#32 = ⊥ := by simp [Ideal.ofBits, Ideal.ieee]

theorem hS_at (h : Fin 8) (q : FVec Ideal S32x8x128 .bf16) (k : Vec Ideal S1x1x2048x128 .f32) (i : Fin 32) (j : Fin 2048) :
    hS (F := Ideal) h q k (ix2 i j) = (∑ d : Fin 128, (q (ix3 i h d) : EReal) * k (ix4 0 0 j d)) * scale2 := by
  unfold hS
  pointwise
  exact congrArg (fun z : EReal => (∑ d : Fin 128, (q (ix3 i h d) : EReal) * k (ix4 0 0 j d)) * z)
    (IdealRules.named_const.ideal_named_scalar (φ := .f32) κ "s2" 0x3E0293EE#32 scale2 rfl)

theorem hM_at (h : Fin 8) (q : FVec Ideal S32x8x128 .bf16) (k : Vec Ideal S1x1x2048x128 .f32) (mo : Vec Ideal S1x1x1x32x1 .f32) (i : Fin 32) :
    hM (F := Ideal) h q k mo (ix2 i 0) = max (mo (ix5 0 0 0 i 0)) (Finset.univ.fold max ⊥ fun j : Fin 2048 => hS h q k (ix2 i j)) := by
  unfold hM
  pointwise
  rw [ofBits_ninf]

theorem hA_at (h : Fin 8) (q : FVec Ideal S32x8x128 .bf16) (k : Vec Ideal S1x1x2048x128 .f32) (mo : Vec Ideal S1x1x1x32x1 .f32) (i : Fin 32) :
    hA (F := Ideal) h q k mo (ix2 i 0) = Ideal.exp2 (mo (ix5 0 0 0 i 0) - hM h q k mo (ix2 i 0)) := by
  unfold hA
  pointwise
  rfl

theorem hL_at (h : Fin 8) (q : FVec Ideal S32x8x128 .bf16) (k : Vec Ideal S1x1x2048x128 .f32) (mo lo : Vec Ideal S1x1x1x32x1 .f32) (i : Fin 32) :
    hL (F := Ideal) h q k mo lo (ix2 i 0) = lo (ix5 0 0 0 i 0) * Ideal.exp2 (mo (ix5 0 0 0 i 0) - hM h q k mo (ix2 i 0)) + ∑ j : Fin 2048, Ideal.exp2 (hS h q k (ix2 i j) - hM h q k mo (ix2 i 0)) := by
  unfold hL hP
  pointwise
  rw [hA_at]; rfl

theorem hPV_at (h : Fin 8) (q : FVec Ideal S32x8x128 .bf16) (k v : Vec Ideal S1x1x2048x128 .f32) (mo : Vec Ideal S1x1x1x32x1 .f32) (i : Fin 32) (d : Fin 128) :
    hPV (F := Ideal) h q k v mo (ix2 i d) = ∑ j : Fin 2048, Ideal.exp2 (hS h q k (ix2 i j) - hM h q k mo (ix2 i 0)) * v (ix4 0 0 j d) := by
  unfold hPV hP
  pointwise
  rfl

theorem pay5_at (h : Fin 8) (i : Fin 32) : k0_pay5 (F := Ideal) (ix5 0 0 h i 0) = ⊥ := by
  pointwise [k0_pay5]
  exact ofBits_ninf
theorem pay6_at (h : Fin 8) (i : Fin 32) : k0_pay6 (F := Ideal) (ix5 0 0 h i 0) = 0 := by
  pointwise [k0_pay6]
theorem pay89_at (x : Vec Ideal S1x32x8x128 .f32) (i : Fin 32) (h : Fin 8) (d : Fin 128) : k0_pay89 (F := Ideal) x (ix3 i h d) = x (ix4 0 i h d) := by
  pointwise [k0_pay89]

section Merge
variable (M L M' L' : Vec Ideal S1x1x8x32x1 .f32) (O : Vec Ideal S1x8x32x128 .f32) (O' : Vec Ideal S1x8x32x128 .bf16)

theorem mergeM_at (h : Fin 8) (i : Fin 32) :
    k0_pay22 (k0_pay19 M M') (ix5 0 0 h i 0) = max (M (ix5 0 0 h i 0)) (M' (ix5 0 0 h i 0)) := by
  pointwise [k0_pay22, k0_pay19, k0_pay15, k0_pay17]
theorem mergeL_at (h : Fin 8) (i : Fin 32) :
    k0_pay23 (k0_pay16 L) (k0_pay18 L') (k0_pay20 M M') (k0_pay21 M M') (ix5 0 0 h i 0)
      = (L (ix5 0 0 h i 0) : EReal) * Ideal.exp2 (M (ix5 0 0 h i 0) - max (M (ix5 0 0 h i 0)) (M' (ix5 0 0 h i 0)))
        + L' (ix5 0 0 h i 0) * Ideal.exp2 (M' (ix5 0 0 h i 0) - max (M (ix5 0 0 h i 0)) (M' (ix5 0 0 h i 0))) := by
  pointwise [k0_pay23, k0_pay16, k0_pay18, k0_pay20, k0_pay21, k0_pay19, k0_pay15, k0_pay17]
  rfl
theorem mergeO_at (h : Fin 8) (i : Fin 32) (d : Fin 128) :
    k0_pay24 (k0_pay20 M M') (k0_pay21 M M') O O' (ix4 0 h i d)
      = (O (ix4 0 h i d) : EReal) * Ideal.exp2 (M (ix5 0 0 h i 0) - max (M (ix5 0 0 h i 0)) (M' (ix5 0 0 h i 0)))
        + (O' (ix4 0 h i d) : EReal) * Ideal.exp2 (M' (ix5 0 0 h i 0) - max (M (ix5 0 0 h i 0)) (M' (ix5 0 0 h i 0))) := by
  pointwise [k0_pay24, k0_pay20, k0_pay21, k0_pay19, k0_pay15, k0_pay17]
  rfl
theorem send1_at (h : Fin 8) (i : Fin 32) (d : Fin 128) : k0_pay14 O (ix4 0 h i d) = O (ix4 0 h i d) := by
  pointwise [k0_pay14]
theorem send2_at (h : Fin 8) (i : Fin 32) (d : Fin 128) : k0_pay25 O (ix4 0 h i d) = O (ix4 0 h i d) := by
  pointwise [k0_pay25]
theorem fin8_at (h : Fin 8) (i : Fin 32) (d : Fin 128) :
    fin8 M L M' L' O O' (ix3 h i d)
      = Ideal.div ((O (ix4 0 h i d) : EReal) * Ideal.exp2 (M (ix5 0 0 h i 0) - max (M (ix5 0 0 h i 0)) (M' (ix5 0 0 h i 0)))
          + (O' (ix4 0 h i d) : EReal) * Ideal.exp2 (M' (ix5 0 0 h i 0) - max (M (ix5 0 0 h i 0)) (M' (ix5 0 0 h i 0))))
        ((L (ix5 0 0 h i 0) : EReal) * Ideal.exp2 (M (ix5 0 0 h i 0) - max (M (ix5 0 0 h i 0)) (M' (ix5 0 0 h i 0)))
          + L' (ix5 0 0 h i 0) * Ideal.exp2 (M' (ix5 0 0 h i 0) - max (M (ix5 0 0 h i 0)) (M' (ix5 0 0 h i 0)))) := by
  pointwise [fin8, k0_pay39, k0_pay36, k0_pay37, k0_pay38]
  rfl
theorem finH_at (x : FVec Ideal S8x32x128 .f32) (h : Fin 8) (i : Fin 32) (d : Fin 128) : finH h x (ix4 0 i 0 d) = x (ix3 h i d) := by
  pointwise [finH]
end Merge

/-! ## The buffers' contents -/

section Buffers
variable (D : Data Ideal)

theorem pM_at (f : S4x2x8x32x1.Idx → EReal) (b : Fin 4) (j : Fin 2) (h : Fin 8) (i : Fin 32) : pM f b j (ix5 0 0 h i 0) = f (ix5 b j h i 0) := by
  unfold pM; rw [emb_rM8, ← ix5_eq_valueIdx]; rfl
theorem pO_at (f : S4x8x32x128.Idx → EReal) (b : Fin 4) (h : Fin 8) (i : Fin 32) (d : Fin 128) : pO f b (ix4 0 h i d) = f (ix4 b h i d) := by
  unfold pO; rw [emb_rO, ← ix4_eq_valueIdx]; rfl

theorem mInit_at (i : Fin 32) : mInit (F := Ideal) (ix5 0 0 0 i 0) = ⊥ := by
  unfold mInit; rw [← ix5_eq_valueIdx]; exact pay5_at 0 0
theorem lInit_at (i : Fin 32) : lInit (F := Ideal) (ix5 0 0 0 i 0) = 0 := by
  unfold lInit; rw [← ix5_eq_valueIdx]; exact pay6_at 0 0

theorem mlA_m (c : Dev nD) (b : Fin 4) (h : Fin 8) (i : Fin 32) : mlA D c (ix5 b 0 h i 0) = vM D c b h (ix2 i 0) := by
  rw [ix2_eq_valueIdx]
  exact (if_pos (show h.val < 8 from h.isLt)).trans (if_pos (show (0 : Fin 2).val = 0 from rfl))
theorem mlA_l (c : Dev nD) (b : Fin 4) (h : Fin 8) (i : Fin 32) : mlA D c (ix5 b 1 h i 0) = vL D c b h (ix2 i 0) := by
  rw [ix2_eq_valueIdx]
  exact (if_pos (show h.val < 8 from h.isLt)).trans (if_neg (show ¬ (1 : Fin 2).val = 0 by decide))
theorem oA_at (c : Dev nD) (b : Fin 4) (h : Fin 8) (i : Fin 32) (d : Fin 128) : oA D c (ix4 b h i d) = vO D c b h (ix2 i d) := by
  rw [ix2_eq_valueIdx]; rfl
theorem x1_at (c : Dev nD) (b : Fin 4) (h : Fin 8) (i : Fin 32) (d : Fin 128) : x1 D c (ix4 b h i d) = oA D c (ix4 b h i d) := by
  refine (show x1 D c (ix4 b h i d) = k0_pay14 (pO (oA D c) b) (ValueIdx.ix4 0 h i d) from rfl).trans ?_
  rw [← ix4_eq_valueIdx]; exact (send1_at _ h i d).trans (pO_at _ b h i d)
theorem x2_at (c : Dev nD) (b : Fin 4) (h : Fin 8) (i : Fin 32) (d : Fin 128) : x2 D c (ix4 b h i d) = oB D c (ix4 b h i d) := by
  refine (show x2 D c (ix4 b h i d) = k0_pay25 (pO (oB D c) b) (ValueIdx.ix4 0 h i d) from rfl).trans ?_
  rw [← ix4_eq_valueIdx]; exact (send2_at _ h i d).trans (pO_at _ b h i d)

theorem mlB_m (c : Dev nD) (b : Fin 4) (h : Fin 8) (i : Fin 32) :
    mlB D c (ix5 b 0 h i 0) = max (mlA D c (ix5 b 0 h i 0)) (mlA D (xn c) (ix5 b 0 h i 0)) := by
  refine (show mlB D c (ix5 b 0 h i 0) = k0_pay22 (k0_pay19 (pM (mlA D c) b 0) (pM (mlA D (xn c)) b 0)) (ValueIdx.ix5 0 0 h i 0) from if_pos rfl).trans ?_
  rw [← ix5_eq_valueIdx]
  refine (mergeM_at _ _ h i).trans ?_
  rw [pM_at, pM_at]
theorem mlB_l (c : Dev nD) (b : Fin 4) (h : Fin 8) (i : Fin 32) :
    mlB D c (ix5 b 1 h i 0)
      = (mlA D c (ix5 b 1 h i 0) : EReal) * Ideal.exp2 (mlA D c (ix5 b 0 h i 0) - max (mlA D c (ix5 b 0 h i 0)) (mlA D (xn c) (ix5 b 0 h i 0)))
        + mlA D (xn c) (ix5 b 1 h i 0) * Ideal.exp2 (mlA D (xn c) (ix5 b 0 h i 0) - max (mlA D c (ix5 b 0 h i 0)) (mlA D (xn c) (ix5 b 0 h i 0))) := by
  refine (show mlB D c (ix5 b 1 h i 0) = k0_pay23 (k0_pay16 (pM (mlA D c) b 1)) (k0_pay18 (pM (mlA D (xn c)) b 1))
      (k0_pay20 (pM (mlA D c) b 0) (pM (mlA D (xn c)) b 0)) (k0_pay21 (pM (mlA D c) b 0) (pM (mlA D (xn c)) b 0)) (ValueIdx.ix5 0 0 h i 0)
    from if_neg (show ¬ (1 : Fin 2).val = 0 by decide)).trans ?_
  rw [← ix5_eq_valueIdx]
  refine (mergeL_at _ _ _ _ h i).trans ?_
  simp only [pM_at]
theorem oB_at (c : Dev nD) (b : Fin 4) (h : Fin 8) (i : Fin 32) (d : Fin 128) :
    oB D c (ix4 b h i d)
      = (oA D c (ix4 b h i d) : EReal) * Ideal.exp2 (mlA D c (ix5 b 0 h i 0) - max (mlA D c (ix5 b 0 h i 0)) (mlA D (xn c) (ix5 b 0 h i 0)))
        + (oA D (xn c) (ix4 b h i d) : EReal) * Ideal.exp2 (mlA D (xn c) (ix5 b 0 h i 0) - max (mlA D c (ix5 b 0 h i 0)) (mlA D (xn c) (ix5 b 0 h i 0))) := by
  refine (show oB D c (ix4 b h i d) = k0_pay24 (k0_pay20 (pM (mlA D c) b 0) (pM (mlA D (xn c)) b 0)) (k0_pay21 (pM (mlA D c) b 0) (pM (mlA D (xn c)) b 0))
      (pO (oA D c) b) (pO (x1 D (xn c)) b) (ValueIdx.ix4 0 h i d) from rfl).trans ?_
  rw [← ix4_eq_valueIdx]
  refine (mergeO_at _ _ _ _ h i d).trans ?_
  simp only [pM_at, pO_at, x1_at]
theorem res_at (c : Dev nD) (b : Fin 4) (i : Fin 32) (h : Fin 8) (d : Fin 128) :
    res D c (ix4 b i h d)
      = Ideal.div ((oB D c (ix4 b h i d) : EReal) * Ideal.exp2 (mlB D c (ix5 b 0 h i 0) - max (mlB D c (ix5 b 0 h i 0)) (mlB D (yn c) (ix5 b 0 h i 0)))
          + (oB D (yn c) (ix4 b h i d) : EReal) * Ideal.exp2 (mlB D (yn c) (ix5 b 0 h i 0) - max (mlB D c (ix5 b 0 h i 0)) (mlB D (yn c) (ix5 b 0 h i 0))))
        ((mlB D c (ix5 b 1 h i 0) : EReal) * Ideal.exp2 (mlB D c (ix5 b 0 h i 0) - max (mlB D c (ix5 b 0 h i 0)) (mlB D (yn c) (ix5 b 0 h i 0)))
          + mlB D (yn c) (ix5 b 1 h i 0) * Ideal.exp2 (mlB D (yn c) (ix5 b 0 h i 0) - max (mlB D c (ix5 b 0 h i 0)) (mlB D (yn c) (ix5 b 0 h i 0)))) := by
  refine (show res D c (ix4 b i h d) = finH h (fin8 (pM (mlB D c) b 0) (pM (mlB D c) b 1) (pM (mlB D (yn c)) b 0) (pM (mlB D (yn c)) b 1)
      (pO (oB D c) b) (pO (x2 D (yn c)) b)) (ValueIdx.ix4 0 i 0 d) from rfl).trans ?_
  rw [← ix4_eq_valueIdx]
  refine (finH_at _ h i d).trans ((fin8_at _ _ _ _ _ _ h i d).trans ?_)
  simp only [pM_at, pO_at, x2_at]

end Buffers

end Cert.KernelIdeal.Body

end
-- ==== Proof.Answer.lean ====
/- Each device's result is the softmax's mean over all four devices' keys. -/
module

public import proofs.«01_k».proof.Proof.Values

@[expose] public section

noncomputable section

namespace Cert.KernelIdeal.Body

open Idealize.ShloMosaic Idealize.ShloMosaic.TcCoe Cert.KernelIdeal.Gen Cert.KernelIdeal.Softmax

variable (m : (ℓ : Loc nD τ sig) → Buf (Elt Ideal) ℓ)
variable (Q : Dev nD → S4x32x8x128.Idx → ℝ) (K : Dev nD → S4x4096x8x128.Idx → ℝ)

/-- The row of its keys a device reads `j`-th. -/
def rowIx (c : Dev nD) (j : Fin 2048) : Fin 4096 :=
  ⟨row (tw c) + j.val, Nat.lt_of_lt_of_le (Nat.add_lt_add_left j.isLt _) (tw_row c)⟩

/-- A query's product with a key of device `c`. -/
def dotR (b : Fin 4) (h : Fin 8) (i : Fin 32) (c : Fin 4) (j : Fin 2048) : ℝ := ∑ d : Fin 128, Q c (ix4 b i h d) * K c (ix4 b (rowIx c j) h d)
def score2 (b : Fin 4) (h : Fin 8) (i : Fin 32) (c : Fin 4) (j : Fin 2048) : ℝ := dotR Q K b h i c j * (11863283 / 134217728 * (Real.log 2)⁻¹)
def valOf (b : Fin 4) (h : Fin 8) (d : Fin 128) (c : Fin 4) (j : Fin 2048) : EReal := vm m c (ix4 b (rowIx c j) h d)

theorem q_at (c : Dev nD) (b : Fin 4) (i : Fin 32) (h : Fin 8) (d : Fin 128) : (data m).q c b (ix3 i h d) = qm m c (ix4 b i h d) := by
  refine (pay89_at (qblk m c b) i h d).trans ?_
  rw [ix4_eq_valueIdx b i h d]; rfl
theorem k_at (c : Dev nD) (b : Fin 4) (h : Fin 8) (j : Fin 2048) (d : Fin 128) : (data m).k c b h (ix4 0 0 j d) = km m c (ix4 b (rowIx c j) h d) := by
  rw [ix4_eq_valueIdx b (rowIx c j) h d]; rfl
theorem v_at (c : Dev nD) (b : Fin 4) (h : Fin 8) (j : Fin 2048) (d : Fin 128) : (data m).v c b h (ix4 0 0 j d) = valOf m b h d c j := by
  unfold valOf; rw [ix4_eq_valueIdx b (rowIx c j) h d]; rfl

variable (hq : ∀ c x, qm m c x = (Q c x : EReal)) (hk : ∀ c x, km m c x = (K c x : EReal))

include hq hk in
theorem hS_real (c : Dev nD) (b : Fin 4) (h : Fin 8) (i : Fin 32) (j : Fin 2048) :
    hS h ((data m).q c b) ((data m).k c b h) (ix2 i j) = (score2 Q K b h i c j : EReal) := by
  rw [hS_at]
  unfold score2 scale2 dotR
  refine Eq.trans ?_ (EReal.coe_mul _ _).symm
  rw [coe_sum]
  refine congrArg (fun z : EReal => z * _) (Finset.sum_congr rfl fun d _ => ?_)
  rw [q_at, k_at, hq, hk, EReal.coe_mul]

include hq hk in
theorem part_own (c : Dev nD) (b : Fin 4) (h : Fin 8) (i : Fin 32) (d : Fin 128) :
    Part (score2 Q K b h i) (valOf m b h d) {c} (mlA (data m) c (ix5 b 0 h i 0)) (mlA (data m) c (ix5 b 1 h i 0)) (oA (data m) c (ix4 b h i d)) := by
  rw [mlA_m, mlA_l, oA_at]
  have hm : vM (data m) c b h (ix2 i 0) = max ⊥ (Finset.univ.fold max (⊥ : EReal) fun j => (score2 Q K b h i c j : EReal)) := by
    unfold vM
    rw [hM_at, mInit_at]
    exact congrArg (max (⊥ : EReal)) (Finset.fold_congr fun j _ => hS_real m Q K hq hk c b h i j)
  refine part_one _ _ c _ _ _ (by norm_num) hm ?_ ?_
  · unfold vL
    rw [hL_at, mInit_at, lInit_at]
    exact congrArg (fun z : EReal => 0 * Ideal.exp2 (⊥ - vM (data m) c b h (ix2 i 0)) + z)
      (Finset.sum_congr rfl fun j _ => congrArg (fun z : EReal => Ideal.exp2 (z - vM (data m) c b h (ix2 i 0))) (hS_real m Q K hq hk c b h i j))
  · unfold vO
    rw [hPV_at]
    refine Finset.sum_congr rfl fun j _ => ?_
    rw [v_at, hS_real m Q K hq hk]; rfl

include hq hk in
theorem part_x (c : Dev nD) (b : Fin 4) (h : Fin 8) (i : Fin 32) (d : Fin 128) :
    Part (score2 Q K b h i) (valOf m b h d) ({c} ∪ {xn c}) (mlB (data m) c (ix5 b 0 h i 0)) (mlB (data m) c (ix5 b 1 h i 0)) (oB (data m) c (ix4 b h i d)) := by
  rw [mlB_m, mlB_l, oB_at]
  exact part_merge _ _ {c} {xn c} (by revert c; decide) _ _ _ _ _ _ (part_own m Q K hq hk c b h i d) (part_own m Q K hq hk (xn c) b h i d)

include hq hk in
/-- An element of the result, on any device. -/
theorem res_mean (c : Dev nD) (b : Fin 4) (i : Fin 32) (h : Fin 8) (d : Fin 128) (N : ℝ) :
    res (data m) c (ix4 b i h d) = ∑ c, ∑ j, ((Real.exp (dotR Q K b h i c j * (11863283 / 134217728) - N)
      / ∑ c, ∑ j, Real.exp (dotR Q K b h i c j * (11863283 / 134217728) - N) : ℝ) : EReal) * valOf m b h d c j := by
  rw [res_at]
  have hu : ({c} ∪ {xn c}) ∪ ({yn c} ∪ {xn (yn c)}) = (Finset.univ : Finset (Fin 4)) := by revert c; decide
  have hp := part_merge _ _ ({c} ∪ {xn c}) ({yn c} ∪ {xn (yn c)}) (by revert c; decide) _ _ _ _ _ _
    (part_x m Q K hq hk c b h i d) (part_x m Q K hq hk (yn c) b h i d)
  rw [hu] at hp
  refine part_div _ _ _ _ _ (by norm_num) hp (fun c j => dotR Q K b h i c j * (11863283 / 134217728)) (fun c j => ?_) N
  have hl : Real.log 2 ≠ 0 := (Real.log_pos one_lt_two).ne'
  show _ = dotR Q K b h i c j * (11863283 / 134217728 * (Real.log 2)⁻¹) * Real.log 2
  field_simp

end Cert.KernelIdeal.Body

end
-- ==== Proof.Reference.lean ====
/- The reference's result, over the extended reals, one element at a time. -/
module

public import proofs.«01_k».proof.Proof.Gen.ReferenceIdeal.Run
public import proofs.«01_k».proof.Proof.Softmax
public import Idealize.ShloMosaic.Lib.Pointwise

@[expose] public section

noncomputable section

namespace Cert.ReferenceIdeal.Mean

open Idealize.ShloMosaic Idealize.ShloMosaic.TcCoe Cert.ReferenceIdeal Cert.ReferenceIdeal.Gen Cert.KernelIdeal.Softmax

variable (q : FVec Ideal S4x32x8x128 .f32) (k v : FVec Ideal S4x8192x8x128 .f32)

/-- The two constants: the scale, and the largest's start. -/
theorem ofBits_scale : Ideal.ofBits .f32 0x3DB504F3#32 = ((11863283 / 134217728 : ℝ) : EReal) := by
  simp [Ideal.ofBits, Ideal.ieee]
  rw [← EReal.coe_mul]
  norm_num
theorem ofBits_ninf : Ideal.ofBits .f32 0xFF800000#32 = ⊥ := by simp [Ideal.ofBits, Ideal.ieee]

/-- The scores, their largest, the weights, the weights' sum, the result. -/
def scores : FVec Ideal S4x8x32x8192 .f32 :=
  mulf (Host.dotGeneral dot_S4x32x8x128_S4x8192x8x128_S4x8x32x8192_3_3_1_1_02_02 none q k) (broadcastInDim S4x8x32x8192 ![] bcast_S_S4x8x32x8192 (constant S_ .f32 0x3DB504F3#32))
def top (s : FVec Ideal S4x8x32x8192 .f32) : FVec Ideal S4x8x32 .f32 :=
  Host.reduce FloatOps.maximumf s (constant S_ .f32 0xFF800000#32) reducesTo_S4x8x32x8192_S4x8x32_d3 h_S_
def weights (s : FVec Ideal S4x8x32x8192 .f32) : FVec Ideal S4x8x32x8192 .f32 :=
  Host.exp (subf s (broadcastInDim S4x8x32x8192 ![0, 1, 2, 3] bcast_S4x8x32x1_S4x8x32x8192_0_1_2_3 (broadcastInDim S4x8x32x1 ![0, 1, 2] bcast_S4x8x32_S4x8x32x1_0_1_2 (top s))))
def total (w : FVec Ideal S4x8x32x8192 .f32) : FVec Ideal S4x8x32 .f32 :=
  Host.reduceAdd w (constant S_ .f32 0x00000000#32) reducesTo_S4x8x32x8192_S4x8x32_d3 h_S_
def mean (w : FVec Ideal S4x8x32x8192 .f32) : FVec Ideal S4x32x8x128 .f32 :=
  transpose S4x32x8x128 [0, 3, 1, 2] (Host.dotGeneral dot_S4x8192x8x128_S4x8x32x8192_S4x8x128x32_1_3_3_2_02_01 none v
    (Host.divf w (broadcastInDim S4x8x32x8192 ![0, 1, 2, 3] bcast_S4x8x32x1_S4x8x32x8192_0_1_2_3 (broadcastInDim S4x8x32x1 ![0, 1, 2] bcast_S4x8x32_S4x8x32x1_0_1_2 (total w)))))
    transposes_S4x8x128x32_S4x32x8x128_0_3_1_2

theorem scores_at (b : Fin 4) (h : Fin 8) (i : Fin 32) (j : Fin 8192) :
    scores q k (ix4 b h i j) = (∑ d : Fin 128, (q (ix4 b i h d) : EReal) * k (ix4 b j h d)) * ((11863283 / 134217728 : ℝ) : EReal) := by
  rw [← ofBits_scale]
  unfold scores
  pointwise
theorem top_at (s : FVec Ideal S4x8x32x8192 .f32) (b : Fin 4) (h : Fin 8) (i : Fin 32) :
    top s (ix3 b h i) = Finset.univ.fold max (⊥ : EReal) fun j : Fin 8192 => s (ix4 b h i j) := by
  rw [← ofBits_ninf]
  unfold top
  pointwise
theorem weights_at (s : FVec Ideal S4x8x32x8192 .f32) (b : Fin 4) (h : Fin 8) (i : Fin 32) (j : Fin 8192) :
    weights s (ix4 b h i j) = Ideal.exp (s (ix4 b h i j) - top s (ix3 b h i)) := by
  unfold weights
  pointwise
theorem total_at (w : FVec Ideal S4x8x32x8192 .f32) (b : Fin 4) (h : Fin 8) (i : Fin 32) :
    total w (ix3 b h i) = ∑ j : Fin 8192, w (ix4 b h i j) := by
  unfold total
  pointwise
theorem mean_at (w : FVec Ideal S4x8x32x8192 .f32) (b : Fin 4) (i : Fin 32) (h : Fin 8) (d : Fin 128) :
    mean v w (ix4 b i h d) = ∑ j : Fin 8192, (v (ix4 b j h d) : EReal) * Ideal.div (w (ix4 b h i j)) (total w (ix3 b h i)) := by
  unfold mean
  pointwise

/-- Where the queries and keys are real, each result is the mean of the values by the softmax of the scores `x`. -/
theorem mean_real (Q : S4x32x8x128.Idx → ℝ) (K : S4x8192x8x128.Idx → ℝ) (hq : ∀ x, q x = (Q x : EReal)) (hk : ∀ x, k x = (K x : EReal))
    (b : Fin 4) (i : Fin 32) (h : Fin 8) (d : Fin 128) (x : Fin 8192 → ℝ)
    (hx : ∀ j, x j = (∑ d : Fin 128, Q (ix4 b i h d) * K (ix4 b j h d)) * (11863283 / 134217728)) :
    ∃ N : ℝ, mean v (weights (scores q k)) (ix4 b i h d)
      = ∑ j : Fin 8192, ((Real.exp (x j - N) / ∑ j : Fin 8192, Real.exp (x j - N) : ℝ) : EReal) * v (ix4 b j h d) := by
  have hs : ∀ j, scores q k (ix4 b h i j) = (x j : EReal) := fun j => by
    rw [scores_at, hx]
    refine Eq.trans ?_ (EReal.coe_mul _ _).symm
    rw [coe_sum]
    refine congrArg (fun z : EReal => z * _) (Finset.sum_congr rfl fun d _ => ?_)
    rw [hq, hk, EReal.coe_mul]
  obtain ⟨N, hN⟩ : ∃ N : ℝ, top (scores q k) (ix3 b h i) = (N : EReal) := by
    obtain ⟨M, hM⟩ := fold_max_real (S := Finset.univ) x Finset.univ_nonempty
    exact ⟨M, (top_at _ b h i).trans ((Finset.fold_congr fun j _ => hs j).trans hM)⟩
  refine ⟨N, ?_⟩
  have hw : ∀ j, weights (scores q k) (ix4 b h i j) = ((Real.exp (x j - N) : ℝ) : EReal) := fun j => by
    rw [weights_at, hN, hs, exp_sub]
  have ht : total (weights (scores q k)) (ix3 b h i) = ((∑ j : Fin 8192, Real.exp (x j - N) : ℝ) : EReal) := by
    rw [total_at, coe_sum]
    exact Finset.sum_congr rfl fun j _ => hw j
  have hpos : 0 < ∑ j : Fin 8192, Real.exp (x j - N) := Finset.sum_pos (fun j _ => Real.exp_pos _) Finset.univ_nonempty
  rw [mean_at]
  refine Finset.sum_congr rfl fun j _ => ?_
  rw [ht, hw, Cert.KernelIdeal.Softmax.div_pos _ _ hpos, ← EReal.coe_mul, mul_comm, mul_comm (_⁻¹), ← div_eq_mul_inv]

end Cert.ReferenceIdeal.Mean

end
-- ==== Proof.Algebraic.lean ====
/- Every device's result is the reference's: the devices' halves of the keys are together all of the keys. -/
module

public import proofs.«01_k».proof.Proof.Answer
public import proofs.«01_k».proof.Proof.Reference
public import proofs.«01_k».proof.Proof.Frames
public import proofs.«01_k».proof.Proof.Gen.Pre_finite_qk_KernelIdeal
public import Idealize.ShloMosaic.Lib.ReduceAll
public import Idealize.ShloMosaic.Lib.Layout
public import Idealize.ShloMosaic.Lib.Pointwise.Select

@[expose] public section

noncomputable section

namespace Cert.KernelIdeal.Body

open Idealize.ShloMosaic Idealize.ShloMosaic.TcCoe Idealize.SL.Sem Cert.KernelIdeal.Gen Cert.KernelIdeal.Softmax

/-! ## The keys, device by device -/

/-- Where row `r` of device `c`'s block of the keys is in the whole array. -/
def wholeIx (c : Fin 4) (r : Fin 4096) : Fin 8192 := ⟨c.val % 2 * 4096 + r.val, by omega⟩
theorem wholeIx_val (c : Fin 4) (r : Fin 4096) : (wholeIx c r).val = c.val % 2 * 4096 + r.val := rfl

theorem rowIx_val (c : Dev nD) (j : Fin 2048) : (rowIx c j).val = c.val / 2 * 2048 + j.val := by
  have h : row (tw c) = c.val / 2 * 2048 := by revert c; decide
  show row (tw c) + j.val = _
  rw [h]

/-- Where the `j`-th row that device `c` reads is in the whole array: each row of the whole is one of them, once. -/
def keyIx (p : Fin 4 × Fin 2048) : Fin 8192 := wholeIx p.1 (rowIx p.1 p.2)

theorem keyIx_injective : Function.Injective keyIx := by
  rintro ⟨c, j⟩ ⟨c', j'⟩ e
  have h : (wholeIx c (rowIx c j)).val = (wholeIx c' (rowIx c' j')).val := congrArg Fin.val e
  rw [wholeIx_val, wholeIx_val, rowIx_val, rowIx_val] at h
  have hc := c.isLt; have hc' := c'.isLt; have hj := j.isLt; have hj' := j'.isLt
  refine Prod.ext (Fin.ext ?_) (Fin.ext ?_) <;> simp only <;> omega

theorem keyIx_bijective : Function.Bijective keyIx := by
  have h : Fintype.card (Fin 4 × Fin 2048) = Fintype.card (Fin 8192) := by simp only [Fintype.card_prod, Fintype.card_fin]
  exact (Fintype.bijective_iff_injective_and_card keyIx).mpr (And.intro keyIx_injective h)

theorem sum_keys {M : Type} [AddCommMonoid M] (g : Fin 8192 → M) : ∑ k, g k = ∑ c : Fin 4, ∑ j : Fin 2048, g (keyIx (c, j)) := by
  rw [← Fintype.sum_prod_type (fun p => g (keyIx p))]
  exact (keyIx_bijective.sum_comp g).symm

theorem block_at (X : (⟨4, ![4, 8192, 8, 128]⟩ : Shape).Idx → EReal) (c : Dev nD) (b : Fin 4) (r : Fin 4096) (h : Fin 8) (d : Fin 128) :
    (Layout.blockN ⟨4, ![4, 4096, 8, 128]⟩ ⟨4, ![4, 8192, 8, 128]⟩ (Layout.meshBlock [2, 2] ![[], [1], [], []] c) X) (ix4 b r h d)
      = X (ix4 b (wholeIx c r) h d) := by
  refine congrArg X (funext fun a => Fin.ext ?_)
  have hc : Layout.meshLin [2, 2] c.val [1] = c.val % 2 := by revert c; decide
  fin_cases a
  · exact Nat.zero_add _
  · exact congrArg (fun z => z * 4096 + r.val) hc
  · exact Nat.zero_add _
  · exact Nat.zero_add _

/-! ## What the precondition says -/

theorem finite_of_lt (x : EReal) (h : max x (-x) < ⊤) : x = ((x.toReal : ℝ) : EReal) := by
  refine (EReal.coe_toReal (fun e => ?_) (fun e => ?_)).symm <;> rw [e] at h <;> simp at h

theorem ofBits_inf : Ideal.ofBits .f32 0x7F800000#32 = ⊤ := by simp [Ideal.ofBits, Ideal.ieee]

instance : Subsingleton Cert.Pre_finite_qk_KernelIdeal.S_.Idx := ⟨fun a b => funext fun k => k.elim0⟩

theorem finite_of_pre (q : FVec Ideal S4x32x8x128 .f32) (k v : FVec Ideal S4x4096x8x128 .f32)
    (h : Cert.Pre_finite_qk_KernelIdeal.fn (F := Ideal) q k v = fun _ => 1#1) :
    (∀ x, q x = (((q x : EReal).toReal : ℝ) : EReal)) ∧ ∀ x, k x = (((k x : EReal).toReal : ℝ) : EReal) := by
  have h0 := IntOp.andi_eq_one.mp (congrFun h fun i => i.elim0)
  refine ⟨fun x => finite_of_lt _ ?_, fun x => finite_of_lt _ ?_⟩
  · rw [← ofBits_inf]
    exact (Ideal.cmp_olt_eq_one _ _).mp (Host.reduce_andi_all _ _ _ _ _ h0.1 x)
  · rw [← ofBits_inf]
    exact (Ideal.cmp_olt_eq_one _ _).mp (Host.reduce_andi_all _ _ _ _ _ h0.2 x)

/-! ## The claim -/

open Cert.ReferenceIdeal.Mean in
theorem res_eq (m : (ℓ : Loc nD τ sig) → Buf (Elt Ideal) ℓ) (q : FVec Ideal S4x32x8x128 .f32)
    (k v : FVec Ideal Cert.ReferenceIdeal.S4x8192x8x128 .f32)
    (hp : ∀ c : Dev nD, Cert.Pre_finite_qk_KernelIdeal.fn (F := Ideal) (qm m c) (km m c) (vm m c) = fun _ => 1#1)
    (hq : ∀ c, qm m c = q)
    (hk : ∀ c b r h d, km m c (ix4 b r h d) = k (ix4 b (wholeIx c r) h d))
    (hv : ∀ c b r h d, vm m c (ix4 b r h d) = v (ix4 b (wholeIx c r) h d)) (c : Dev nD) :
    res (data m) c = mean v (weights (scores q k)) := by
  have hqr : ∀ x, q x = (((q x : EReal).toReal : ℝ) : EReal) := by
    have := (finite_of_pre _ _ _ (hp 0)).1
    rwa [hq 0] at this
  have hkr : ∀ x, k x = (((k x : EReal).toReal : ℝ) : EReal) := fun x => by
    idx_vars x
    obtain ⟨⟨c, j⟩, e⟩ := keyIx_bijective.2 x1
    have h1 := (finite_of_pre _ _ _ (hp c)).2 (ix4 x0 (rowIx c j) x2 x3)
    rw [hk] at h1
    rw [← e]; exact h1
  funext x
  idx_vars x
  obtain ⟨N, hN⟩ := mean_real q k v _ _ hqr hkr x0 x1 x2 x3 _ fun _ => rfl
  have hr := res_mean m (fun _ x => (q x : EReal).toReal) (fun c x => (km m c x : EReal).toReal) (fun c x => by rw [hq c]; exact hqr x)
    (fun c => (finite_of_pre _ _ _ (hp c)).2) c x0 x1 x2 x3 N
  have hd : ∀ c j, dotR (fun _ x => (q x : EReal).toReal) (fun c x => (km m c x : EReal).toReal) x0 x2 x1 c j
      = ∑ d : Fin 128, (q (ix4 x0 x1 x2 d) : EReal).toReal * (k (ix4 x0 (keyIx (c, j)) x2 d) : EReal).toReal := fun c j =>
    Finset.sum_congr rfl fun d _ => congrArg (fun z : EReal => _ * z.toReal) (hk c x0 (rowIx c j) x2 d)
  rw [hN]
  refine hr.trans ?_
  rw [sum_keys, sum_keys]
  simp only [hd]
  refine Finset.sum_congr rfl fun c _ => Finset.sum_congr rfl fun j _ => congrArg (fun z : EReal => _ * z) ?_
  exact hv c x0 (rowIx c j) x2 x3

theorem algebraic : Cert.algebraic_KernelIdeal_ReferenceIdeal_pre_finite_qk_KernelIdeal := fun m ρ m' ρ' hp ha =>
  ⟨_, (θ_run defs _ _).mono (fun r h c => ⟨(h.1 c).2.trans (res_eq m _ _ _ hp (fun c => (ha c).1)
        (fun c b r h d => (congrFun (ha c).2.1 _).trans (block_at _ c b r h d))
        (fun c b r h d => (congrFun (ha c).2.2 _).trans (block_at _ c b r h d)) c), (h.1 c).1⟩)
      (run_main (F := Ideal) m ρ),
    Cert.ReferenceIdeal.Value.run (F := Ideal) m' ρ' |> (θ_run Cert.ReferenceIdeal.defs _ _).mono fun r h => h 0⟩

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_finite_qk_KernelIdeal
public import proofs.«01_k».proof.Proof.Gen.Pre_finite_qk_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_qk_KernelIdeal.Gen.facts,
    Cert.Pre_finite_qk_ReferenceIdeal.Gen.facts, Cert.KernelIdeal.Body.frame_kernel, Cert.KernelIdeal.Body.frame_ideal,
    Cert.KernelIdeal.Body.frame_ideal_pre, Cert.KernelIdeal.Body.frame_ref, Cert.KernelIdeal.Body.frame_ref_pre,
    Cert.KernelIdeal.Body.preserves, Cert.KernelIdeal.Body.algebraic⟩

end Cert.Proof

end
